-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)) (v5 : (c : Dev Cert.Kernel4Ideal.nD) → Buf (Elt Ideal) ((c.tc : Thread Cert.Kernel4Ideal.nD Cert.Kernel4Ideal.τ).loc Cert.Kernel4Ideal.main_v46_5)) (v6 : (c : Dev Cert.Kernel4Ideal.nD) → Buf (Elt Ideal) ((c.tc : Thread Cert.Kernel4Ideal.nD Cert.Kernel4Ideal.τ).loc Cert.Kernel4Ideal.main_v46_6)) (v7 : (c : Dev Cert.Kernel4Ideal.nD) → Buf (Elt Ideal) ((c.tc : Thread Cert.Kernel4Ideal.nD Cert.Kernel4Ideal.τ).loc Cert.Kernel4Ideal.main_v46_7)) (v8 : (c : Dev Cert.Kernel4Ideal.nD) → Buf (Elt Ideal) ((c.tc : Thread Cert.Kernel4Ideal.nD Cert.Kernel4Ideal.τ).loc Cert.Kernel4Ideal.main_v46_8)) (v9 : (c : Dev Cert.Kernel4Ideal.nD) → Buf (Elt Ideal) ((c.tc : Thread Cert.Kernel4Ideal.nD Cert.Kernel4Ideal.τ).loc Cert.Kernel4Ideal.main_v46_9)) (v10 : (c : Dev Cert.Kernel4Ideal.nD) → Buf (Elt Ideal) ((c.tc : Thread Cert.Kernel4Ideal.nD Cert.Kernel4Ideal.τ).loc Cert.Kernel4Ideal.main_v46_10)) (v11 : (c : Dev Cert.Kernel4Ideal.nD) → Buf (Elt Ideal) ((c.tc : Thread Cert.Kernel4Ideal.nD Cert.Kernel4Ideal.τ).loc Cert.Kernel4Ideal.main_v46_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_v46_5) = v5 c
          ∧ r.2.mem ((c.tc : Thread Cert.Kernel4Ideal.nD Cert.Kernel4Ideal.τ).loc Cert.Kernel4Ideal.main_v46_6) = v6 c
          ∧ r.2.mem ((c.tc : Thread Cert.Kernel4Ideal.nD Cert.Kernel4Ideal.τ).loc Cert.Kernel4Ideal.main_v46_7) = v7 c
          ∧ r.2.mem ((c.tc : Thread Cert.Kernel4Ideal.nD Cert.Kernel4Ideal.τ).loc Cert.Kernel4Ideal.main_v46_8) = v8 c
          ∧ r.2.mem ((c.tc : Thread Cert.Kernel4Ideal.nD Cert.Kernel4Ideal.τ).loc Cert.Kernel4Ideal.main_v46_9) = v9 c
          ∧ r.2.mem ((c.tc : Thread Cert.Kernel4Ideal.nD Cert.Kernel4Ideal.τ).loc Cert.Kernel4Ideal.main_v46_10) = v10 c
          ∧ r.2.mem ((c.tc : Thread Cert.Kernel4Ideal.nD Cert.Kernel4Ideal.τ).loc Cert.Kernel4Ideal.main_v46_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v137) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v131) = v2 c
          ∧ r.2.mem ((c.tc : Thread Cert.Reference4Ideal.nD Cert.Reference4Ideal.τ).loc Cert.Reference4Ideal.main_v82) = v3 c
          ∧ r.2.mem ((c.tc : Thread Cert.Reference4Ideal.nD Cert.Reference4Ideal.τ).loc Cert.Reference4Ideal.main_v88) = v4 c
          ∧ r.2.mem ((c.tc : Thread Cert.Reference4Ideal.nD Cert.Reference4Ideal.τ).loc Cert.Reference4Ideal.main_v128) = v5 c
          ∧ r.2.mem ((c.tc : Thread Cert.Reference4Ideal.nD Cert.Reference4Ideal.τ).loc Cert.Reference4Ideal.main_v134) = v6 c
          ∧ r.2.mem ((c.tc : Thread Cert.Reference4Ideal.nD Cert.Reference4Ideal.τ).loc Cert.Reference4Ideal.main_v139) = v7 c
          ∧ r.2.mem ((c.tc : Thread Cert.Reference4Ideal.nD Cert.Reference4Ideal.τ).loc Cert.Reference4Ideal.main_v142) = v8 c
          ∧ r.2.mem ((c.tc : Thread Cert.Reference4Ideal.nD Cert.Reference4Ideal.τ).loc Cert.Reference4Ideal.main_v160) = v9 c
          ∧ r.2.mem ((c.tc : Thread Cert.Reference4Ideal.nD Cert.Reference4Ideal.τ).loc Cert.Reference4Ideal.main_v178) = v10 c
          ∧ r.2.mem ((c.tc : Thread Cert.Reference4Ideal.nD Cert.Reference4Ideal.τ).loc Cert.Reference4Ideal.main_v180) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S32768x512 : Shape := ⟨2, ![32768, 512]⟩
abbrev S4x8x15x31 : Shape := ⟨4, ![4, 8, 15, 31]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x8x15x31 : S_.BroadcastsInDim S4x8x15x31 (![] : Fin 0 → Fin S4x8x15x31.rank)
  reducesTo_S4x8x15x31_S_d0_1_2_3 : S4x8x15x31.ReducesTo [0, 1, 2, 3] S_

variable [Facts]

def fn {F : FTy → Type} [FloatOps F] (main_arg0 : FVec F S32768x512 .bf16) (main_arg1 : FVec F S32768x512 .bf16) (main_arg2 : FVec F S32768x512 .bf16) (main_arg3 : FVec F S4x8x15x31 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S4x8x15x31 .f32 := Host.absf main_arg3
  let main_cst_2 : FVec F S_ .f32 := constant S_ .f32 0x7F800000#32
  let main_v12 : FVec F S4x8x15x31 .f32 := broadcastInDim S4x8x15x31 ![] bcast_S_S4x8x15x31 main_cst_2
  let main_v13 : IVec S4x8x15x31 1 := cmpf .olt main_v11 main_v12
  let main_c_3 : IVec S_ 1 := constantI S_ 1 1#1
  let main_v14 : IVec S_ 1 := (fun x v => Host.reduce IntOp.andi x v reducesTo_S4x8x15x31_S_d0_1_2_3 h_S_) main_v13 main_c_3
  let main_v15 : IVec S_ 1 := andi main_v10 main_v14
  main_v15
-- ==== Kernel.lean ====
abbrev S32768x512 : Shape := ⟨2, ![32768, 512]⟩
abbrev S4x8x15x31 : Shape := ⟨4, ![4, 8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S4x8x15x64x64 : Shape := ⟨5, ![4, 8, 15, 64, 64]⟩
abbrev S4x8x8x64x64 : Shape := ⟨5, ![4, 8, 8, 64, 64]⟩
abbrev S4x8x1x8x64x64 : Shape := ⟨6, ![4, 8, 1, 8, 64, 64]⟩
abbrev S4x8x8x8x64x64 : Shape := ⟨6, ![4, 8, 8, 8, 64, 64]⟩
abbrev S4x8x8x64x8x64 : Shape := ⟨6, ![4, 8, 8, 64, 8, 64]⟩
abbrev S4x4x2x8x64x512 : Shape := ⟨6, ![4, 4, 2, 8, 64, 512]⟩
abbrev S4x4x8x2x64x512 : Shape := ⟨6, ![4, 4, 8, 2, 64, 512]⟩
abbrev S4x4x8x128x512 : Shape := ⟨5, ![4, 4, 8, 128, 512]⟩
abbrev S2048x128 : Shape := ⟨2, ![2048, 128]⟩
abbrev S1x1x8x128x512 : Shape := ⟨5, ![1, 1, 8, 128, 512]⟩
abbrev S8x128x512 : Shape := ⟨3, ![8, 128, 512]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x1x128x512 : Shape := ⟨5, ![1, 1, 1, 128, 512]⟩
abbrev S1x128x512 : Shape := ⟨3, ![1, 128, 512]⟩
abbrev S128 : Shape := ⟨1, ![128]⟩
abbrev S128x1 : Shape := ⟨2, ![128, 1]⟩

abbrev nBuf : Space → Nat
  | .hbm => 84
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S4x8x15x31, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S64x64x1, .i32⟩
  | .hbm, ⟨50, _⟩ => ⟨S31, .i32⟩
  | .hbm, ⟨51, _⟩ => ⟨S1x1x31, .i32⟩
  | .hbm, ⟨52, _⟩ => ⟨S64x64x31, .i32⟩
  | .hbm, ⟨53, _⟩ => ⟨S64x64x31, .i32⟩
  | .hbm, ⟨54, _⟩ => ⟨S64x64x31, .i1⟩
  | .hbm, ⟨55, _⟩ => ⟨S64x64x31, .f32⟩
  | .hbm, ⟨56, _⟩ => ⟨S4x8x15x64x64, .f32⟩
  | .hbm, ⟨57, _⟩ => ⟨S_, .f32⟩
  | .hbm, ⟨58, _⟩ => ⟨S_, .f32⟩
  | .hbm, ⟨59, _⟩ => ⟨S4x8x15x64x64, .i1⟩
  | .hbm, ⟨60, _⟩ => ⟨S4x8x15x64x64, .f32⟩
  | .hbm, ⟨61, _⟩ => ⟨S4x8x15x64x64, .f32⟩
  | .hbm, ⟨62, _⟩ => ⟨S4x8x8x64x64, .f32⟩
  | .hbm, ⟨63, _⟩ => ⟨S4x8x8x64x64, .f32⟩
  | .hbm, ⟨64, _⟩ => ⟨S4x8x8x64x64, .f32⟩
  | .hbm, ⟨65, _⟩ => ⟨S4x8x8x64x64, .f32⟩
  | .hbm, ⟨66, _⟩ => ⟨S4x8x8x64x64, .f32⟩
  | .hbm, ⟨67, _⟩ => ⟨S4x8x8x64x64, .f32⟩
  | .hbm, ⟨68, _⟩ => ⟨S4x8x8x64x64, .f32⟩
  | .hbm, ⟨69, _⟩ => ⟨S4x8x8x64x64, .f32⟩
  | .hbm, ⟨70, _⟩ => ⟨S4x8x1x8x64x64, .f32⟩
  | .hbm, ⟨71, _⟩ => ⟨S4x8x1x8x64x64, .f32⟩
  | .hbm, ⟨72, _⟩ => ⟨S4x8x1x8x64x64, .f32⟩
  | .hbm, ⟨73, _⟩ => ⟨S4x8x1x8x64x64, .f32⟩
  | .hbm, ⟨74, _⟩ => ⟨S4x8x1x8x64x64, .f32⟩
  | .hbm, ⟨75, _⟩ => ⟨S4x8x1x8x64x64, .f32⟩
  | .hbm, ⟨76, _⟩ => ⟨S4x8x1x8x64x64, .f32⟩
  | .hbm, ⟨77, _⟩ => ⟨S4x8x1x8x64x64, .f32⟩
  | .hbm, ⟨78, _⟩ => ⟨S4x8x8x8x64x64, .f32⟩
  | .hbm, ⟨79, _⟩ => ⟨S4x8x8x64x8x64, .f32⟩
  | .hbm, ⟨80, _⟩ => ⟨S4x4x2x8x64x512, .f32⟩
  | .hbm, ⟨81, _⟩ => ⟨S4x4x8x2x64x512, .f32⟩
  | .hbm, ⟨82, _⟩ => ⟨S4x4x8x128x512, .f32⟩
  | .hbm, ⟨83, _⟩ => ⟨S32768x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x8x128x512, .f32⟩
  | .local _ .vmem, ⟨7, _⟩ => ⟨S1x1x8x128x512, .f32⟩
  | .local _ .vmem, ⟨8, _⟩ => ⟨S2048x128, .bf16⟩
  | .local _ .vmem, ⟨9, _⟩ => ⟨S2048x128, .bf16⟩
  | .local _ .vmem, ⟨10, _⟩ => ⟨S8x128x512, .f32⟩
  | .local _ .vmem, ⟨11, _⟩ => ⟨S8x128x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
def k0_mult2 : BitVec 32 :=
  let c64_i32_0 : BitVec 32 := 64#32
  c64_i32_0
def k0_mult3 : BitVec 32 :=
  let c128_i32 : BitVec 32 := 128#32
  c128_i32
def k0_mult4 : BitVec 32 :=
  let c192_i32 : BitVec 32 := 192#32
  c192_i32
def k0_mult5 : BitVec 32 :=
  let c256_i32 : BitVec 32 := 256#32
  c256_i32
def k0_mult6 : BitVec 32 :=
  let c320_i32 : BitVec 32 := 320#32
  c320_i32
def k0_mult7 : BitVec 32 :=
  let c384_i32 : BitVec 32 := 384#32
  c384_i32
def k0_mult8 : BitVec 32 :=
  let c448_i32 : BitVec 32 := 448#32
  c448_i32
def k0_mult9 : BitVec 32 :=
  let c0_i32_1 : BitVec 32 := 0#32
  c0_i32_1
def k0_mult10 : BitVec 32 :=
  let c0_i32_2 : BitVec 32 := 0#32
  c0_i32_2
def k0_mult11 : BitVec 32 :=
  let c0_i32_3 : BitVec 32 := 0#32
  c0_i32_3
def k0_mult12 : BitVec 32 :=
  let c0_i32_4 : BitVec 32 := 0#32
  c0_i32_4
def k0_mult13 : BitVec 32 :=
  let c0_i32_5 : BitVec 32 := 0#32
  c0_i32_5
def k0_mult14 : BitVec 32 :=
  let c64_i32_6 : BitVec 32 := 64#32
  c64_i32_6
def k0_mult15 : BitVec 32 :=
  let c128_i32_7 : BitVec 32 := 128#32
  c128_i32_7
def k0_mult16 : BitVec 32 :=
  let c192_i32_8 : BitVec 32 := 192#32
  c192_i32_8
def k0_mult17 : BitVec 32 :=
  let c512_i32 : BitVec 32 := 512#32
  c512_i32
def k0_mult18 : BitVec 32 :=
  let c576_i32 : BitVec 32 := 576#32
  c576_i32
def k0_mult19 : BitVec 32 :=
  let c640_i32 : BitVec 32 := 640#32
  c640_i32
def k0_mult20 : BitVec 32 :=
  let c704_i32 : BitVec 32 := 704#32
  c704_i32
def k0_mult21 : BitVec 32 :=
  let c768_i32 : BitVec 32 := 768#32
  c768_i32
def k0_mult22 : BitVec 32 :=
  let c832_i32 : BitVec 32 := 832#32
  c832_i32
def k0_mult23 : BitVec 32 :=
  let c896_i32 : BitVec 32 := 896#32
  c896_i32
def k0_mult24 : BitVec 32 :=
  let c960_i32 : BitVec 32 := 960#32
  c960_i32
def k0_mult25 : BitVec 32 :=
  let c256_i32_112 : BitVec 32 := 256#32
  c256_i32_112
def k0_mult26 : BitVec 32 :=
  let c320_i32_113 : BitVec 32 := 320#32
  c320_i32_113
def k0_mult27 : BitVec 32 :=
  let c384_i32_114 : BitVec 32 := 384#32
  c384_i32_114
def k0_mult28 : BitVec 32 :=
  let c448_i32_115 : BitVec 32 := 448#32
  c448_i32_115
def k0_mult29 : BitVec 32 :=
  let c512_i32_116 : BitVec 32 := 512#32
  c512_i32_116
def k0_mult30 : BitVec 32 :=
  let c576_i32_117 : BitVec 32 := 576#32
  c576_i32_117
def k0_mult31 : BitVec 32 :=
  let c640_i32_118 : BitVec 32 := 640#32
  c640_i32_118
def k0_mult32 : BitVec 32 :=
  let c704_i32_119 : BitVec 32 := 704#32
  c704_i32_119
def k0_mult33 : BitVec 32 :=
  let c0_i32_232 : BitVec 32 := 0#32
  c0_i32_232
def k0_mult34 : BitVec 32 :=
  let c64_i32_233 : BitVec 32 := 64#32
  c64_i32_233
def k0_mult35 : BitVec 32 :=
  let c128_i32_234 : BitVec 32 := 128#32
  c128_i32_234
def k0_mult36 : BitVec 32 :=
  let c192_i32_235 : BitVec 32 := 192#32
  c192_i32_235
def k0_mult37 : BitVec 32 :=
  let c256_i32_236 : BitVec 32 := 256#32
  c256_i32_236
def k0_mult38 : BitVec 32 :=
  let c320_i32_237 : BitVec 32 := 320#32
  c320_i32_237
def k0_mult39 : BitVec 32 :=
  let c384_i32_238 : BitVec 32 := 384#32
  c384_i32_238
def k0_mult40 : BitVec 32 :=
  let c448_i32_239 : BitVec 32 := 448#32
  c448_i32_239
def k0_mult41 : BitVec 32 :=
  let c0_i32_240 : BitVec 32 := 0#32
  c0_i32_240
def k0_mult42 : BitVec 32 :=
  let c0_i32_241 : BitVec 32 := 0#32
  c0_i32_241
def k0_mult43 : BitVec 32 :=
  let c0_i32_242 : BitVec 32 := 0#32
  c0_i32_242
def k0_mult44 : BitVec 32 :=
  let c0_i32_243 : BitVec 32 := 0#32
  c0_i32_243
def k0_mult45 : BitVec 32 :=
  let c0_i32_244 : BitVec 32 := 0#32
  c0_i32_244
def k0_mult46 : BitVec 32 :=
  let c64_i32_245 : BitVec 32 := 64#32
  c64_i32_245
def k0_mult47 : BitVec 32 :=
  let c128_i32_246 : BitVec 32 := 128#32
  c128_i32_246
def k0_mult48 : BitVec 32 :=
  let c192_i32_247 : BitVec 32 := 192#32
  c192_i32_247
def k0_mult49 : BitVec 32 :=
  let c1024_i32 : BitVec 32 := 1024#32
  c1024_i32
def k0_mult50 : BitVec 32 :=
  let c1088_i32 : BitVec 32 := 1088#32
  c1088_i32
def k0_mult51 : BitVec 32 :=
  let c1152_i32 : BitVec 32 := 1152#32
  c1152_i32
def k0_mult52 : BitVec 32 :=
  let c1216_i32 : BitVec 32 := 1216#32
  c1216_i32
def k0_mult53 : BitVec 32 :=
  let c1280_i32 : BitVec 32 := 1280#32
  c1280_i32
def k0_mult54 : BitVec 32 :=
  let c1344_i32 : BitVec 32 := 1344#32
  c1344_i32
def k0_mult55 : BitVec 32 :=
  let c1408_i32 : BitVec 32 := 1408#32
  c1408_i32
def k0_mult56 : BitVec 32 :=
  let c1472_i32 : BitVec 32 := 1472#32
  c1472_i32
def k0_mult57 : BitVec 32 :=
  let c768_i32_320 : BitVec 32 := 768#32
  c768_i32_320
def k0_mult58 : BitVec 32 :=
  let c832_i32_321 : BitVec 32 := 832#32
  c832_i32_321
def k0_mult59 : BitVec 32 :=
  let c896_i32_322 : BitVec 32 := 896#32
  c896_i32_322
def k0_mult60 : BitVec 32 :=
  let c960_i32_323 : BitVec 32 := 960#32
  c960_i32_323
def k0_mult61 : BitVec 32 :=
  let c1024_i32_324 : BitVec 32 := 1024#32
  c1024_i32_324
def k0_mult62 : BitVec 32 :=
  let c1088_i32_325 : BitVec 32 := 1088#32
  c1088_i32_325
def k0_mult63 : BitVec 32 :=
  let c1152_i32_326 : BitVec 32 := 1152#32
  c1152_i32_326
def k0_mult64 : BitVec 32 :=
  let c1216_i32_327 : BitVec 32 := 1216#32
  c1216_i32_327
def k0_mult65 : BitVec 32 :=
  let c512_i32_440 : BitVec 32 := 512#32
  c512_i32_440
def k0_mult66 : BitVec 32 :=
  let c576_i32_441 : BitVec 32 := 576#32
  c576_i32_441
def k0_mult67 : BitVec 32 :=
  let c640_i32_442 : BitVec 32 := 640#32
  c640_i32_442
def k0_mult68 : BitVec 32 :=
  let c704_i32_443 : BitVec 32 := 704#32
  c704_i32_443
def k0_mult69 : BitVec 32 :=
  let c768_i32_444 : BitVec 32 := 768#32
  c768_i32_444
def k0_mult70 : BitVec 32 :=
  let c832_i32_445 : BitVec 32 := 832#32
  c832_i32_445
def k0_mult71 : BitVec 32 :=
  let c896_i32_446 : BitVec 32 := 896#32
  c896_i32_446
def k0_mult72 : BitVec 32 :=
  let c960_i32_447 : BitVec 32 := 960#32
  c960_i32_447
def k0_mult73 : BitVec 32 :=
  let c256_i32_448 : BitVec 32 := 256#32
  c256_i32_448
def k0_mult74 : BitVec 32 :=
  let c320_i32_449 : BitVec 32 := 320#32
  c320_i32_449
def k0_mult75 : BitVec 32 :=
  let c384_i32_450 : BitVec 32 := 384#32
  c384_i32_450
def k0_mult76 : BitVec 32 :=
  let c448_i32_451 : BitVec 32 := 448#32
  c448_i32_451
def k0_mult77 : BitVec 32 :=
  let c512_i32_452 : BitVec 32 := 512#32
  c512_i32_452
def k0_mult78 : BitVec 32 :=
  let c576_i32_453 : BitVec 32 := 576#32
  c576_i32_453
def k0_mult79 : BitVec 32 :=
  let c640_i32_454 : BitVec 32 := 640#32
  c640_i32_454
def k0_mult80 : BitVec 32 :=
  let c704_i32_455 : BitVec 32 := 704#32
  c704_i32_455
def k0_mult81 : BitVec 32 :=
  let c1536_i32 : BitVec 32 := 1536#32
  c1536_i32
def k0_mult82 : BitVec 32 :=
  let c1600_i32 : BitVec 32 := 1600#32
  c1600_i32
def k0_mult83 : BitVec 32 :=
  let c1664_i32 : BitVec 32 := 1664#32
  c1664_i32
def k0_mult84 : BitVec 32 :=
  let c1728_i32 : BitVec 32 := 1728#32
  c1728_i32
def k0_mult85 : BitVec 32 :=
  let c1792_i32 : BitVec 32 := 1792#32
  c1792_i32
def k0_mult86 : BitVec 32 :=
  let c1856_i32 : BitVec 32 := 1856#32
  c1856_i32
def k0_mult87 : BitVec 32 :=
  let c1920_i32 : BitVec 32 := 1920#32
  c1920_i32
def k0_mult88 : BitVec 32 :=
  let c1984_i32 : BitVec 32 := 1984#32
  c1984_i32
def k0_mult89 : BitVec 32 :=
  let c1280_i32_528 : BitVec 32 := 1280#32
  c1280_i32_528
def k0_mult90 : BitVec 32 :=
  let c1344_i32_529 : BitVec 32 := 1344#32
  c1344_i32_529
def k0_mult91 : BitVec 32 :=
  let c1408_i32_530 : BitVec 32 := 1408#32
  c1408_i32_530
def k0_mult92 : BitVec 32 :=
  let c1472_i32_531 : BitVec 32 := 1472#32
  c1472_i32_531
def k0_mult93 : BitVec 32 :=
  let c1536_i32_532 : BitVec 32 := 1536#32
  c1536_i32_532
def k0_mult94 : BitVec 32 :=
  let c1536_i32_533 : BitVec 32 := 1536#32
  c1536_i32_533
def k0_mult95 : BitVec 32 :=
  let c1536_i32_534 : BitVec 32 := 1536#32
  c1536_i32_534
def k0_mult96 : BitVec 32 :=
  let c1536_i32_535 : BitVec 32 := 1536#32
  c1536_i32_535
def k0_mult97 : BitVec 32 :=
  let c1024_i32_648 : BitVec 32 := 1024#32
  c1024_i32_648
def k0_mult98 : BitVec 32 :=
  let c1088_i32_649 : BitVec 32 := 1088#32
  c1088_i32_649
def k0_mult99 : BitVec 32 :=
  let c1152_i32_650 : BitVec 32 := 1152#32
  c1152_i32_650
def k0_mult100 : BitVec 32 :=
  let c1216_i32_651 : BitVec 32 := 1216#32
  c1216_i32_651
def k0_mult101 : BitVec 32 :=
  let c1280_i32_652 : BitVec 32 := 1280#32
  c1280_i32_652
def k0_mult102 : BitVec 32 :=
  let c1344_i32_653 : BitVec 32 := 1344#32
  c1344_i32_653
def k0_mult103 : BitVec 32 :=
  let c1408_i32_654 : BitVec 32 := 1408#32
  c1408_i32_654
def k0_mult104 : BitVec 32 :=
  let c1472_i32_655 : BitVec 32 := 1472#32
  c1472_i32_655
def k0_mult105 : BitVec 32 :=
  let c768_i32_656 : BitVec 32 := 768#32
  c768_i32_656
def k0_mult106 : BitVec 32 :=
  let c832_i32_657 : BitVec 32 := 832#32
  c832_i32_657
def k0_mult107 : BitVec 32 :=
  let c896_i32_658 : BitVec 32 := 896#32
  c896_i32_658
def k0_mult108 : BitVec 32 :=
  let c960_i32_659 : BitVec 32 := 960#32
  c960_i32_659
def k0_mult109 : BitVec 32 :=
  let c1024_i32_660 : BitVec 32 := 1024#32
  c1024_i32_660
def k0_mult110 : BitVec 32 :=
  let c1088_i32_661 : BitVec 32 := 1088#32
  c1088_i32_661
def k0_mult111 : BitVec 32 :=
  let c1152_i32_662 : BitVec 32 := 1152#32
  c1152_i32_662
def k0_mult112 : BitVec 32 :=
  let c1216_i32_663 : BitVec 32 := 1216#32
  c1216_i32_663
def k0_mult113 : BitVec 32 :=
  let c1536_i32_736 : BitVec 32 := 1536#32
  c1536_i32_736
def k0_mult114 : BitVec 32 :=
  let c1600_i32_737 : BitVec 32 := 1600#32
  c1600_i32_737
def k0_mult115 : BitVec 32 :=
  let c1664_i32_738 : BitVec 32 := 1664#32
  c1664_i32_738
def k0_mult116 : BitVec 32 :=
  let c1728_i32_739 : BitVec 32 := 1728#32
  c1728_i32_739
def k0_mult117 : BitVec 32 :=
  let c1792_i32_740 : BitVec 32 := 1792#32
  c1792_i32_740
def k0_mult118 : BitVec 32 :=
  let c1856_i32_741 : BitVec 32 := 1856#32
  c1856_i32_741
def k0_mult119 : BitVec 32 :=
  let c1920_i32_742 : BitVec 32 := 1920#32
  c1920_i32_742
def k0_mult120 : BitVec 32 :=
  let c1984_i32_743 : BitVec 32 := 1984#32
  c1984_i32_743
def k0_mult121 : BitVec 32 :=
  let c1280_i32_744 : BitVec 32 := 1280#32
  c1280_i32_744
def k0_mult122 : BitVec 32 :=
  let c1344_i32_745 : BitVec 32 := 1344#32
  c1344_i32_745
def k0_mult123 : BitVec 32 :=
  let c1408_i32_746 : BitVec 32 := 1408#32
  c1408_i32_746
def k0_mult124 : BitVec 32 :=
  let c1472_i32_747 : BitVec 32 := 1472#32
  c1472_i32_747
def k0_mult125 : BitVec 32 :=
  let c1536_i32_748 : BitVec 32 := 1536#32
  c1536_i32_748
def k0_mult126 : BitVec 32 :=
  let c1536_i32_749 : BitVec 32 := 1536#32
  c1536_i32_749
def k0_mult127 : BitVec 32 :=
  let c1536_i32_750 : BitVec 32 := 1536#32
  c1536_i32_750
def k0_mult128 : BitVec 32 :=
  let c1536_i32_751 : BitVec 32 := 1536#32
  c1536_i32_751
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S32768x512 : Shape := ⟨2, ![32768, 512]⟩
abbrev S4x8x15x31 : Shape := ⟨4, ![4, 8, 15, 31]⟩
abbrev S1x8x15x31 : Shape := ⟨4, ![1, 8, 15, 31]⟩
abbrev S8x15x31 : Shape := ⟨3, ![8, 15, 31]⟩
abbrev S16x32x64x8x64 : Shape := ⟨5, ![16, 32, 64, 8, 64]⟩
abbrev S16x8x32x64x64 : Shape := ⟨5, ![16, 8, 32, 64, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x8x32x8x64x64 : Shape := ⟨6, ![16, 8, 32, 8, 64, 64]⟩
abbrev S16x8x32x512x64 : Shape := ⟨5, ![16, 8, 32, 512, 64]⟩
abbrev S16x8x32x64x512 : Shape := ⟨5, ![16, 8, 32, 64, 512]⟩
abbrev S64x64x1 : Shape := ⟨3, ![64, 64, 1]⟩
abbrev S8x15x64x64 : Shape := ⟨4, ![8, 15, 64, 64]⟩
abbrev S8x32x8x64x64 : Shape := ⟨5, ![8, 32, 8, 64, 64]⟩
abbrev S8x32x64x8x64 : Shape := ⟨5, ![8, 32, 64, 8, 64]⟩
abbrev S16x8x32x64x8x64 : Shape := ⟨6, ![16, 8, 32, 64, 8, 64]⟩
abbrev S64x1x64 : Shape := ⟨3, ![64, 1, 64]⟩
abbrev S1x8x32x64x8x64 : Shape := ⟨6, ![1, 8, 32, 64, 8, 64]⟩
abbrev S16x8x32x64 : Shape := ⟨4, ![16, 8, 32, 64]⟩
abbrev S16x8x32x64x1 : Shape := ⟨5, ![16, 8, 32, 64, 1]⟩

abbrev nBuf : Space → Nat
  | .hbm => 156
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S4x8x15x31, .f32⟩
  | 4 => ⟨S1x8x15x31, .f32⟩
  | 5 => ⟨S8x15x31, .f32⟩
  | 6 => ⟨S32768x512, .f32⟩
  | 7 => ⟨S16x32x64x8x64, .f32⟩
  | 8 => ⟨S16x8x32x64x64, .f32⟩
  | 9 => ⟨S32768x512, .f32⟩
  | 10 => ⟨S16x32x64x8x64, .f32⟩
  | 11 => ⟨S16x8x32x64x64, .f32⟩
  | 12 => ⟨S32768x512, .f32⟩
  | 13 => ⟨S16x32x64x8x64, .f32⟩
  | 14 => ⟨S16x8x32x64x64, .f32⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S1x64, .i32⟩
  | 28 => ⟨S64x1, .i32⟩
  | 29 => ⟨S64x64, .i32⟩
  | 30 => ⟨S64x64, .i32⟩
  | 31 => ⟨S64x64, .i1⟩
  | 32 => ⟨S1x64, .i32⟩
  | 33 => ⟨S64x1, .i32⟩
  | 34 => ⟨S_, .i32⟩
  | 35 => ⟨S64x1, .i32⟩
  | 36 => ⟨S64x1, .i32⟩
  | 37 => ⟨S64x64, .i32⟩
  | 38 => ⟨S64x64, .i32⟩
  | 39 => ⟨S64x64, .i1⟩
  | 40 => ⟨S64x64, .i1⟩
  | 41 => ⟨S1x64, .i32⟩
  | 42 => ⟨S64x1, .i32⟩
  | 43 => ⟨S64x64, .i32⟩
  | 44 => ⟨S64x64, .i32⟩
  | 45 => ⟨S64x64, .i32⟩
  | 46 => ⟨S_, .i32⟩
  | 47 => ⟨S_, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S_, .i32⟩
  | 58 => ⟨S64x64, .i32⟩
  | 59 => ⟨S64x64, .i32⟩
  | 60 => ⟨S32, .i32⟩
  | 61 => ⟨S_, .i32⟩
  | 62 => ⟨S32, .i32⟩
  | 63 => ⟨S32, .i32⟩
  | 64 => ⟨S_, .i32⟩
  | 65 => ⟨S_, .i32⟩
  | 66 => ⟨S_, .i32⟩
  | 67 => ⟨S32, .i32⟩
  | 68 => ⟨S32, .i32⟩
  | 69 => ⟨S_, .i32⟩
  | 70 => ⟨S32, .i32⟩
  | 71 => ⟨S32, .i32⟩
  | 72 => ⟨S32x1, .i32⟩
  | 73 => ⟨S8, .i32⟩
  | 74 => ⟨S1x8, .i32⟩
  | 75 => ⟨S32x8, .i32⟩
  | 76 => ⟨S32x8, .i32⟩
  | 77 => ⟨S32x8, .i32⟩
  | 78 => ⟨S32x1, .i32⟩
  | 79 => ⟨S32x8, .i32⟩
  | 80 => ⟨S32x8, .i32⟩
  | 81 => ⟨S_, .i32⟩
  | 82 => ⟨S32x8, .i32⟩
  | 83 => ⟨S32x8, .i32⟩
  | 84 => ⟨S_, .i32⟩
  | 85 => ⟨S32x8, .i32⟩
  | 86 => ⟨S32x8, .i1⟩
  | 87 => ⟨S_, .i32⟩
  | 88 => ⟨S32x8, .i32⟩
  | 89 => ⟨S32x8, .i32⟩
  | 90 => ⟨S32x8, .i32⟩
  | 91 => ⟨S32x8x1, .i32⟩
  | 92 => ⟨S16x8x32x8x64x64, .f32⟩
  | 93 => ⟨S16x8x32x512x64, .f32⟩
  | 94 => ⟨S_, .i32⟩
  | 95 => ⟨S32x8, .i32⟩
  | 96 => ⟨S32x8, .i1⟩
  | 97 => ⟨S_, .i32⟩
  | 98 => ⟨S32x8, .i32⟩
  | 99 => ⟨S32x8, .i32⟩
  | 100 => ⟨S32x8, .i32⟩
  | 101 => ⟨S32x8x1, .i32⟩
  | 102 => ⟨S16x8x32x8x64x64, .f32⟩
  | 103 => ⟨S16x8x32x512x64, .f32⟩
  | 104 => ⟨S16x8x32x64x512, .f32⟩
  | 105 => ⟨S_, .f32⟩
  | 106 => ⟨S16x8x32x64x512, .f32⟩
  | 107 => ⟨S16x8x32x64x512, .f32⟩
  | 108 => ⟨S_, .i32⟩
  | 109 => ⟨S64x64, .i32⟩
  | 110 => ⟨S64x64, .i1⟩
  | 111 => ⟨S_, .i32⟩
  | 112 => ⟨S64x64, .i32⟩
  | 113 => ⟨S64x64, .i32⟩
  | 114 => ⟨S64x64, .i32⟩
  | 115 => ⟨S64x64x1, .i32⟩
  | 116 => ⟨S8x15x64x64, .f32⟩
  | 117 => ⟨S_, .i32⟩
  | 118 => ⟨S32x8, .i32⟩
  | 119 => ⟨S32x8, .i1⟩
  | 120 => ⟨S_, .i32⟩
  | 121 => ⟨S32x8, .i32⟩
  | 122 => ⟨S32x8, .i32⟩
  | 123 => ⟨S32x8, .i32⟩
  | 124 => ⟨S32x8x1, .i32⟩
  | 125 => ⟨S8x32x8x64x64, .f32⟩
  | 126 => ⟨S8x32x64x8x64, .f32⟩
  | 127 => ⟨S16x8x32x64x8x64, .f32⟩
  | _ => ⟨S32768x512, .bf16⟩

abbrev hbmTy0_1 (i : Nat) : BufTy := match i % 128 with
  | 0 => ⟨S64x1x64, .i1⟩
  | 1 => ⟨S1x8x32x64x8x64, .f32⟩
  | 2 => ⟨S16x8x32x64x8x64, .f32⟩
  | 3 => ⟨S16x8x32x64x8x64, .f32⟩
  | 4 => ⟨S_, .f32⟩
  | 5 => ⟨S_, .f32⟩
  | 6 => ⟨S16x8x32x64x8x64, .i1⟩
  | 7 => ⟨S16x8x32x64x8x64, .f32⟩
  | 8 => ⟨S16x8x32x64x8x64, .f32⟩
  | 9 => ⟨S16x8x32x64x512, .f32⟩
  | 10 => ⟨S_, .f32⟩
  | 11 => ⟨S16x8x32x64, .f32⟩
  | 12 => ⟨S_, .f32⟩
  | 13 => ⟨S16x8x32x64, .f32⟩
  | 14 => ⟨S16x8x32x64, .f32⟩
  | 15 => ⟨S16x8x32x64x1, .f32⟩
  | 16 => ⟨S16x8x32x64x512, .f32⟩
  | 17 => ⟨S16x8x32x64x512, .f32⟩
  | 18 => ⟨S16x8x32x64x512, .f32⟩
  | 19 => ⟨S_, .f32⟩
  | 20 => ⟨S16x8x32x64, .f32⟩
  | 21 => ⟨S16x8x32x64x1, .f32⟩
  | 22 => ⟨S16x8x32x64x512, .f32⟩
  | 23 => ⟨S16x8x32x64x512, .f32⟩
  | 24 => ⟨S16x8x32x64x64, .f32⟩
  | 25 => ⟨S16x32x64x8x64, .f32⟩
  | 26 => ⟨S32768x512, .f32⟩
  | 27 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_c_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_17 : Ref sig .tc := ⟨.hbm, 117, rfl⟩
abbrev main_v79 : Ref sig .tc := ⟨.hbm, 118, rfl⟩
abbrev main_v80 : Ref sig .tc := ⟨.hbm, 119, rfl⟩
abbrev main_c_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_cst_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩

abbrev nD : Nat := 1
abbrev τ : Topo := Topo.v7x

variable {F : FTy → Type} [FloatOps F]
-- ==== Kernel2.lean ====
abbrev S32768x1024 : Shape := ⟨2, ![32768, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S4x3x1x1024 : Shape := ⟨4, ![4, 3, 1, 1024]⟩
abbrev S512x1024 : Shape := ⟨2, ![512, 1024]⟩
abbrev S1x1x9x1024 : Shape := ⟨4, ![1, 1, 9, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x24x9x1024, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S4x3x1x1024, .f32⟩
  | .hbm, ⟨7, _⟩ => ⟨S4x2x1024x2816, .bf16⟩
  | .hbm, ⟨8, _⟩ => ⟨S4x2x1024x2816, .bf16⟩
  | .hbm, ⟨9, _⟩ => ⟨S4x2x2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1x1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S16x2048x1024 : Shape := ⟨3, ![16, 2048, 1024]⟩
abbrev S1x16x9x1024 : Shape := ⟨4, ![1, 16, 9, 1024]⟩
abbrev S16x9x1024 : Shape := ⟨3, ![16, 9, 1024]⟩
abbrev S16x3x3x1024 : Shape := ⟨4, ![16, 3, 3, 1024]⟩
abbrev S16x3x3x1x1024 : Shape := ⟨5, ![16, 3, 3, 1, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x1x3x1x1024 : Shape := ⟨5, ![16, 1, 3, 1, 1024]⟩
abbrev S16x3x1x1024 : Shape := ⟨4, ![16, 3, 1, 1024]⟩
abbrev S16x1x1x1024 : Shape := ⟨4, ![16, 1, 1, 1024]⟩
abbrev S16x1x1024 : Shape := ⟨3, ![16, 1, 1024]⟩
abbrev S16x1x1x1x1024 : Shape := ⟨5, ![16, 1, 1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16x2048x2816 : Shape := ⟨3, ![16, 2048, 2816]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x24x9x1024, .f32⟩
  | .hbm, ⟨2, _⟩ => ⟨S4x3x1024, .f32⟩
  | .hbm, ⟨3, _⟩ => ⟨S4x2x1024x2816, .f32⟩
  | .hbm, ⟨4, _⟩ => ⟨S4x2x1024x2816, .f32⟩
  | .hbm, ⟨5, _⟩ => ⟨S4x2x2816x1024, .f32⟩
  | .hbm, ⟨6, _⟩ => ⟨S16x2048x1024, .f32⟩
  | .hbm, ⟨7, _⟩ => ⟨S1x16x9x1024, .f32⟩
  | .hbm, ⟨8, _⟩ => ⟨S16x9x1024, .f32⟩
  | .hbm, ⟨9, _⟩ => ⟨S16x3x3x1024, .f32⟩
  | .hbm, ⟨10, _⟩ => ⟨S16x3x3x1x1024, .f32⟩
  | .hbm, ⟨11, _⟩ => ⟨S1x1x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x3x1x1024, .f32⟩
  | .hbm, ⟨30, _⟩ => ⟨S16x3x1x1024, .f32⟩
  | .hbm, ⟨31, _⟩ => ⟨S16x1x1x1024, .f32⟩
  | .hbm, ⟨32, _⟩ => ⟨S16x1x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x1x1x1024, .f32⟩
  | .hbm, ⟨39, _⟩ => ⟨S16x1x1024, .f32⟩
  | .hbm, ⟨40, _⟩ => ⟨S16x2048x1024, .f32⟩
  | .hbm, ⟨41, _⟩ => ⟨S16x2048x1024, .f32⟩
  | .hbm, ⟨42, _⟩ => ⟨S16x1x1x1x1024, .f32⟩
  | .hbm, ⟨43, _⟩ => ⟨S16x1x1024, .f32⟩
  | .hbm, ⟨44, _⟩ => ⟨S_, .f32⟩
  | .hbm, ⟨45, _⟩ => ⟨S16x1x1024, .f32⟩
  | .hbm, ⟨46, _⟩ => ⟨S16x1x1024, .f32⟩
  | .hbm, ⟨47, _⟩ => ⟨S1x1x1024x2816, .f32⟩
  | .hbm, ⟨48, _⟩ => ⟨S1024x2816, .f32⟩
  | .hbm, ⟨49, _⟩ => ⟨S1x1x1024x2816, .f32⟩
  | .hbm, ⟨50, _⟩ => ⟨S1024x2816, .f32⟩
  | .hbm, ⟨51, _⟩ => ⟨S1x1x2816x1024, .f32⟩
  | .hbm, ⟨52, _⟩ => ⟨S2816x1024, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S4x128 : Shape := ⟨2, ![4, 128]⟩
abbrev S4x1024x1024 : Shape := ⟨3, ![4, 1024, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S4x3x1x1024 : Shape := ⟨4, ![4, 3, 1, 1024]⟩
abbrev S4x1x128 : Shape := ⟨3, ![4, 1, 128]⟩
abbrev S512x1024 : Shape := ⟨2, ![512, 1024]⟩
abbrev S512x512 : Shape := ⟨2, ![512, 512]⟩
abbrev S1x1x128 : Shape := ⟨3, ![1, 1, 128]⟩
abbrev S1x1024x1024 : Shape := ⟨3, ![1, 1024, 1024]⟩
abbrev S1x1x9x1024 : Shape := ⟨4, ![1, 1, 9, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x512x1024 : Shape := ⟨3, ![1, 512, 1024]⟩
abbrev S1x1024 : Shape := ⟨2, ![1, 1024]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 19
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S4x128, .f32⟩
  | .hbm, ⟨6, _⟩ => ⟨S4x1024x1024, .f32⟩
  | .hbm, ⟨7, _⟩ => ⟨S4x24x9x1024, .f32⟩
  | .hbm, ⟨8, _⟩ => ⟨S4x3x1024, .f32⟩
  | .hbm, ⟨9, _⟩ => ⟨S4x2x1024x2816, .f32⟩
  | .hbm, ⟨10, _⟩ => ⟨S4x2x1024x2816, .f32⟩
  | .hbm, ⟨11, _⟩ => ⟨S4x2x2816x1024, .f32⟩
  | .hbm, ⟨12, _⟩ => ⟨S4x3x1x1024, .f32⟩
  | .hbm, ⟨13, _⟩ => ⟨S4x2x1024x2816, .bf16⟩
  | .hbm, ⟨14, _⟩ => ⟨S4x2x1024x2816, .bf16⟩
  | .hbm, ⟨15, _⟩ => ⟨S4x2x2816x1024, .bf16⟩
  | .hbm, ⟨16, _⟩ => ⟨S4x1024x1024, .bf16⟩
  | .hbm, ⟨17, _⟩ => ⟨S4x1x128, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1x128, .f32⟩
  | .local _ .vmem, ⟨11, _⟩ => ⟨S1x1024x1024, .bf16⟩
  | .local _ .vmem, ⟨12, _⟩ => ⟨S1x1x9x1024, .f32⟩
  | .local _ .vmem, ⟨13, _⟩ => ⟨S1x1x9x1024, .f32⟩
  | .local _ .vmem, ⟨14, _⟩ => ⟨S1x1x1x1024, .f32⟩
  | .local _ .vmem, ⟨15, _⟩ => ⟨S1x1x1024x2816, .bf16⟩
  | .local _ .vmem, ⟨16, _⟩ => ⟨S1x1x1024x2816, .bf16⟩
  | .local _ .vmem, ⟨17, _⟩ => ⟨S1x1x2816x1024, .bf16⟩
  | .local _ .vmem, ⟨18, _⟩ => ⟨S512x1024, .f32⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_8 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x512 : Shape := ⟨2, ![32768, 512]⟩
abbrev S4x128 : Shape := ⟨2, ![4, 128]⟩
abbrev S4x1024x1024 : Shape := ⟨3, ![4, 1024, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S16x2048x1024 : Shape := ⟨3, ![16, 2048, 1024]⟩
abbrev S1x16x9x1024 : Shape := ⟨4, ![1, 16, 9, 1024]⟩
abbrev S16x9x1024 : Shape := ⟨3, ![16, 9, 1024]⟩
abbrev S16x3x3x1024 : Shape := ⟨4, ![16, 3, 3, 1024]⟩
abbrev S16x3x3x1x1024 : Shape := ⟨5, ![16, 3, 3, 1, 1024]⟩
abbrev S16x2048x4x128 : Shape := ⟨4, ![16, 2048, 4, 128]⟩
abbrev S1x128 : Shape := ⟨2, ![1, 128]⟩
abbrev S128 : Shape := ⟨1, ![128]⟩
abbrev S_ : Shape := ⟨0, ![]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩
abbrev S1x1024x1024 : Shape := ⟨3, ![1, 1024, 1024]⟩
abbrev S1024x1024 : Shape := ⟨2, ![1024, 1024]⟩
abbrev S16x1x1x1x1024 : Shape := ⟨5, ![16, 1, 1, 1, 1024]⟩
abbrev S16x1x1024 : Shape := ⟨3, ![16, 1, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S16x1x3x1x1024 : Shape := ⟨5, ![16, 1, 3, 1, 1024]⟩
abbrev S16x3x1x1024 : Shape := ⟨4, ![16, 3, 1, 1024]⟩
abbrev S16x1x1x1024 : Shape := ⟨4, ![16, 1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16x2048x2816 : Shape := ⟨3, ![16, 2048, 2816]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S4x128, .f32⟩
  | .hbm, ⟨6, _⟩ => ⟨S4x1024x1024, .f32⟩
  | .hbm, ⟨7, _⟩ => ⟨S4x24x9x1024, .f32⟩
  | .hbm, ⟨8, _⟩ => ⟨S4x3x1024, .f32⟩
  | .hbm, ⟨9, _⟩ => ⟨S4x2x1024x2816, .f32⟩
  | .hbm, ⟨10, _⟩ => ⟨S4x2x1024x2816, .f32⟩
  | .hbm, ⟨11, _⟩ => ⟨S4x2x2816x1024, .f32⟩
  | .hbm, ⟨12, _⟩ => ⟨S16x2048x1024, .f32⟩
  | .hbm, ⟨13, _⟩ => ⟨S1x16x9x1024, .f32⟩
  | .hbm, ⟨14, _⟩ => ⟨S16x9x1024, .f32⟩
  | .hbm, ⟨15, _⟩ => ⟨S16x3x3x1024, .f32⟩
  | .hbm, ⟨16, _⟩ => ⟨S16x3x3x1x1024, .f32⟩
  | .hbm, ⟨17, _⟩ => ⟨S16x2048x4x128, .f32⟩
  | .hbm, ⟨18, _⟩ => ⟨S16x2048x4x128, .f32⟩
  | .hbm, ⟨19, _⟩ => ⟨S16x2048x4x128, .f32⟩
  | .hbm, ⟨20, _⟩ => ⟨S1x128, .f32⟩
  | .hbm, ⟨21, _⟩ => ⟨S128, .f32⟩
  | .hbm, ⟨22, _⟩ => ⟨S16x2048x4x128, .f32⟩
  | .hbm, ⟨23, _⟩ => ⟨S_, .f32⟩
  | .hbm, ⟨24, _⟩ => ⟨S16x2048x4, .f32⟩
  | .hbm, ⟨25, _⟩ => ⟨S16x2048x4x1, .f32⟩
  | .hbm, ⟨26, _⟩ => ⟨S_, .f32⟩
  | .hbm, ⟨27, _⟩ => ⟨S16x2048x4x1, .f32⟩
  | .hbm, ⟨28, _⟩ => ⟨S16x2048x4x1, .f32⟩
  | .hbm, ⟨29, _⟩ => ⟨S_, .f32⟩
  | .hbm, ⟨30, _⟩ => ⟨S16x2048x4x1, .f32⟩
  | .hbm, ⟨31, _⟩ => ⟨S16x2048x4x1, .f32⟩
  | .hbm, ⟨32, _⟩ => ⟨S16x2048x4x1, .f32⟩
  | .hbm, ⟨33, _⟩ => ⟨S16x2048x4x128, .f32⟩
  | .hbm, ⟨34, _⟩ => ⟨S16x2048x4x128, .f32⟩
  | .hbm, ⟨35, _⟩ => ⟨S1x1x1x128, .f32⟩
  | .hbm, ⟨36, _⟩ => ⟨S16x2048x4x128, .f32⟩
  | .hbm, ⟨37, _⟩ => ⟨S16x2048x4x128, .f32⟩
  | .hbm, ⟨38, _⟩ => ⟨S16x2048x512, .f32⟩
  | .hbm, ⟨39, _⟩ => ⟨S32768x512, .f32⟩
  | .hbm, ⟨40, _⟩ => ⟨S16x2048x512, .f32⟩
  | .hbm, ⟨41, _⟩ => ⟨S16x2048x512, .f32⟩
  | .hbm, ⟨42, _⟩ => ⟨S32768x512, .f32⟩
  | .hbm, ⟨43, _⟩ => ⟨S16x2048x512, .f32⟩
  | .hbm, ⟨44, _⟩ => ⟨S16x2048x1024, .f32⟩
  | .hbm, ⟨45, _⟩ => ⟨S1x1024x1024, .f32⟩
  | .hbm, ⟨46, _⟩ => ⟨S1024x1024, .f32⟩
  | .hbm, ⟨47, _⟩ => ⟨S16x2048x1024, .f32⟩
  | .hbm, ⟨48, _⟩ => ⟨S16x1x1x1x1024, .f32⟩
  | .hbm, ⟨49, _⟩ => ⟨S16x1x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S1024, .f32⟩
  | .hbm, ⟨55, _⟩ => ⟨S16x2048x1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | .hbm, ⟨71, _⟩ => ⟨S16x1x3x1x1024, .f32⟩
  | .hbm, ⟨72, _⟩ => ⟨S16x3x1x1024, .f32⟩
  | .hbm, ⟨73, _⟩ => ⟨S16x1x1x1024, .f32⟩
  | .hbm, ⟨74, _⟩ => ⟨S16x1x1024, .f32⟩
  | .hbm, ⟨75, _⟩ => ⟨S_, .f32⟩
  | .hbm, ⟨76, _⟩ => ⟨S16x1x1024, .f32⟩
  | .hbm, ⟨77, _⟩ => ⟨S16x1x1024, .f32⟩
  | .hbm, ⟨78, _⟩ => ⟨S16x2048x1024, .f32⟩
  | .hbm, ⟨79, _⟩ => ⟨S16x2048x1024, .f32⟩
  | .hbm, ⟨80, _⟩ => ⟨S16x1x1x1024, .f32⟩
  | .hbm, ⟨81, _⟩ => ⟨S16x1x1024, .f32⟩
  | .hbm, ⟨82, _⟩ => ⟨S16x2048x1024, .f32⟩
  | .hbm, ⟨83, _⟩ => ⟨S16x2048x1024, .f32⟩
  | .hbm, ⟨84, _⟩ => ⟨S16x1x1x1x1024, .f32⟩
  | .hbm, ⟨85, _⟩ => ⟨S16x1x1024, .f32⟩
  | .hbm, ⟨86, _⟩ => ⟨S_, .f32⟩
  | .hbm, ⟨87, _⟩ => ⟨S16x1x1024, .f32⟩
  | .hbm, ⟨88, _⟩ => ⟨S16x1x1024, .f32⟩
  | .hbm, ⟨89, _⟩ => ⟨S1x1x1024x2816, .f32⟩
  | .hbm, ⟨90, _⟩ => ⟨S1024x2816, .f32⟩
  | .hbm, ⟨91, _⟩ => ⟨S1x1x1024x2816, .f32⟩
  | .hbm, ⟨92, _⟩ => ⟨S1024x2816, .f32⟩
  | .hbm, ⟨93, _⟩ => ⟨S1x1x2816x1024, .f32⟩
  | .hbm, ⟨94, _⟩ => ⟨S2816x1024, .f32⟩
  | .hbm, ⟨95, _⟩ => ⟨S16x2048x2816, .f32⟩
  | .hbm, ⟨96, _⟩ => ⟨S16x2048x2816, .f32⟩
  | .hbm, ⟨97, _⟩ => ⟨S16x2048x2816, .f32⟩
  | .hbm, ⟨98, _⟩ => ⟨S_, .f32⟩
  | .hbm, ⟨99, _⟩ => ⟨S16x2048x2816, .f32⟩
  | .hbm, ⟨100, _⟩ => ⟨S16x2048x2816, .f32⟩
  | .hbm, ⟨101, _⟩ => ⟨S_, .f32⟩
  | .hbm, ⟨102, _⟩ => ⟨S16x2048x2816, .f32⟩
  | .hbm, ⟨103, _⟩ => ⟨S16x2048x2816, .f32⟩
  | .hbm, ⟨104, _⟩ => ⟨S16x2048x2816, .f32⟩
  | .hbm, ⟨105, _⟩ => ⟨S16x2048x2816, .f32⟩
  | .hbm, ⟨106, _⟩ => ⟨S16x2048x2816, .f32⟩
  | .hbm, ⟨107, _⟩ => ⟨S16x2048x1024, .f32⟩
  | .hbm, ⟨108, _⟩ => ⟨S16x2048x1024, .f32⟩
  | .hbm, ⟨109, _⟩ => ⟨S16x2048x1024, .f32⟩
  | .hbm, ⟨110, _⟩ => ⟨S16x2048x1024, .f32⟩
  | .hbm, ⟨111, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Kernel4.lean ====
abbrev S32768x1024 : Shape := ⟨2, ![32768, 1024]⟩
abbrev S4x24x9x1024 : Shape := ⟨4, ![4, 24, 9, 1024]⟩
abbrev S4x3x1024 : Shape := ⟨3, ![4, 3, 1024]⟩
abbrev S4x1024x4096 : Shape := ⟨3, ![4, 1024, 4096]⟩
abbrev S4x512 : Shape := ⟨2, ![4, 512]⟩
abbrev S4x64 : Shape := ⟨2, ![4, 64]⟩
abbrev S4x3x1x1024 : Shape := ⟨4, ![4, 3, 1, 1024]⟩
abbrev S_ : Shape := ⟨0, ![]⟩
abbrev S512 : Shape := ⟨1, ![512]⟩
abbrev S1x512 : Shape := ⟨2, ![1, 512]⟩
abbrev S4x1x512 : Shape := ⟨3, ![4, 1, 512]⟩
abbrev S1x4x1x64 : Shape := ⟨4, ![1, 4, 1, 64]⟩
abbrev S1x4x8x64 : Shape := ⟨4, ![1, 4, 8, 64]⟩
abbrev S32768x512 : Shape := ⟨2, ![32768, 512]⟩
abbrev S1024x1024 : Shape := ⟨2, ![1024, 1024]⟩
abbrev S1x1x9x1024 : Shape := ⟨4, ![1, 1, 9, 1024]⟩
abbrev S1x1x1x1024 : Shape := ⟨4, ![1, 1, 1, 1024]⟩
abbrev S1x1024x4096 : Shape := ⟨3, ![1, 1024, 4096]⟩
abbrev S1x1x512 : Shape := ⟨3, ![1, 1, 512]⟩
abbrev S1024x512 : Shape := ⟨2, ![1024, 512]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S1x1024x512 : Shape := ⟨3, ![1, 1024, 512]⟩
abbrev S1x1x128 : Shape := ⟨3, ![1, 1, 128]⟩
abbrev S1x128 : Shape := ⟨2, ![1, 128]⟩

abbrev nBuf : Space → Nat
  | .hbm => 76
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S4x24x9x1024, .f32⟩
  | .hbm, ⟨2, _⟩ => ⟨S4x3x1024, .f32⟩
  | .hbm, ⟨3, _⟩ => ⟨S4x1024x4096, .f32⟩
  | .hbm, ⟨4, _⟩ => ⟨S4x512, .f32⟩
  | .hbm, ⟨5, _⟩ => ⟨S4x512, .f32⟩
  | .hbm, ⟨6, _⟩ => ⟨S4x64, .f32⟩
  | .hbm, ⟨7, _⟩ => ⟨S4x64, .f32⟩
  | .hbm, ⟨8, _⟩ => ⟨S4x3x1x1024, .f32⟩
  | .hbm, ⟨9, _⟩ => ⟨S4x1024x4096, .bf16⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S_, .f32⟩
  | .hbm, ⟨26, _⟩ => ⟨S4x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S4x512, .f32⟩
  | .hbm, ⟨31, _⟩ => ⟨S4x512, .f32⟩
  | .hbm, ⟨32, _⟩ => ⟨S4x1x512, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S4x512, .f32⟩
  | .hbm, ⟨40, _⟩ => ⟨S4x512, .f32⟩
  | .hbm, ⟨41, _⟩ => ⟨S4x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S4x512, .f32⟩
  | .hbm, ⟨46, _⟩ => ⟨S4x512, .f32⟩
  | .hbm, ⟨47, _⟩ => ⟨S_, .f32⟩
  | .hbm, ⟨48, _⟩ => ⟨S_, .f32⟩
  | .hbm, ⟨49, _⟩ => ⟨S4x512, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S4x512, .f32⟩
  | .hbm, ⟨54, _⟩ => ⟨S4x512, .f32⟩
  | .hbm, ⟨55, _⟩ => ⟨S4x1x512, .f32⟩
  | .hbm, ⟨56, _⟩ => ⟨S1x4x1x64, .f32⟩
  | .hbm, ⟨57, _⟩ => ⟨S1x4x8x64, .f32⟩
  | .hbm, ⟨58, _⟩ => ⟨S4x512, .f32⟩
  | .hbm, ⟨59, _⟩ => ⟨S4x1x512, .f32⟩
  | .hbm, ⟨60, _⟩ => ⟨S1x4x1x64, .f32⟩
  | .hbm, ⟨61, _⟩ => ⟨S1x4x8x64, .f32⟩
  | .hbm, ⟨62, _⟩ => ⟨S4x512, .f32⟩
  | .hbm, ⟨63, _⟩ => ⟨S4x1x512, .f32⟩
  | .hbm, ⟨64, _⟩ => ⟨S32768x512, .bf16⟩
  | .hbm, ⟨65, _⟩ => ⟨S32768x512, .bf16⟩
  | .hbm, ⟨66, _⟩ => ⟨S32768x512, .bf16⟩
  | .hbm, ⟨67, _⟩ => ⟨S32768x512, .bf16⟩
  | .hbm, ⟨68, _⟩ => ⟨S32768x512, .bf16⟩
  | .hbm, ⟨69, _⟩ => ⟨S32768x512, .bf16⟩
  | .hbm, ⟨70, _⟩ => ⟨S32768x512, .bf16⟩
  | .hbm, ⟨71, _⟩ => ⟨S32768x512, .bf16⟩
  | .hbm, ⟨72, _⟩ => ⟨S32768x512, .bf16⟩
  | .hbm, ⟨73, _⟩ => ⟨S32768x512, .bf16⟩
  | .hbm, ⟨74, _⟩ => ⟨S32768x512, .bf16⟩
  | .hbm, ⟨75, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1x1x1024, .f32⟩
  | .local _ .vmem, ⟨5, _⟩ => ⟨S1x1024x4096, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_call0_cst : Ref sig .tc := ⟨.hbm, 24, rfl⟩
abbrev main_call0_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_call0_cst : Ref sig .tc := ⟨.hbm, 47, rfl⟩
abbrev main_call1_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_v46_4 : Ref sig .tc := ⟨.hbm, 68, rfl⟩
abbrev main_v46_5 : Ref sig .tc := ⟨.hbm, 69, rfl⟩
abbrev main_v46_6 : Ref sig .tc := ⟨.hbm, 70, rfl⟩
abbrev main_v46_7 : Ref sig .tc := ⟨.hbm, 71, rfl⟩
abbrev main_v46_8 : Ref sig .tc := ⟨.hbm, 72, rfl⟩
abbrev main_v46_9 : Ref sig .tc := ⟨.hbm, 73, rfl⟩
abbrev main_v46_10 : Ref sig .tc := ⟨.hbm, 74, rfl⟩
abbrev main_v46_11 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S32768x1024 : Shape := ⟨2, ![32768, 1024]⟩
abbrev S4x24x9x1024 : Shape := ⟨4, ![4, 24, 9, 1024]⟩
abbrev S4x3x1024 : Shape := ⟨3, ![4, 3, 1024]⟩
abbrev S4x1024x4096 : Shape := ⟨3, ![4, 1024, 4096]⟩
abbrev S4x512 : Shape := ⟨2, ![4, 512]⟩
abbrev S4x64 : Shape := ⟨2, ![4, 64]⟩
abbrev S1x16x9x1024 : Shape := ⟨4, ![1, 16, 9, 1024]⟩
abbrev S16x9x1024 : Shape := ⟨3, ![16, 9, 1024]⟩
abbrev S16x3x3x1024 : Shape := ⟨4, ![16, 3, 3, 1024]⟩
abbrev S16x3x3x1x1024 : Shape := ⟨5, ![16, 3, 3, 1, 1024]⟩
abbrev S16x2048x1024 : Shape := ⟨3, ![16, 2048, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x1x3x1x1024 : Shape := ⟨5, ![16, 1, 3, 1, 1024]⟩
abbrev S16x3x1x1024 : Shape := ⟨4, ![16, 3, 1, 1024]⟩
abbrev S16x1x1x1024 : Shape := ⟨4, ![16, 1, 1, 1024]⟩
abbrev S16x1x1024 : Shape := ⟨3, ![16, 1, 1024]⟩
abbrev S1x1024x4096 : Shape := ⟨3, ![1, 1024, 4096]⟩
abbrev S1024x4096 : Shape := ⟨2, ![1024, 4096]⟩
abbrev S16x2048x4096 : Shape := ⟨3, ![16, 2048, 4096]⟩
abbrev S16x2048x512 : Shape := ⟨3, ![16, 2048, 512]⟩
abbrev S512 : Shape := ⟨1, ![512]⟩
abbrev S1x512 : Shape := ⟨2, ![1, 512]⟩
abbrev S1x1x512 : Shape := ⟨3, ![1, 1, 512]⟩
abbrev S32768x512 : Shape := ⟨2, ![32768, 512]⟩
abbrev S16x2048x8x64 : Shape := ⟨4, ![16, 2048, 8, 64]⟩
abbrev S1x64 : Shape := ⟨2, ![1, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩

abbrev nBuf : Space → Nat
  | .hbm => 235
  | .vmem => 0
  | .smem => 0
  | _ => 0

abbrev hbmTy0_0 (i : Nat) : BufTy := match i % 128 with
  | 0 => ⟨S32768x1024, .f32⟩
  | 1 => ⟨S4x24x9x1024, .f32⟩
  | 2 => ⟨S4x3x1024, .f32⟩
  | 3 => ⟨S4x1024x4096, .f32⟩
  | 4 => ⟨S4x512, .f32⟩
  | 5 => ⟨S4x512, .f32⟩
  | 6 => ⟨S4x64, .f32⟩
  | 7 => ⟨S4x64, .f32⟩
  | 8 => ⟨S1x16x9x1024, .f32⟩
  | 9 => ⟨S16x9x1024, .f32⟩
  | 10 => ⟨S16x3x3x1024, .f32⟩
  | 11 => ⟨S16x3x3x1x1024, .f32⟩
  | 12 => ⟨S16x2048x1024, .f32⟩
  | 13 => ⟨S1x1x1024, .f32⟩
  | 14 => ⟨S1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S16x1x3x1x1024, .f32⟩
  | 32 => ⟨S16x3x1x1024, .f32⟩
  | 33 => ⟨S16x1x1x1024, .f32⟩
  | 34 => ⟨S16x1x1024, .f32⟩
  | 35 => ⟨S_, .f32⟩
  | 36 => ⟨S16x1x1024, .f32⟩
  | 37 => ⟨S16x1x1024, .f32⟩
  | 38 => ⟨S16x2048x1024, .f32⟩
  | 39 => ⟨S16x2048x1024, .f32⟩
  | 40 => ⟨S16x1x1x1024, .f32⟩
  | 41 => ⟨S16x1x1024, .f32⟩
  | 42 => ⟨S16x2048x1024, .f32⟩
  | 43 => ⟨S16x2048x1024, .f32⟩
  | 44 => ⟨S1x1024x4096, .f32⟩
  | 45 => ⟨S1024x4096, .f32⟩
  | 46 => ⟨S16x2048x4096, .f32⟩
  | 47 => ⟨S16x2048x512, .f32⟩
  | 48 => ⟨S16x2048x512, .f32⟩
  | 49 => ⟨S16x2048x512, .f32⟩
  | 50 => ⟨S16x2048x512, .f32⟩
  | 51 => ⟨S16x2048x512, .f32⟩
  | 52 => ⟨S16x2048x512, .f32⟩
  | 53 => ⟨S16x2048x512, .f32⟩
  | 54 => ⟨S16x2048x512, .f32⟩
  | 55 => ⟨S_, .f32⟩
  | 56 => ⟨S512, .f32⟩
  | 57 => ⟨S_, .f32⟩
  | 58 => ⟨S512, .f32⟩
  | 59 => ⟨S512, .f32⟩
  | 60 => ⟨S1x512, .f32⟩
  | 61 => ⟨S4x512, .f32⟩
  | 62 => ⟨S4x512, .f32⟩
  | 63 => ⟨S4x512, .f32⟩
  | 64 => ⟨S_, .f32⟩
  | 65 => ⟨S512, .f32⟩
  | 66 => ⟨S1x512, .f32⟩
  | 67 => ⟨S4x512, .f32⟩
  | 68 => ⟨S4x512, .f32⟩
  | 69 => ⟨S_, .f32⟩
  | 70 => ⟨S_, .f32⟩
  | 71 => ⟨S4x512, .f32⟩
  | 72 => ⟨S1x512, .f32⟩
  | 73 => ⟨S512, .f32⟩
  | 74 => ⟨S1x512, .f32⟩
  | 75 => ⟨S4x512, .f32⟩
  | 76 => ⟨S4x512, .f32⟩
  | 77 => ⟨S1x512, .f32⟩
  | 78 => ⟨S512, .f32⟩
  | 79 => ⟨S_, .f32⟩
  | 80 => ⟨S512, .f32⟩
  | 81 => ⟨S512, .f32⟩
  | 82 => ⟨S16x2048x512, .f32⟩
  | 83 => ⟨S16x2048x512, .f32⟩
  | 84 => ⟨S_, .f32⟩
  | 85 => ⟨S16x2048x512, .f32⟩
  | 86 => ⟨S16x2048x512, .f32⟩
  | 87 => ⟨S_, .f32⟩
  | 88 => ⟨S16x2048x512, .f32⟩
  | 89 => ⟨S16x2048x512, .f32⟩
  | 90 => ⟨S1x1x512, .f32⟩
  | 91 => ⟨S16x2048x512, .f32⟩
  | 92 => ⟨S16x2048x512, .f32⟩
  | 93 => ⟨S1x1x512, .f32⟩
  | 94 => ⟨S16x2048x512, .f32⟩
  | 95 => ⟨S16x2048x512, .f32⟩
  | 96 => ⟨S32768x512, .f32⟩
  | 97 => ⟨S32768x512, .f32⟩
  | 98 => ⟨S_, .f32⟩
  | 99 => ⟨S_, .f32⟩
  | 100 => ⟨S_, .f32⟩
  | 101 => ⟨S32768x512, .f32⟩
  | 102 => ⟨S32768x512, .f32⟩
  | 103 => ⟨S32768x512, .bf16⟩
  | 104 => ⟨S_, .f32⟩
  | 105 => ⟨S32768x512, .f32⟩
  | 106 => ⟨S32768x512, .f32⟩
  | 107 => ⟨S32768x512, .bf16⟩
  | 108 => ⟨S32768x512, .f32⟩
  | 109 => ⟨S32768x512, .f32⟩
  | 110 => ⟨S32768x512, .bf16⟩
  | 111 => ⟨S_, .f32⟩
  | 112 => ⟨S512, .f32⟩
  | 113 => ⟨S_, .f32⟩
  | 114 => ⟨S512, .f32⟩
  | 115 => ⟨S512, .f32⟩
  | 116 => ⟨S1x512, .f32⟩
  | 117 => ⟨S4x512, .f32⟩
  | 118 => ⟨S4x512, .f32⟩
  | 119 => ⟨S4x512, .f32⟩
  | 120 => ⟨S_, .f32⟩
  | 121 => ⟨S512, .f32⟩
  | 122 => ⟨S1x512, .f32⟩
  | 123 => ⟨S4x512, .f32⟩
  | 124 => ⟨S4x512, .f32⟩
  | 125 => ⟨S_, .f32⟩
  | 126 => ⟨S_, .f32⟩
  | 127 => ⟨S4x512, .f32⟩
  | _ => ⟨S32768x1024, .f32⟩

abbrev hbmTy0_1 (i : Nat) : BufTy := match i % 128 with
  | 0 => ⟨S1x512, .f32⟩
  | 1 => ⟨S512, .f32⟩
  | 2 => ⟨S1x512, .f32⟩
  | 3 => ⟨S4x512, .f32⟩
  | 4 => ⟨S4x512, .f32⟩
  | 5 => ⟨S1x512, .f32⟩
  | 6 => ⟨S512, .f32⟩
  | 7 => ⟨S_, .f32⟩
  | 8 => ⟨S512, .f32⟩
  | 9 => ⟨S512, .f32⟩
  | 10 => ⟨S16x2048x512, .f32⟩
  | 11 => ⟨S16x2048x512, .f32⟩
  | 12 => ⟨S_, .f32⟩
  | 13 => ⟨S16x2048x512, .f32⟩
  | 14 => ⟨S16x2048x512, .f32⟩
  | 15 => ⟨S_, .f32⟩
  | 16 => ⟨S16x2048x512, .f32⟩
  | 17 => ⟨S16x2048x512, .f32⟩
  | 18 => ⟨S1x1x512, .f32⟩
  | 19 => ⟨S16x2048x512, .f32⟩
  | 20 => ⟨S16x2048x512, .f32⟩
  | 21 => ⟨S1x1x512, .f32⟩
  | 22 => ⟨S16x2048x512, .f32⟩
  | 23 => ⟨S16x2048x512, .f32⟩
  | 24 => ⟨S32768x512, .f32⟩
  | 25 => ⟨S32768x512, .f32⟩
  | 26 => ⟨S_, .f32⟩
  | 27 => ⟨S_, .f32⟩
  | 28 => ⟨S_, .f32⟩
  | 29 => ⟨S32768x512, .f32⟩
  | 30 => ⟨S32768x512, .f32⟩
  | 31 => ⟨S32768x512, .bf16⟩
  | 32 => ⟨S_, .f32⟩
  | 33 => ⟨S32768x512, .f32⟩
  | 34 => ⟨S32768x512, .f32⟩
  | 35 => ⟨S32768x512, .bf16⟩
  | 36 => ⟨S32768x512, .f32⟩
  | 37 => ⟨S32768x512, .f32⟩
  | 38 => ⟨S32768x512, .bf16⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S16x2048x512, .f32⟩
  | 48 => ⟨S32768x512, .f32⟩
  | 49 => ⟨S32768x512, .bf16⟩
  | 50 => ⟨S32768x512, .f32⟩
  | 51 => ⟨S32768x512, .bf16⟩
  | 52 => ⟨S16x2048x512, .f32⟩
  | 53 => ⟨S16x2048x512, .f32⟩
  | 54 => ⟨S_, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S16x2048x512, .f32⟩
  | 61 => ⟨S32768x512, .f32⟩
  | 62 => ⟨S32768x512, .bf16⟩
  | 63 => ⟨S16x2048x8x64, .f32⟩
  | 64 => ⟨S1x64, .f32⟩
  | 65 => ⟨S64, .f32⟩
  | 66 => ⟨S16x2048x8x64, .f32⟩
  | 67 => ⟨S_, .f32⟩
  | 68 => ⟨S16x2048x8, .f32⟩
  | 69 => ⟨S16x2048x8x1, .f32⟩
  | 70 => ⟨S_, .f32⟩
  | 71 => ⟨S16x2048x8x1, .f32⟩
  | 72 => ⟨S16x2048x8x1, .f32⟩
  | 73 => ⟨S_, .f32⟩
  | 74 => ⟨S16x2048x8x1, .f32⟩
  | 75 => ⟨S16x2048x8x1, .f32⟩
  | 76 => ⟨S16x2048x8x1, .f32⟩
  | 77 => ⟨S16x2048x8x64, .f32⟩
  | 78 => ⟨S16x2048x8x64, .f32⟩
  | 79 => ⟨S1x1x1x64, .f32⟩
  | 80 => ⟨S16x2048x8x64, .f32⟩
  | 81 => ⟨S16x2048x8x64, .f32⟩
  | 82 => ⟨S32768x512, .f32⟩
  | 83 => ⟨S32768x512, .bf16⟩
  | 84 => ⟨S16x2048x8x64, .f32⟩
  | 85 => ⟨S1x64, .f32⟩
  | 86 => ⟨S64, .f32⟩
  | 87 => ⟨S16x2048x8x64, .f32⟩
  | 88 => ⟨S_, .f32⟩
  | 89 => ⟨S16x2048x8, .f32⟩
  | 90 => ⟨S16x2048x8x1, .f32⟩
  | 91 => ⟨S_, .f32⟩
  | 92 => ⟨S16x2048x8x1, .f32⟩
  | 93 => ⟨S16x2048x8x1, .f32⟩
  | 94 => ⟨S_, .f32⟩
  | 95 => ⟨S16x2048x8x1, .f32⟩
  | 96 => ⟨S16x2048x8x1, .f32⟩
  | 97 => ⟨S16x2048x8x1, .f32⟩
  | 98 => ⟨S16x2048x8x64, .f32⟩
  | 99 => ⟨S16x2048x8x64, .f32⟩
  | 100 => ⟨S1x1x1x64, .f32⟩
  | 101 => ⟨S16x2048x8x64, .f32⟩
  | 102 => ⟨S16x2048x8x64, .f32⟩
  | 103 => ⟨S32768x512, .f32⟩
  | 104 => ⟨S32768x512, .bf16⟩
  | 105 => ⟨S32768x512, .f32⟩
  | 106 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_call0_cst : Ref sig .tc := ⟨.hbm, 69, rfl⟩
abbrev main_call0_call0_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call1_call0_cst : Ref sig .tc := ⟨.hbm, 125, rfl⟩
abbrev main_call1_call0_v0 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_15 : Ref sig .tc := ⟨.hbm, 140, rfl⟩
abbrev main_v112 : Ref sig .tc := ⟨.hbm, 141, rfl⟩
abbrev main_v113 : Ref sig .tc := ⟨.hbm, 142, rfl⟩
abbrev main_cst_16 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_17 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_18 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_call2_v0 : Ref sig .tc := ⟨.hbm, 167, rfl⟩
abbrev main_call2_v1 : Ref sig .tc := ⟨.hbm, 168, rfl⟩
abbrev main_call2_cst : Ref sig .tc := ⟨.hbm, 169, rfl⟩
abbrev main_call2_v2 : Ref sig .tc := ⟨.hbm, 170, rfl⟩
abbrev main_call2_v3 : Ref sig .tc := ⟨.hbm, 171, rfl⟩
abbrev main_call2_cst_0 : Ref sig .tc := ⟨.hbm, 172, rfl⟩
abbrev main_call2_v4 : Ref sig .tc := ⟨.hbm, 173, rfl⟩
abbrev main_call2_v5 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_call3_v0 : Ref sig .tc := ⟨.hbm, 180, rfl⟩
abbrev main_call3_v1 : Ref sig .tc := ⟨.hbm, 181, rfl⟩
abbrev main_call3_cst : Ref sig .tc := ⟨.hbm, 182, rfl⟩
abbrev main_call3_v2 : Ref sig .tc := ⟨.hbm, 183, rfl⟩
abbrev main_call3_v3 : Ref sig .tc := ⟨.hbm, 184, rfl⟩
abbrev main_call3_cst_0 : Ref sig .tc := ⟨.hbm, 185, rfl⟩
abbrev main_call3_v4 : Ref sig .tc := ⟨.hbm, 186, rfl⟩
abbrev main_call3_v5 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_19 : Ref sig .tc := ⟨.hbm, 195, rfl⟩
abbrev main_v147 : Ref sig .tc := ⟨.hbm, 196, rfl⟩
abbrev main_v148 : Ref sig .tc := ⟨.hbm, 197, rfl⟩
abbrev main_cst_20 : Ref sig .tc := ⟨.hbm, 198, rfl⟩
abbrev main_v149 : Ref sig .tc := ⟨.hbm, 199, rfl⟩
abbrev main_v150 : Ref sig .tc := ⟨.hbm, 200, rfl⟩
abbrev main_cst_21 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_cst_22 : Ref sig .tc := ⟨.hbm, 216, rfl⟩
abbrev main_v165 : Ref sig .tc := ⟨.hbm, 217, rfl⟩
abbrev main_v166 : Ref sig .tc := ⟨.hbm, 218, rfl⟩
abbrev main_cst_23 : Ref sig .tc := ⟨.hbm, 219, rfl⟩
abbrev main_v167 : Ref sig .tc := ⟨.hbm, 220, rfl⟩
abbrev main_v168 : Ref sig .tc := ⟨.hbm, 221, rfl⟩
abbrev main_cst_24 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩

abbrev nD : Nat := 1
abbrev τ : Topo := Topo.v7x

variable {F : FTy → Type} [FloatOps F]
-- ==== Kernel5.lean ====
abbrev S16x1024 : Shape := ⟨2, ![16, 1024]⟩
abbrev S8x1024 : Shape := ⟨2, ![8, 1024]⟩
abbrev S4x1024x9216 : Shape := ⟨3, ![4, 1024, 9216]⟩
abbrev S4x9216 : Shape := ⟨2, ![4, 9216]⟩
abbrev S24x1024 : Shape := ⟨2, ![24, 1024]⟩
abbrev S4x1x9216 : Shape := ⟨3, ![4, 1, 9216]⟩
abbrev S4x24x9216 : Shape := ⟨3, ![4, 24, 9216]⟩
abbrev S1x1024x1152 : Shape := ⟨3, ![1, 1024, 1152]⟩
abbrev S1x1x1152 : Shape := ⟨3, ![1, 1, 1152]⟩
abbrev S1x24x1152 : Shape := ⟨3, ![1, 24, 1152]⟩
abbrev S1024x1152 : Shape := ⟨2, ![1024, 1152]⟩
abbrev S24x1152 : Shape := ⟨2, ![24, 1152]⟩
abbrev S1x1152 : Shape := ⟨2, ![1, 1152]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S8x1024, .f32⟩
  | .hbm, ⟨2, _⟩ => ⟨S4x1024x9216, .f32⟩
  | .hbm, ⟨3, _⟩ => ⟨S4x9216, .f32⟩
  | .hbm, ⟨4, _⟩ => ⟨S24x1024, .f32⟩
  | .hbm, ⟨5, _⟩ => ⟨S4x1x9216, .f32⟩
  | .hbm, ⟨6, _⟩ => ⟨S4x24x9216, .f32⟩
  | .local _ .vmem, ⟨0, _⟩ => ⟨S24x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x24x1152, .f32⟩
  | .local _ .vmem, ⟨6, _⟩ => ⟨S1x24x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S8x1024 : Shape := ⟨2, ![8, 1024]⟩
abbrev S4x1024x9216 : Shape := ⟨3, ![4, 1024, 9216]⟩
abbrev S4x9216 : Shape := ⟨2, ![4, 9216]⟩
abbrev S24x1024 : Shape := ⟨2, ![24, 1024]⟩
abbrev S_ : Shape := ⟨0, ![]⟩
abbrev S4x9216x24 : Shape := ⟨3, ![4, 9216, 24]⟩
abbrev S4x24x9216 : Shape := ⟨3, ![4, 24, 9216]⟩
abbrev S4x1x9216 : Shape := ⟨3, ![4, 1, 9216]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x1024, .f32⟩
  | .hbm, ⟨2, _⟩ => ⟨S4x1024x9216, .f32⟩
  | .hbm, ⟨3, _⟩ => ⟨S4x9216, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S4x9216x24, .f32⟩
  | .hbm, ⟨15, _⟩ => ⟨S4x24x9216, .f32⟩
  | .hbm, ⟨16, _⟩ => ⟨S4x1x9216, .f32⟩
  | .hbm, ⟨17, _⟩ => ⟨S4x24x9216, .f32⟩
  | .hbm, ⟨18, _⟩ => ⟨S4x24x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel6.lean ====
abbrev S32768x1024 : Shape := ⟨2, ![32768, 1024]⟩
abbrev S32768x512 : Shape := ⟨2, ![32768, 512]⟩
abbrev S4x128 : Shape := ⟨2, ![4, 128]⟩
abbrev S4x1024x1024 : Shape := ⟨3, ![4, 1024, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S4x3x1x1024 : Shape := ⟨4, ![4, 3, 1, 1024]⟩
abbrev S4x1x128 : Shape := ⟨3, ![4, 1, 128]⟩
abbrev S512x1024 : Shape := ⟨2, ![512, 1024]⟩
abbrev S512x512 : Shape := ⟨2, ![512, 512]⟩
abbrev S1x1x128 : Shape := ⟨3, ![1, 1, 128]⟩
abbrev S1x1024x1024 : Shape := ⟨3, ![1, 1024, 1024]⟩
abbrev S1x1x9x1024 : Shape := ⟨4, ![1, 1, 9, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x512x1024 : Shape := ⟨3, ![1, 512, 1024]⟩
abbrev S1x1024 : Shape := ⟨2, ![1, 1024]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 19
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S4x128, .f32⟩
  | .hbm, ⟨6, _⟩ => ⟨S4x1024x1024, .f32⟩
  | .hbm, ⟨7, _⟩ => ⟨S4x24x9x1024, .f32⟩
  | .hbm, ⟨8, _⟩ => ⟨S4x3x1024, .f32⟩
  | .hbm, ⟨9, _⟩ => ⟨S4x2x1024x2816, .f32⟩
  | .hbm, ⟨10, _⟩ => ⟨S4x2x1024x2816, .f32⟩
  | .hbm, ⟨11, _⟩ => ⟨S4x2x2816x1024, .f32⟩
  | .hbm, ⟨12, _⟩ => ⟨S4x3x1x1024, .f32⟩
  | .hbm, ⟨13, _⟩ => ⟨S4x2x1024x2816, .bf16⟩
  | .hbm, ⟨14, _⟩ => ⟨S4x2x1024x2816, .bf16⟩
  | .hbm, ⟨15, _⟩ => ⟨S4x2x2816x1024, .bf16⟩
  | .hbm, ⟨16, _⟩ => ⟨S4x1024x1024, .bf16⟩
  | .hbm, ⟨17, _⟩ => ⟨S4x1x128, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1x128, .f32⟩
  | .local _ .vmem, ⟨11, _⟩ => ⟨S1x1024x1024, .bf16⟩
  | .local _ .vmem, ⟨12, _⟩ => ⟨S1x1x9x1024, .f32⟩
  | .local _ .vmem, ⟨13, _⟩ => ⟨S1x1x9x1024, .f32⟩
  | .local _ .vmem, ⟨14, _⟩ => ⟨S1x1x1x1024, .f32⟩
  | .local _ .vmem, ⟨15, _⟩ => ⟨S1x1x1024x2816, .bf16⟩
  | .local _ .vmem, ⟨16, _⟩ => ⟨S1x1x1024x2816, .bf16⟩
  | .local _ .vmem, ⟨17, _⟩ => ⟨S1x1x2816x1024, .bf16⟩
  | .local _ .vmem, ⟨18, _⟩ => ⟨S512x1024, .f32⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi c16_i32 v17
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_8 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32768x1024 : Shape := ⟨2, ![32768, 1024]⟩
abbrev S32768x512 : Shape := ⟨2, ![32768, 512]⟩
abbrev S4x128 : Shape := ⟨2, ![4, 128]⟩
abbrev S4x1024x1024 : Shape := ⟨3, ![4, 1024, 1024]⟩
abbrev S4x24x9x1024 : Shape := ⟨4, ![4, 24, 9, 1024]⟩
abbrev S4x3x1024 : Shape := ⟨3, ![4, 3, 1024]⟩
abbrev S4x2x1024x2816 : Shape := ⟨4, ![4, 2, 1024, 2816]⟩
abbrev S4x2x2816x1024 : Shape := ⟨4, ![4, 2, 2816, 1024]⟩
abbrev S8x4096x1024 : Shape := ⟨3, ![8, 4096, 1024]⟩
abbrev S1x8x9x1024 : Shape := ⟨4, ![1, 8, 9, 1024]⟩
abbrev S8x9x1024 : Shape := ⟨3, ![8, 9, 1024]⟩
abbrev S8x3x3x1024 : Shape := ⟨4, ![8, 3, 3, 1024]⟩
abbrev S8x3x3x1x1024 : Shape := ⟨5, ![8, 3, 3, 1, 1024]⟩
abbrev S8x4096x4x128 : Shape := ⟨4, ![8, 4096, 4, 128]⟩
abbrev S1x128 : Shape := ⟨2, ![1, 128]⟩
abbrev S128 : Shape := ⟨1, ![128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩
abbrev S1x1024x1024 : Shape := ⟨3, ![1, 1024, 1024]⟩
abbrev S1024x1024 : Shape := ⟨2, ![1024, 1024]⟩
abbrev S8x1x1x1x1024 : Shape := ⟨5, ![8, 1, 1, 1, 1024]⟩
abbrev S8x1x1024 : Shape := ⟨3, ![8, 1, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S8x1x3x1x1024 : Shape := ⟨5, ![8, 1, 3, 1, 1024]⟩
abbrev S8x3x1x1024 : Shape := ⟨4, ![8, 3, 1, 1024]⟩
abbrev S8x1x1x1024 : Shape := ⟨4, ![8, 1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x4096x2816 : Shape := ⟨3, ![8, 4096, 2816]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S4x128, .f32⟩
  | .hbm, ⟨6, _⟩ => ⟨S4x1024x1024, .f32⟩
  | .hbm, ⟨7, _⟩ => ⟨S4x24x9x1024, .f32⟩
  | .hbm, ⟨8, _⟩ => ⟨S4x3x1024, .f32⟩
  | .hbm, ⟨9, _⟩ => ⟨S4x2x1024x2816, .f32⟩
  | .hbm, ⟨10, _⟩ => ⟨S4x2x1024x2816, .f32⟩
  | .hbm, ⟨11, _⟩ => ⟨S4x2x2816x1024, .f32⟩
  | .hbm, ⟨12, _⟩ => ⟨S8x4096x1024, .f32⟩
  | .hbm, ⟨13, _⟩ => ⟨S1x8x9x1024, .f32⟩
  | .hbm, ⟨14, _⟩ => ⟨S8x9x1024, .f32⟩
  | .hbm, ⟨15, _⟩ => ⟨S8x3x3x1024, .f32⟩
  | .hbm, ⟨16, _⟩ => ⟨S8x3x3x1x1024, .f32⟩
  | .hbm, ⟨17, _⟩ => ⟨S8x4096x4x128, .f32⟩
  | .hbm, ⟨18, _⟩ => ⟨S8x4096x4x128, .f32⟩
  | .hbm, ⟨19, _⟩ => ⟨S8x4096x4x128, .f32⟩
  | .hbm, ⟨20, _⟩ => ⟨S1x128, .f32⟩
  | .hbm, ⟨21, _⟩ => ⟨S128, .f32⟩
  | .hbm, ⟨22, _⟩ => ⟨S8x4096x4x128, .f32⟩
  | .hbm, ⟨23, _⟩ => ⟨S_, .f32⟩
  | .hbm, ⟨24, _⟩ => ⟨S8x4096x4, .f32⟩
  | .hbm, ⟨25, _⟩ => ⟨S8x4096x4x1, .f32⟩
  | .hbm, ⟨26, _⟩ => ⟨S_, .f32⟩
  | .hbm, ⟨27, _⟩ => ⟨S8x4096x4x1, .f32⟩
  | .hbm, ⟨28, _⟩ => ⟨S8x4096x4x1, .f32⟩
  | .hbm, ⟨29, _⟩ => ⟨S_, .f32⟩
  | .hbm, ⟨30, _⟩ => ⟨S8x4096x4x1, .f32⟩
  | .hbm, ⟨31, _⟩ => ⟨S8x4096x4x1, .f32⟩
  | .hbm, ⟨32, _⟩ => ⟨S8x4096x4x1, .f32⟩
  | .hbm, ⟨33, _⟩ => ⟨S8x4096x4x128, .f32⟩
  | .hbm, ⟨34, _⟩ => ⟨S8x4096x4x128, .f32⟩
  | .hbm, ⟨35, _⟩ => ⟨S1x1x1x128, .f32⟩
  | .hbm, ⟨36, _⟩ => ⟨S8x4096x4x128, .f32⟩
  | .hbm, ⟨37, _⟩ => ⟨S8x4096x4x128, .f32⟩
  | .hbm, ⟨38, _⟩ => ⟨S8x4096x512, .f32⟩
  | .hbm, ⟨39, _⟩ => ⟨S32768x512, .f32⟩
  | .hbm, ⟨40, _⟩ => ⟨S8x4096x512, .f32⟩
  | .hbm, ⟨41, _⟩ => ⟨S8x4096x512, .f32⟩
  | .hbm, ⟨42, _⟩ => ⟨S32768x512, .f32⟩
  | .hbm, ⟨43, _⟩ => ⟨S8x4096x512, .f32⟩
  | .hbm, ⟨44, _⟩ => ⟨S8x4096x1024, .f32⟩
  | .hbm, ⟨45, _⟩ => ⟨S1x1024x1024, .f32⟩
  | .hbm, ⟨46, _⟩ => ⟨S1024x1024, .f32⟩
  | .hbm, ⟨47, _⟩ => ⟨S8x4096x1024, .f32⟩
  | .hbm, ⟨48, _⟩ => ⟨S8x1x1x1x1024, .f32⟩
  | .hbm, ⟨49, _⟩ => ⟨S8x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S8x1x3x1x1024, .f32⟩
  | .hbm, ⟨72, _⟩ => ⟨S8x3x1x1024, .f32⟩
  | .hbm, ⟨73, _⟩ => ⟨S8x1x1x1024, .f32⟩
  | .hbm, ⟨74, _⟩ => ⟨S8x1x1024, .f32⟩
  | .hbm, ⟨75, _⟩ => ⟨S_, .f32⟩
  | .hbm, ⟨76, _⟩ => ⟨S8x1x1024, .f32⟩
  | .hbm, ⟨77, _⟩ => ⟨S8x1x1024, .f32⟩
  | .hbm, ⟨78, _⟩ => ⟨S8x4096x1024, .f32⟩
  | .hbm, ⟨79, _⟩ => ⟨S8x4096x1024, .f32⟩
  | .hbm, ⟨80, _⟩ => ⟨S8x1x1x1024, .f32⟩
  | .hbm, ⟨81, _⟩ => ⟨S8x1x1024, .f32⟩
  | .hbm, ⟨82, _⟩ => ⟨S8x4096x1024, .f32⟩
  | .hbm, ⟨83, _⟩ => ⟨S8x4096x1024, .f32⟩
  | .hbm, ⟨84, _⟩ => ⟨S8x1x1x1x1024, .f32⟩
  | .hbm, ⟨85, _⟩ => ⟨S8x1x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S1x1x1024x2816, .f32⟩
  | .hbm, ⟨90, _⟩ => ⟨S1024x2816, .f32⟩
  | .hbm, ⟨91, _⟩ => ⟨S1x1x1024x2816, .f32⟩
  | .hbm, ⟨92, _⟩ => ⟨S1024x2816, .f32⟩
  | .hbm, ⟨93, _⟩ => ⟨S1x1x2816x1024, .f32⟩
  | .hbm, ⟨94, _⟩ => ⟨S2816x1024, .f32⟩
  | .hbm, ⟨95, _⟩ => ⟨S8x4096x2816, .f32⟩
  | .hbm, ⟨96, _⟩ => ⟨S8x4096x2816, .f32⟩
  | .hbm, ⟨97, _⟩ => ⟨S8x4096x2816, .f32⟩
  | .hbm, ⟨98, _⟩ => ⟨S_, .f32⟩
  | .hbm, ⟨99, _⟩ => ⟨S8x4096x2816, .f32⟩
  | .hbm, ⟨100, _⟩ => ⟨S8x4096x2816, .f32⟩
  | .hbm, ⟨101, _⟩ => ⟨S_, .f32⟩
  | .hbm, ⟨102, _⟩ => ⟨S8x4096x2816, .f32⟩
  | .hbm, ⟨103, _⟩ => ⟨S8x4096x2816, .f32⟩
  | .hbm, ⟨104, _⟩ => ⟨S8x4096x2816, .f32⟩
  | .hbm, ⟨105, _⟩ => ⟨S8x4096x2816, .f32⟩
  | .hbm, ⟨106, _⟩ => ⟨S8x4096x2816, .f32⟩
  | .hbm, ⟨107, _⟩ => ⟨S8x4096x1024, .f32⟩
  | .hbm, ⟨108, _⟩ => ⟨S8x4096x1024, .f32⟩
  | .hbm, ⟨109, _⟩ => ⟨S8x4096x1024, .f32⟩
  | .hbm, ⟨110, _⟩ => ⟨S8x4096x1024, .f32⟩
  | .hbm, ⟨111, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Proof.NaCore.lean ====
/-
  The arithmetic of one attention row: scores taken in powers of two, normalised after the sum over the values, against
  the softmax of the scores, normalised before it.
-/
module

public import Idealize.ShloMosaic.PureOps.Ideal
public import Idealize.ShloMosaic.Lib.Claim

@[expose] public section

noncomputable section

namespace Cert.Na

open Idealize.ShloMosaic

variable {n : Nat}

/-- The largest of a row's scores, from minus infinity. -/
def rowMax (L : Fin n → EReal) : EReal := (Finset.univ : Finset (Fin n)).fold max ⊥ L

/-- A row no score of which is plus infinity and some score of which is a number has a largest score that is a number. -/
theorem rowMax_real (L : Fin n → EReal) (hL : ∀ j, L j ≠ ⊤) (j0 : Fin n) (h0 : L j0 ≠ ⊥) : ∃ x : ℝ, rowMax L = (x : EReal) := by
  have ht : rowMax L ≠ ⊤ := by
    refine ne_of_lt ?_
    unfold rowMax
    rw [Finset.fold_max_lt]
    exact ⟨bot_lt_top, fun j _ => lt_of_le_of_ne le_top (hL j)⟩
  have hb : rowMax L ≠ ⊥ := by
    refine ne_of_gt (lt_of_lt_of_le (bot_lt_iff_ne_bot.mpr h0) ?_)
    unfold rowMax
    rw [Finset.le_fold_max]
    exact Or.inr ⟨j0, Finset.mem_univ _, le_rfl⟩
  exact ⟨(rowMax L).toReal, (EReal.coe_toReal ht hb).symm⟩

/-- The reciprocal of the natural logarithm of two. -/
def log2e : ℝ := (Real.log 2)⁻¹

theorem log2e_pos : 0 < log2e := inv_pos.mpr (Real.log_pos (by norm_num))

/-- A score's weight, before any shift: its exponential, or nothing for a masked key. -/
def wt (x : EReal) : ℝ := if x = ⊥ then 0 else Real.exp x.toReal

theorem wt_nonneg (x : EReal) : 0 ≤ wt x := by
  unfold wt; split
  · exact le_rfl
  · exact (Real.exp_pos _).le

theorem wt_pos {x : EReal} (h : x ≠ ⊥) : 0 < wt x := by
  unfold wt; rw [if_neg h]; exact Real.exp_pos _

theorem exp_sub (x : EReal) (hx : x ≠ ⊤) (M : ℝ) : Ideal.exp (x - (M : EReal)) = ((wt x * Real.exp (-M) : ℝ) : EReal) := by
  by_cases hb : x = ⊥
  · subst hb
    rw [EReal.bot_sub]
    unfold wt; rw [if_pos rfl, zero_mul]
    rfl
  · have e : x = (x.toReal : EReal) := (EReal.coe_toReal hx hb).symm
    unfold wt; rw [if_neg hb, ← Real.exp_add]
    conv_lhs => rw [e, ← EReal.coe_sub]
    exact congrArg (fun r : ℝ => (Real.exp r : EReal)) (sub_eq_add_neg _ _)

theorem exp2_sub (x : EReal) (hx : x ≠ ⊤) (M : ℝ) :
    Ideal.exp2 (x * (log2e : EReal) - (M : EReal)) = ((wt x * Real.rpow 2 (-M) : ℝ) : EReal) := by
  by_cases hb : x = ⊥
  · subst hb
    rw [EReal.bot_mul_coe_of_pos log2e_pos, EReal.bot_sub]
    unfold wt; rw [if_pos rfl, zero_mul]
    rfl
  · have e : x = (x.toReal : EReal) := (EReal.coe_toReal hx hb).symm
    unfold wt; rw [if_neg hb]
    conv_lhs => rw [e, ← EReal.coe_mul, ← EReal.coe_sub]
    show ((Real.rpow 2 (x.toReal * log2e - M) : ℝ) : EReal) = _
    refine congrArg (fun r : ℝ => (r : EReal)) ?_
    show (2 : ℝ) ^ (x.toReal * log2e - M) = Real.exp x.toReal * (2 : ℝ) ^ (-M)
    rw [sub_eq_add_neg, Real.rpow_add (by norm_num)]
    refine congrArg (· * (2 : ℝ) ^ (-M)) ?_
    rw [Real.rpow_def_of_pos (by norm_num)]
    refine congrArg Real.exp ?_
    unfold log2e
    have h2 : Real.log 2 ≠ 0 := (Real.log_pos (by norm_num)).ne'
    field_simp

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sum_coe {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A factor that is a real not below zero goes into a sum of extended reals. -/
theorem sum_mul_coe (f : Fin n → EReal) (c : ℝ) (hc : 0 ≤ c) : (∑ j, f j) * (c : EReal) = ∑ j, f j * (c : EReal) := by
  have key : ∀ s : Finset (Fin n), (∑ j ∈ s, f j) * (c : EReal) = ∑ j ∈ s, f j * (c : EReal) := fun s => by
    induction s using Finset.induction_on with
    | empty => simp
    | insert a s ha ih =>
      rw [Finset.sum_insert ha, Finset.sum_insert ha, EReal.right_distrib_of_nonneg_of_ne_top (EReal.coe_nonneg.2 hc) (EReal.coe_ne_top c), ih]
  exact key _

/-- One attention row: the weights in powers of two of the scores over `ln 2`, shifted by their largest, summed against the
    values and normalised at the end, are the softmax of the scores summed against the values. -/
theorem row_eq (L S : Fin n → EReal) (hL : ∀ j, L j ≠ ⊤) (j0 : Fin n) (h0 : L j0 ≠ ⊥) (hS : ∀ j, S j = L j * (log2e : EReal)) (v : Fin n → EReal) :
    (∑ j, Ideal.exp2 (S j - rowMax S) * v j) * Ideal.div 1 (∑ j, Ideal.exp2 (S j - rowMax S))
      = ∑ j, Ideal.div (Ideal.exp (L j - rowMax L)) (∑ k, Ideal.exp (L k - rowMax L)) * v j := by
  obtain ⟨M, hM⟩ := rowMax_real L hL j0 h0
  have hS' : ∀ j, S j ≠ ⊤ := fun j => by
    rw [hS]
    by_cases hb : L j = ⊥
    · rw [hb, EReal.bot_mul_coe_of_pos log2e_pos]; exact bot_ne_top
    · rw [← EReal.coe_toReal (hL j) hb, ← EReal.coe_mul]; exact EReal.coe_ne_top _
  have hS0 : S j0 ≠ ⊥ := by
    rw [hS, ← EReal.coe_toReal (hL j0) h0, ← EReal.coe_mul]; exact EReal.coe_ne_bot _
  obtain ⟨N, hN⟩ := rowMax_real S hS' j0 hS0
  have hW : 0 < ∑ j, wt (L j) := Finset.sum_pos' (fun j _ => wt_nonneg _) ⟨j0, Finset.mem_univ _, wt_pos h0⟩
  have e2 : ∀ j, Ideal.exp2 (S j - rowMax S) = ((wt (L j) * Real.rpow 2 (-N) : ℝ) : EReal) := fun j => by
    rw [hN, hS]; exact exp2_sub _ (hL j) N
  have e1 : ∀ j, Ideal.exp (L j - rowMax L) = ((wt (L j) * Real.exp (-M) : ℝ) : EReal) := fun j => by
    rw [hM]; exact exp_sub _ (hL j) M
  have p2 : (0 : ℝ) < Real.rpow 2 (-N) := Real.rpow_pos_of_pos (by norm_num) _
  have p1 := Real.exp_pos (-M)
  simp only [e2, e1, sum_coe]
  have d1 : (∑ k, wt (L k) * Real.exp (-M)) ≠ 0 := by rw [← Finset.sum_mul]; exact (mul_pos hW p1).ne'
  have d2 : (∑ k, wt (L k) * Real.rpow 2 (-N)) ≠ 0 := by rw [← Finset.sum_mul]; exact (mul_pos hW p2).ne'
  have one : (1 : EReal) = ((1 : ℝ) : EReal) := rfl
  rw [one, div_coe _ _ d2]
  have c0 : (0 : ℝ) ≤ 1 / ∑ k, wt (L k) * Real.rpow 2 (-N) := by
    rw [← Finset.sum_mul]; exact div_nonneg zero_le_one (mul_pos hW p2).le
  rw [sum_mul_coe _ _ c0]
  refine Finset.sum_congr rfl fun j _ => ?_
  rw [div_coe _ _ d1, mul_right_comm, ← EReal.coe_mul]
  refine congrArg (fun r : ℝ => (r : EReal) * v j) ?_
  rw [← Finset.sum_mul, ← Finset.sum_mul]
  have hW' := hW.ne'
  have p1' := p1.ne'
  have p2' := p2.ne'
  field_simp

end Cert.Na
-- ==== Proof.NaSpec.lean ====
/-
  The neighbourhood attention as a function of the arrays: the token grid's rows and columns, a query's window, its scores
  with the bias of the relative position, and the softmax-weighted sum of the values.
-/
module

public import Idealize.ShloMosaic.Lib.Pipeline.Value
public import Idealize.ShloMosaic.Lib.ValueIdx
public import Idealize.ShloMosaic.Lib.MatmulPlain
public import Idealize.ShloMosaic.PureOps.Ideal.Laws
public import proofs.«01_k».proof.Proof.NaCore

@[expose] public section

noncomputable section

namespace Cert.Na

open Idealize.ShloMosaic Idealize.ShloMosaic.ValueIdx

/-- The first row of the window of grid row `t`. -/
def rowStart (t : Nat) : Nat := min (t - 4) 24

/-- The row of the bias table for the window's row `w` seen from grid row `t`. -/
def relRow (t : Fin 32) (w : Fin 8) : Fin 15 := ⟨rowStart t.val + w.val + 7 - t.val, by unfold rowStart; omega⟩

/-- The column of the bias table for key column `kc` seen from query column `qc`. -/
def relCol (qc kc : Fin 64) : Fin 31 := ⟨min (kc.val + 15 - qc.val) 30, by omega⟩

/-- Key column `kc` is within the window of query column `qc`. -/
def near (qc kc : Fin 64) : Prop := min (qc.val - 8) 48 ≤ kc.val ∧ kc.val < min (qc.val - 8) 48 + 16
instance (qc kc : Fin 64) : Decidable (near qc kc) := inferInstanceAs (Decidable (_ ∧ _))

/-- Channel `d` of head `h`. -/
def chan (h : Fin 8) (d : Fin 64) : Fin 512 := ⟨h.val * 64 + d.val, by omega⟩
/-- The token of sequence `b` at grid row `t` and column `qc`. -/
def token (b : Fin 16) (t : Fin 32) (qc : Fin 64) : Fin 32768 := ⟨b.val * 2048 + t.val * 64 + qc.val, by omega⟩
/-- The token of the `j`-th key of the window of grid row `t` of sequence `b`. -/
def key (b : Fin 16) (t : Fin 32) (j : Fin 512) : Fin 32768 :=
  ⟨b.val * 2048 + rowStart t.val * 64 + j.val, by unfold rowStart; omega⟩
/-- The window's row and the grid column of its `j`-th key. -/
def keyRow (j : Fin 512) : Fin 8 := ⟨j.val / 64, by omega⟩
def keyCol (j : Fin 512) : Fin 64 := ⟨j.val % 64, by omega⟩

/-- The bias of a query and a key: the table's entry at their relative position, minus infinity outside the window. -/
def bias (rpb : (⟨4, ![4, 8, 15, 31]⟩ : Shape).Idx → EReal) (h : Fin 8) (t : Fin 32) (qc : Fin 64) (j : Fin 512) : EReal :=
  if near qc (keyCol j) then rpb (ix4 0 h (relRow t (keyRow j)) (relCol qc (keyCol j))) else ⊥

/-- A query's scores. -/
def score (q k : (⟨2, ![32768, 512]⟩ : Shape).Idx → EReal) (rpb : (⟨4, ![4, 8, 15, 31]⟩ : Shape).Idx → EReal)
    (b : Fin 16) (t : Fin 32) (qc : Fin 64) (h : Fin 8) (j : Fin 512) : EReal :=
  (∑ d : Fin 64, q (ix2 (token b t qc) (chan h d)) * k (ix2 (key b t j) (chan h d))) * ((1 / 8 : ℝ) : EReal) + bias rpb h t qc j

/-- The softmax of a row of scores against the values. -/
def attend (L v : Fin 512 → EReal) : EReal :=
  ∑ j, Ideal.div (Ideal.exp (L j - rowMax L)) (∑ i, Ideal.exp (L i - rowMax L)) * v j

/-- The attention's result at token `(b, t, qc)` and channel `(h, d)`. -/
def attn (q k v : (⟨2, ![32768, 512]⟩ : Shape).Idx → EReal) (rpb : (⟨4, ![4, 8, 15, 31]⟩ : Shape).Idx → EReal)
    (b : Fin 16) (t : Fin 32) (qc : Fin 64) (h : Fin 8) (d : Fin 64) : EReal :=
  attend (score q k rpb b t qc h) fun j => v (ix2 (key b t j) (chan h d))

/-- The sequence, grid row and column of token `n`; the head and the place in it of channel `ch`. -/
def seqOf (n : Fin 32768) : Fin 16 := ⟨n.val / 2048, by omega⟩
def rowOf (n : Fin 32768) : Fin 32 := ⟨n.val % 2048 / 64, by omega⟩
def colOf (n : Fin 32768) : Fin 64 := ⟨n.val % 64, by omega⟩
def headOf (ch : Fin 512) : Fin 8 := ⟨ch.val / 64, by omega⟩
def inHead (ch : Fin 512) : Fin 64 := ⟨ch.val % 64, by omega⟩

/-- Every query sees the key straight across: its own column is within its window. -/
theorem near_self (qc : Fin 64) : near qc qc := by unfold near; omega

end Cert.Na

end
-- ==== Proof.FfnSpec.lean ====
/-
  The feed-forward half of the layer as ONE function of one row of its input, on the extended reals: what both the kernel
  and the reference are shown to compute, row by row. No program is mentioned here.
-/
module

public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Ffn

open Idealize.ShloMosaic Idealize.ShloMosaic.ValueIdx

/-- The width 1024, the epsilon, one and a half, as the programs write them. -/
def width : EReal := Ideal.ofBits .f32 0x44800000#32
def eps : EReal := Ideal.ofBits .f32 0x358637BD#32
def one : EReal := Ideal.ofBits .f32 0x3F800000#32
def half : EReal := Ideal.ofBits .f32 0x3F000000#32

/-- A row divided by its root mean square, scaled by the norm's weight `g`, by one plus the modulation's scale `sc`, and
    shifted by `sh`. -/
def normRow (x g sc sh : Fin 1024 → EReal) (k : Fin 1024) : EReal :=
  x k * Ideal.rsqrt (Ideal.div (∑ j, x j * x j) width + eps) * g k * (one + sc k) + sh k

/-- `z · 1/(1 + e^(−z))`. -/
def silu (z : EReal) : EReal := z * Ideal.div one (one + Ideal.exp (-z))

/-- The gated hidden layer at hidden unit `f`. -/
def hid (h : Fin 1024 → EReal) (wg wu : Fin 1024 → Fin 2816 → EReal) (f : Fin 2816) : EReal :=
  silu (∑ k, h k * wg k f) * ∑ k, h k * wu k f

/-- The row plus half the gate times the feed-forward of the normed row. -/
def ffnRow (x g sc sh gt : Fin 1024 → EReal) (wg wu : Fin 1024 → Fin 2816 → EReal) (wd : Fin 2816 → Fin 1024 → EReal)
    (j : Fin 1024) : EReal :=
  x j + half * gt j * ∑ f, hid (normRow x g sc sh) wg wu f * wd f j

/-! ## Layout operations of unit axes, read at an index -/

section Layout
variable {α : Type}

/-- Two leading unit axes dropped. -/
theorem cast11_apply {a b : Nat} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 0 0 p q) := by
  refine shapeCast_apply x h _ _ ?_
  rw [Shape.rowMajor_val_four, Shape.rowMajor_val_two]
  show ((0 * 1 + 0) * a + p.val) * b + q.val = p.val * b + q.val
  rw [Nat.zero_mul, Nat.zero_add]

/-- A trailing unit axis added. -/
theorem cast_col_apply {a : Nat} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) := by
  refine shapeCast_apply x h _ _ ?_
  rw [Shape.rowMajor_val_one, Shape.rowMajor_val_two]
  have := q.isLt
  show p.val = p.val * 1 + q.val
  omega

/-- One row broadcast down. -/
theorem bcast_row_apply {a b : Nat} (hb : b ≠ 1) (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) := by
  refine broadcastTo_apply x h _ _ fun c => ?_
  match c with
  | ⟨0, _⟩ => rfl
  | ⟨1, _⟩ => exact (if_neg hb).symm

/-- One column broadcast across. -/
theorem bcast_col_apply {a b : Nat} (ha : a ≠ 1) (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) := by
  refine broadcastTo_apply x h _ _ fun c => ?_
  match c with
  | ⟨0, _⟩ => exact (if_neg ha).symm
  | ⟨1, _⟩ => rfl

/-- The sum over the columns, at row `p`. -/
theorem rowSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun c => Fin.ext ?_)
  match c with
  | ⟨0, _⟩ => rfl
  | ⟨1, _⟩ => rfl

/-- A plain product into a zero accumulator. -/
theorem mm_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  rw [constant_apply, Ideal.ofBits_zero_f32, zero_add]

end Layout

end Cert.Ffn

end
-- ==== Proof.NaKernel.lean ====
/-
  The attention kernel's arithmetic read at one element: one grid row of the block its body stores is the shifted softmax in
  powers of two of the row's scores, and the block is its 32 grid rows.
-/
module

public import proofs.«01_k».proof.Proof.NaSpec
public import proofs.«01_k».proof.Proof.FfnSpec
public import proofs.«01_k».proof.Proof.Gen.KernelIdeal.Value
public import Idealize.ShloMosaic.Lib.Pipeline.ValueKit.Tiles
public import Idealize.ShloMosaic.Lib.Claim

@[expose] public section

set_option maxRecDepth 16384

noncomputable section

namespace Cert.Proof.NaKernel

open Idealize.ShloMosaic Idealize.ShloMosaic.ValueIdx Idealize.ShloMosaic.TcCoe Idealize.SL.Sem
open Cert.KernelIdeal Cert.KernelIdeal.Gen Cert.Na
open Cert.Ffn (cast_col_apply bcast_col_apply rowSum_apply mm_apply)
open Idealize.ShloMosaic.Pipeline (Dat Cfg Window)

/-! ## Layout operations read at an index -/

/-- The largest over the columns, at row `p`. -/
theorem rowMax_apply {a b : Nat} (src : FVec Ideal ⟨2, ![a, b]⟩ .f32)
    (h : (⟨2, ![a, b]⟩ : Shape).Reduces [1] ⟨1, ![a]⟩) (hφ : FKind.Formats .f32) (hacc) (p : Fin a) :
    multiReduction .maximumf [1] ⟨1, ![a]⟩ src 0xFF800000#32 h hφ hacc (ix1 p) = rowMax fun k : Fin b => src (ix2 p k) := by
  rw [Ideal.multiReduction_maximumf_single]
  unfold rowMax
  have e : (FloatOps.ofBits (F := Ideal) .f32 0xFF800000#32) = (⊥ : EReal) := by
    show Ideal.ofBits .f32 0xFF800000#32 = ⊥
    simp [Ideal.ofBits, Ideal.ieee]
  rw [e]
  refine congrArg (fun g => Finset.fold max ⊥ g Finset.univ) (funext fun k => congrArg src (funext fun c => Fin.ext ?_))
  match c with
  | ⟨0, _⟩ => rfl
  | ⟨1, _⟩ => rfl

/-- One leading unit axis dropped, or added. -/
theorem drop1_apply {α : Type} {a b : Nat} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 0 p q) := by
  refine shapeCast_apply x h _ _ ?_
  rw [Shape.rowMajor_val_three, Shape.rowMajor_val_two]
  show (0 * a + p.val) * b + q.val = p.val * b + q.val
  rw [Nat.zero_mul, Nat.zero_add]
theorem add1_apply {α : Type} {a b : Nat} (x : (⟨2, ![a, b]⟩ : Shape).Idx → α)
    (h : (⟨2, ![a, b]⟩ : Shape).ShapeCasts ⟨3, ![1, a, b]⟩) (p : Fin a) (q : Fin b) :
    shapeCast ⟨3, ![1, a, b]⟩ x h (ix3 0 p q) = x (ix2 p q) := by
  refine shapeCast_apply x h _ _ ?_
  rw [Shape.rowMajor_val_three, Shape.rowMajor_val_two]
  show p.val * b + q.val = (0 * a + p.val) * b + q.val
  rw [Nat.zero_mul, Nat.zero_add]
/-- Three leading unit axes dropped. -/
theorem drop3_apply {α : Type} {a b : Nat} (x : (⟨5, ![1, 1, 1, a, b]⟩ : Shape).Idx → α)
    (h : (⟨5, ![1, 1, 1, a, b]⟩ : Shape).ShapeCasts ⟨2, ![a, b]⟩) (p : Fin a) (q : Fin b) :
    shapeCast ⟨2, ![a, b]⟩ x h (ix2 p q) = x (ix5 0 0 0 p q) := by
  refine shapeCast_apply x h _ _ ?_
  rw [Shape.rowMajor_val_five, Shape.rowMajor_val_two]
  show (((0 * 1 + 0) * 1 + 0) * a + p.val) * b + q.val = p.val * b + q.val
  rw [Nat.zero_mul, Nat.zero_add]

/-- Lane `e` of head `u` of a pair, and the pair's row of query `i` for head `u`. -/
def lane (u : Fin 2) (e : Fin 64) : Fin 128 := ⟨u.val * 64 + e.val, by omega⟩

/-- The lanes of the pair's first head. -/
theorem first_apply (i : Fin 64) (u : Fin 2) (e : Fin 64) : k0_pay2 (ix2 i (lane u e)) = if u = 0 then 1#1 else 0#1 := by
  unfold k0_pay2
  show IntOp.cmpi .slt (iota .tc S64x128 32 [1] iota_S64x128_d1_w32 (ix2 i (lane u e))) 64#32 = _
  rw [iota_single_apply]
  exact (by decide +kernel : ∀ (u : Fin 2) (e : Fin 64), IntOp.cmpi .slt (BitVec.ofNat 32 (lane u e).val) 64#32 = if u = 0 then 1#1 else 0#1) u e

/-- Two blocks of rows one above the other. -/
theorem stack_apply (x y : FVec Ideal S64x128 .bf16) (u : Fin 2) (i : Fin 64) (l : Fin 128) :
    concatenate S128x128 0 [⟨S64x128, x⟩, ⟨S64x128, y⟩] concatenates_S64x128_S64x128_S128x128_d0 (ix2 (lane u i) l)
      = (![x, y] u) (ix2 i l) := by
  have h0 : ∀ c : Fin 2, c.cast rfl ≠ (0 : Fin 2) → ((ix2 i l : S64x128.Idx) c).val = ((ix2 (lane u i) l : S128x128.Idx) (c.cast rfl)).val := by
    intro c hc
    match c with
    | ⟨0, _⟩ => exact absurd rfl hc
    | ⟨1, _⟩ => rfl
  match u with
  | ⟨0, _⟩ => exact concatenate_apply_piece (t := S128x128) 0 [⟨S64x128, x⟩, ⟨S64x128, y⟩] _ (ix2 (lane ⟨0, by decide⟩ i) l) 0 (by simp) S64x128 x rfl rfl 0 rfl (ix2 i l) h0 rfl
  | ⟨1, _⟩ => exact concatenate_apply_piece (t := S128x128) 0 [⟨S64x128, x⟩, ⟨S64x128, y⟩] _ (ix2 (lane ⟨1, by decide⟩ i) l) 1 (by simp) S64x128 y rfl rfl 64 rfl (ix2 i l) h0 rfl

/-- A product against the transpose, into a zero accumulator. -/
theorem mmT_apply {M K N : ℕ} {φ₁ φ₂ : FTy} (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c) = ∑ k : Fin K, lhs (ix2 r k) * rhs (ix2 c k) := by
  subst hd
  refine (Ideal.matmul_transposedRhs_apply none lhs rhs _ r c).trans ?_
  rw [constant_apply, Ideal.ofBits_zero_f32, zero_add]

/-- A sum over a pair's lanes that vanishes off head `u`. -/
theorem sum_lane (f : Fin 128 → EReal) (u : Fin 2) (h : ∀ (w : Fin 2) (e : Fin 64), w ≠ u → f (lane w e) = 0) :
    ∑ l, f l = ∑ e, f (lane u e) := by
  have hs : ∑ l, f l = (∑ e, f (lane 0 e)) + ∑ e, f (lane 1 e) := by
    refine (Fin.sum_univ_add (a := 64) (b := 64) f).trans (congrArg₂ (· + ·) ?_ ?_)
    · exact Finset.sum_congr rfl fun e _ => congrArg f (Fin.ext (by show e.val = 0 * 64 + e.val; omega))
    · exact Finset.sum_congr rfl fun e _ => congrArg f (Fin.ext (by show 64 + e.val = 1 * 64 + e.val; omega))
  rw [hs]
  match u with
  | ⟨0, _⟩ => rw [Finset.sum_eq_zero (fun e _ => h 1 e (fun h => by simp [Fin.ext_iff] at h)), add_zero]; rfl
  | ⟨1, _⟩ => rw [Finset.sum_eq_zero (s := Finset.univ) (f := fun e => f (lane 0 e)) (fun e _ => h 0 e (fun h => by simp [Fin.ext_iff] at h)), zero_add]; rfl

/-! ## One grid row -/

/-- An eighth over `ln 2`, and one over `ln 2`, as the named constants are read. -/
def scl : EReal := (((1 / 8) * (Real.log 2)⁻¹ : ℝ) : EReal)
def l2e : EReal := (((Real.log 2)⁻¹ : ℝ) : EReal)

/-- The scores of query `i` of head `u` of the pair, in powers of two. -/
theorem score_apply (q : Vec Ideal S64x128 .bf16) (k : Vec Ideal S512x128 .bf16) (b : Vec Ideal S1x1x1x128x512 .f32)
    (u : Fin 2) (i : Fin 64) (j : Fin 512) :
    k0_pay4 (k0_pay3 q k) b (ix3 0 (lane u i) j)
      = (∑ e, q (ix2 i (lane u e)) * scl * k (ix2 j (lane u e))) + b (ix5 0 0 0 (lane u i) j) * l2e := by
  unfold k0_pay4
  rw [add1_apply, addf_apply, mulf_apply, drop3_apply]
  refine congrArg₂ (· + ·) ?_ rfl
  unfold k0_pay3
  refine (mmT_apply (φ₁ := .bf16) (φ₂ := .bf16) _ rfl _ _ (lane u i) j).trans ?_
  refine (sum_lane _ u fun w e hw => ?_).trans (Finset.sum_congr rfl fun e _ => ?_)
  · rw [stack_apply]
    have z : Ideal.ofBits .bf16 0x0000#16 = 0 := by simp [Ideal.ofBits, Ideal.ieee]
    refine (congrArg (· * k (ix2 j (lane w e))) ?_).trans (zero_mul _)
    match u with
    | ⟨0, _⟩ =>
      show Scalar.select (k0_pay2 (ix2 i (lane w e))) _ _ = _
      rw [first_apply, if_neg (show w ≠ 0 from hw)]
      exact z
    | ⟨1, _⟩ =>
      show Scalar.select (k0_pay2 (ix2 i (lane w e))) _ _ = _
      rw [first_apply, if_pos (show w = 0 from Fin.ext (by have h1 : w.val ≠ 1 := fun h => hw (Fin.ext h); show w.val = 0; omega))]
      exact z
  · rw [stack_apply]
    refine congrArg (· * k (ix2 j (lane u e))) ?_
    match u with
    | ⟨0, _⟩ =>
      show Scalar.select (k0_pay2 (ix2 i (lane 0 e))) _ _ = _
      rw [first_apply]
      rfl
    | ⟨1, _⟩ =>
      show Scalar.select (k0_pay2 (ix2 i (lane 1 e))) _ _ = _
      rw [first_apply]
      rfl

/-- The weights, their sum, and the weights again. -/
theorem wts_apply (s : Vec Ideal S1x128x512 .f32) (i : Fin 128) (j : Fin 512) :
    k0_pay31 s (ix2 i j) = Ideal.exp2 (s (ix3 0 i j) - rowMax fun j => s (ix3 0 i j)) := by
  unfold k0_pay31
  show Ideal.exp2 (shapeCast S128x512 s _ (ix2 i j) - broadcastTo S128x512 _ _ (ix2 i j)) = _
  rw [bcast_col_apply (by decide), cast_col_apply, drop1_apply]
  refine congrArg (fun z => Ideal.exp2 (s (ix3 0 i j) - z)) ?_
  refine (rowMax_apply _ _ _ _ i).trans (congrArg rowMax (funext fun j => ?_))
  rw [drop1_apply]
theorem tot_apply (s : Vec Ideal S1x128x512 .f32) (i : Fin 128) :
    k0_pay32 s (ix2 i 0) = ∑ j : Fin 512, Ideal.exp2 (s (ix3 0 i j) - rowMax fun j => s (ix3 0 i j)) := by
  unfold k0_pay32
  rw [cast_col_apply]
  exact (rowSum_apply _ _ _ _ _ i).trans (Finset.sum_congr rfl fun j _ => wts_apply s i j)

theorem ofBits_one : Ideal.ofBits .f32 0x3F800000#32 = 1 := by
  simp [Ideal.ofBits, Ideal.ieee, -EReal.coe_mul]; norm_num

/-- The weighted values over the weights' sum. -/
theorem out_apply (s : Vec Ideal S1x128x512 .f32) (v : Vec Ideal S512x128 .bf16) (i : Fin 64) (u : Fin 2) (e : Fin 64) :
    k0_pay55 k0_pay2 (k0_pay32 s) (k0_pay33 s) v (ix2 i (lane u e))
      = (∑ j : Fin 512, Ideal.exp2 (s (ix3 0 (lane u i) j) - rowMax fun j => s (ix3 0 (lane u i) j)) * v (ix2 j (lane u e)))
          * Ideal.div 1 (∑ j : Fin 512, Ideal.exp2 (s (ix3 0 (lane u i) j) - rowMax fun j => s (ix3 0 (lane u i) j))) := by
  have key : ∀ r : Fin 128, mulf (matmul dot_S128x512_S512x128_S128x128_1_0_0_1_n_n none (k0_pay33 s) v (constant S128x128 .f32 0x00000000#32))
        (broadcastTo S128x128 (divf (broadcast S128x1 (Scalar.ofBits .f32 0x3F800000#32)) (k0_pay32 s)) broadcasts_S128x1_S128x128) (ix2 r (lane u e))
      = (∑ j : Fin 512, Ideal.exp2 (s (ix3 0 r j) - rowMax fun j => s (ix3 0 r j)) * v (ix2 j (lane u e)))
          * Ideal.div 1 (∑ j : Fin 512, Ideal.exp2 (s (ix3 0 r j) - rowMax fun j => s (ix3 0 r j))) := fun r => by
    rw [mulf_apply, bcast_col_apply (by decide)]
    refine congrArg₂ (· * ·) ((mm_apply (φ₁ := .bf16) (φ₂ := .bf16) _ rfl _ _ r (lane u e)).trans (Finset.sum_congr rfl fun j _ => congrArg (· * v (ix2 j (lane u e))) (wts_apply s r j))) ?_
    show Ideal.div (Ideal.ofBits .f32 0x3F800000#32) (k0_pay32 s (ix2 r 0)) = _
    rw [tot_apply, ofBits_one]
  have cut : ∀ (x : FVec Ideal S128x128 .f32) (o : Nat) (hs : S128x128.Slices ![o, 0] S64x128) (w : Fin 2), o = w.val * 64 →
      extractStridedSlice S64x128 ![o, 0] x hs (ix2 i (lane u e)) = x (ix2 (lane w i) (lane u e)) := fun x o hs w hw => by
    refine extractStridedSlice_apply _ _ _ _ _ fun c => ?_
    match c with
    | ⟨0, _⟩ => show w.val * 64 + i.val = o + i.val; rw [hw]
    | ⟨1, _⟩ => show (lane u e).val = 0 + (lane u e).val; rw [Nat.zero_add]
  unfold k0_pay55
  rw [truncf_apply, select_apply, first_apply, cut _ 0 _ 0 rfl, cut _ 64 _ 1 rfl]
  obtain rfl | rfl : u = 0 ∨ u = 1 := by
    rcases u with ⟨_ | _ | n, hn⟩
    · exact Or.inl rfl
    · exact Or.inr rfl
    · omega
  · exact key (lane 0 i)
  · exact key (lane 1 i)

/-- One grid row of the sequence as the body works it out from the staged queries, its window's keys and values, and
    the window's bias table. -/
def rowBlock (q : Vec Ideal S64x128 .bf16) (k v : Vec Ideal S512x128 .bf16) (b : Vec Ideal S1x1x1x128x512 .f32) : Vec Ideal S64x128 .bf16 :=
  k0_pay55 k0_pay2 (k0_pay32 (k0_pay4 (k0_pay3 q k) b)) (k0_pay33 (k0_pay4 (k0_pay3 q k) b)) v

/-- A slot of the scores' scratch is read past a store into another slot. -/
theorem slot_skip (v : View sig .tc .vmem S8x128x512 .f32) (u u' : Nat) (h : u ≠ u')
    (inb : ∀ a, (![u, 0, 0] : Fin 3 → Nat) a + (![1, 128, 512] : Fin 3 → Nat) a ≤ S8x128x512.size a)
    (inb' : ∀ a, (![u', 0, 0] : Fin 3 → Nat) a + (![1, 128, 512] : Fin 3 → Nat) a ≤ S8x128x512.size a)
    (w : S1x128x512.Idx → EReal) (L : List (View.Piece (Elt Ideal) S8x128x512 .f32)) :
    v.readCov ((⟨Rect.unit (s := S8x128x512) ![u, 0, 0] ![1, 128, 512] inb, w⟩ : View.Piece (Elt Ideal) S8x128x512 .f32) :: L)
        (Rect.unit (s := S8x128x512) ![u', 0, 0] ![1, 128, 512] inb').toLoadRect
      = v.readCov L (Rect.unit (s := S8x128x512) ![u', 0, 0] ![1, 128, 512] inb').toLoadRect :=
  View.readCov_cons_of_disjoint v (⟨Rect.unit (s := S8x128x512) ![u, 0, 0] ![1, 128, 512] inb, w⟩ : View.Piece (Elt Ideal) S8x128x512 .f32) L
    (Rect.unit (s := S8x128x512) ![u', 0, 0] ![1, 128, 512] inb').toLoadRect (Rect.unit_disjoint (inb := inb) (inb' := inb') 0 (by
      show u + 1 ≤ u' ∨ u' + 1 ≤ u
      omega))

/-- The shifted softmax in powers of two, against the values. -/
def attend2 (S v : Fin 512 → EReal) : EReal :=
  (∑ j, Ideal.exp2 (S j - rowMax S) * v j) * Ideal.div 1 (∑ j, Ideal.exp2 (S j - rowMax S))

/-- The `j`-th key row of the window of grid row `t` within its sequence, and the window's case among the eight. -/
def keyIn (t : Fin 32) (j : Fin 512) : Fin 2048 := ⟨rowStart t.val * 64 + j.val, by unfold rowStart; omega⟩
def slot (t : Fin 32) : Fin 8 := ⟨t.val - rowStart t.val, by unfold rowStart; omega⟩

/-- One sequence's block for a pair of heads, at grid row `t`, column `i`, head `u` of the pair and channel `e`. -/
def blockAt (x0 x1 x2 : Vec Ideal S2048x128 .bf16) (x3 : Vec Ideal S1x1x8x128x512 .f32) (t : Fin 32) (i : Fin 64) (u : Fin 2) (e : Fin 64) : EReal :=
  attend2 (fun j => (∑ d, x0 (ix2 ⟨t.val * 64 + i.val, by omega⟩ (lane u d)) * scl * x1 (ix2 (keyIn t j) (lane u d)))
      + x3 (ix5 0 0 (slot t) (lane u i) j) * l2e)
    fun j => x2 (ix2 (keyIn t j) (lane u e))

/-- The block at an index. -/
def blockOut (x0 x1 x2 : Vec Ideal S2048x128 .bf16) (x3 : Vec Ideal S1x1x8x128x512 .f32) (y : S2048x128.Idx) : EReal :=
  blockAt x0 x1 x2 x3 ⟨(y 0).val / 64, by have : (y 0).val < 2048 := (y 0).isLt; omega⟩ ⟨(y 0).val % 64, by omega⟩
    ⟨(y 1).val / 64, by have : (y 1).val < 128 := (y 1).isLt; omega⟩ ⟨(y 1).val % 64, by omega⟩

theorem row_at (x0 x1 x2 : Vec Ideal S2048x128 .bf16) (x3 : Vec Ideal S1x1x8x128x512 .f32)
    (o ok ob : Nat) (i0 i1 i2 i3 i4) (ho : o % 64 = 0 ∧ o / 64 < 32) (hok : ok = min (o / 64 - 4) 24 * 64) (hob : ob = o / 64 - min (o / 64 - 4) 24)
    (x : S64x128.Idx) :
    rowBlock (View.ld x0 (Rect.unit (s := S2048x128) ![o, 0] ![64, 128] i0)) (View.ld x1 (Rect.unit (s := S2048x128) ![ok, 0] ![512, 128] i1))
      (View.ld x2 (Rect.unit (s := S2048x128) ![ok, 0] ![512, 128] i2)) (View.ld x3 (Rect.unit (s := S1x1x8x128x512) ![0, 0, ob, 0, 0] ![1, 1, 1, 128, 512] i3)) x
      = blockOut x0 x1 x2 x3 ((Rect.unit (s := S2048x128) ![o, 0] ![64, 128] i4).emb x) := by
  have hx1 : (x 1).val < 128 := (x 1).isLt
  obtain ⟨i, u, e, rfl⟩ : ∃ (i : Fin 64) (u : Fin 2) (e : Fin 64), x = ix2 i (lane u e) :=
    ⟨x 0, ⟨(x 1).val / 64, by omega⟩, ⟨(x 1).val % 64, by omega⟩, funext fun a => by
      match a with
      | ⟨0, _⟩ => rfl
      | ⟨1, _⟩ => exact Fin.ext (by show (x 1).val = (x 1).val / 64 * 64 + (x 1).val % 64; omega)⟩
  have hy : blockOut x0 x1 x2 x3 ((Rect.unit (s := S2048x128) ![o, 0] ![64, 128] i4).emb (ix2 i (lane u e))) = blockAt x0 x1 x2 x3 ⟨o / 64, ho.2⟩ i u e := by
    unfold blockOut
    congr 1
    · exact Fin.ext (by show (o + 1 * i.val) / 64 = o / 64; omega)
    · exact Fin.ext (by show (o + 1 * i.val) % 64 = i.val; omega)
    · exact Fin.ext (by show (0 + 1 * (u.val * 64 + e.val)) / 64 = u.val; omega)
    · exact Fin.ext (by show (0 + 1 * (u.val * 64 + e.val)) % 64 = e.val; omega)
  rw [hy]
  unfold rowBlock
  rw [out_apply]
  have hk : ∀ (z : Vec Ideal S2048x128 .bf16) (inb) (j : Fin 512) (l : Fin 128),
      View.ld z (Rect.unit (s := S2048x128) ![ok, 0] ![512, 128] inb) (ix2 j l) = z (ix2 (keyIn ⟨o / 64, ho.2⟩ j) l) := fun z inb j l => by
    refine congrArg z (funext fun a => Fin.ext ?_)
    match a with
    | ⟨0, _⟩ => show ok + 1 * j.val = min (o / 64 - 4) 24 * 64 + j.val; omega
    | ⟨1, _⟩ => show 0 + 1 * l.val = l.val; omega
  have hq : ∀ (l : Fin 128), View.ld x0 (Rect.unit (s := S2048x128) ![o, 0] ![64, 128] i0) (ix2 i l) = x0 (ix2 ⟨o / 64 * 64 + i.val, by omega⟩ l) := fun l => by
    refine congrArg x0 (funext fun a => Fin.ext ?_)
    match a with
    | ⟨0, _⟩ => show o + 1 * i.val = o / 64 * 64 + i.val; omega
    | ⟨1, _⟩ => show 0 + 1 * l.val = l.val; omega
  have hb : ∀ (r : Fin 128) (j : Fin 512), View.ld x3 (Rect.unit (s := S1x1x8x128x512) ![0, 0, ob, 0, 0] ![1, 1, 1, 128, 512] i3) (ix5 0 0 0 r j)
      = x3 (ix5 0 0 (slot ⟨o / 64, ho.2⟩) r j) := fun r j => by
    refine congrArg x3 (funext fun a => Fin.ext ?_)
    match a with
    | ⟨0, _⟩ => rfl
    | ⟨1, _⟩ => rfl
    | ⟨2, _⟩ => show ob + 1 * 0 = o / 64 - min (o / 64 - 4) 24; omega
    | ⟨3, _⟩ => show 0 + 1 * r.val = r.val; omega
    | ⟨4, _⟩ => show 0 + 1 * j.val = j.val; omega
  unfold blockAt attend2
  simp only [score_apply, hk x1 i1, hk x2 i2, hq, hb]

end Cert.Proof.NaKernel

end
-- ==== Proof.NaBlocks.lean ====
/-
  The attention kernel's blocks joined: from the block of each grid point, the whole array it leaves.
-/
module

public import proofs.«01_k».proof.Proof.NaKernel
public import proofs.«01_k».proof.Proof.Gen.KernelIdeal.Value
public import Idealize.ShloMosaic.Lib.Pipeline.ValueKit.Tiles
public import Idealize.ShloMosaic.Lib.Claim

@[expose] public section

set_option maxRecDepth 16384

noncomputable section

namespace Cert.Proof.NaKernel

open Idealize.ShloMosaic Idealize.ShloMosaic.ValueIdx Idealize.ShloMosaic.TcCoe Idealize.SL.Sem
open Cert.KernelIdeal Cert.KernelIdeal.Gen Cert.Na
open Idealize.ShloMosaic.Pipeline (Dat Cfg Window)

/-! ## The array -/

variable (m : (ℓ : Loc nD τ sig) → Buf (Elt Ideal) ℓ)

theorem body (c : Dev nD) (t : Fin cfg0.N) (y : S2048x128.Idx) :
    outsAt0 m c t y = blockOut (iblk m c 0 t) (iblk m c 1 t) (iblk m c 2 t) (iblk m c 3 t) y := by
  unfold outsAt0
  frame_out
  simp only [View.readCov_cons_toLoadRect, slot_skip, ne_eq, OfNat.ofNat_ne_zero, not_false_eq_true, OfNat.zero_ne_ofNat, OfNat.one_ne_ofNat, OfNat.ofNat_ne_one, Nat.reduceEqDiff, zero_ne_one, one_ne_zero]
  refine View.canon_apply_of_pieces (Val := Elt Ideal) (S := S2048x128) (e := .bf16) (blockOut (iblk m c 0 t) (iblk m c 1 t) (iblk m c 2 t) (iblk m c 3 t)) _ ?_ y ?_
  · simp only [List.forall_mem_cons]
    and_intros
    all_goals first
      | exact fun x => row_at _ _ _ _ _ _ _ _ _ _ _ _ (by decide) (by decide) (by decide) x
      | exact fun p hp => absurd hp List.not_mem_nil
  · exact View.cover_of_tiled_head _ _ _ (by rfl) y

/-- The arrays the region reads. -/
abbrev a0 (c : Dev nD) : S32768x512.Idx → EReal := m ((c : Thread nD τ).loc main_arg0)
abbrev a1 (c : Dev nD) : S32768x512.Idx → EReal := m ((c : Thread nD τ).loc main_arg1)
abbrev a2 (c : Dev nD) : S32768x512.Idx → EReal := m ((c : Thread nD τ).loc main_arg2)
abbrev a3 (c : Dev nD) : S4x8x15x31.Idx → EReal := m ((c : Thread nD τ).loc main_arg3)
/-- The table of biases the region reads. -/
abbrev tab (c : Dev nD) : S4x4x8x128x512.Idx → EReal := V m c main_v56

/-- The windows' block indices over the 64 points: 16 sequences for each of 4 pairs of heads. -/
theorem index0 (t : Fin cfg0.N) : win0_0.index t 0 = t.val % 16 ∧ win0_0.index t 1 = t.val / 16 :=
  (by decide +kernel : ∀ t : Fin grid0.N, win0_0.index t 0 = t.val % 16 ∧ win0_0.index t 1 = t.val / 16) t
theorem index1 (t : Fin cfg0.N) : win0_1.index t 0 = t.val % 16 ∧ win0_1.index t 1 = t.val / 16 :=
  (by decide +kernel : ∀ t : Fin grid0.N, win0_1.index t 0 = t.val % 16 ∧ win0_1.index t 1 = t.val / 16) t
theorem index2 (t : Fin cfg0.N) : win0_2.index t 0 = t.val % 16 ∧ win0_2.index t 1 = t.val / 16 :=
  (by decide +kernel : ∀ t : Fin grid0.N, win0_2.index t 0 = t.val % 16 ∧ win0_2.index t 1 = t.val / 16) t
theorem index4 (t : Fin cfg0.N) : win0_4.index t 0 = t.val % 16 ∧ win0_4.index t 1 = t.val / 16 :=
  (by decide +kernel : ∀ t : Fin grid0.N, win0_4.index t 0 = t.val % 16 ∧ win0_4.index t 1 = t.val / 16) t
theorem index3 (t : Fin cfg0.N) : win0_3.index t 0 = 0 ∧ win0_3.index t 1 = t.val / 16 ∧ win0_3.index t 2 = 0 ∧ win0_3.index t 3 = 0 ∧ win0_3.index t 4 = 0 :=
  (by decide +kernel : ∀ t : Fin grid0.N, win0_3.index t 0 = 0 ∧ win0_3.index t 1 = t.val / 16 ∧ win0_3.index t 2 = 0 ∧ win0_3.index t 3 = 0 ∧ win0_3.index t 4 = 0) t

/-- Point `t`'s sequence, pair of heads, and the row of the array of its block's row `r`. -/
theorem lt_N (t : Fin cfg0.N) : t.val < 64 := lt_of_lt_of_eq t.isLt N_0
def seq (t : Fin cfg0.N) : Fin 16 := ⟨t.val % 16, by omega⟩
def pair (t : Fin cfg0.N) : Fin 4 := ⟨t.val / 16, by have := lt_N t; omega⟩
def row (t : Fin cfg0.N) (r : Fin 2048) : Fin 32768 := ⟨t.val % 16 * 2048 + r.val, by omega⟩
def col (t : Fin cfg0.N) (l : Fin 128) : Fin 512 := ⟨t.val / 16 * 128 + l.val, by have := lt_N t; omega⟩

theorem iblk0_apply (c : Dev nD) (t : Fin cfg0.N) (r : Fin 2048) (l : Fin 128) :
    iblk m c 0 t (ix2 r l) = a0 m c (ix2 (row t r) (col t l)) := by
  unfold iblk
  show V m c main_arg0 ((win0_0.rect t).emb (ix2 r l)) = _
  rw [V_main_arg0]
  refine congrArg (a0 m c) (funext fun a => Fin.ext ?_)
  match a with
  | ⟨0, _⟩ => show win0_0.index t 0 * 2048 + 1 * r.val = t.val % 16 * 2048 + r.val; rw [(index0 t).1]; omega
  | ⟨1, _⟩ => show win0_0.index t 1 * 128 + 1 * l.val = t.val / 16 * 128 + l.val; rw [(index0 t).2]; omega

theorem iblk1_apply (c : Dev nD) (t : Fin cfg0.N) (r : Fin 2048) (l : Fin 128) :
    iblk m c 1 t (ix2 r l) = a1 m c (ix2 (row t r) (col t l)) := by
  unfold iblk
  show V m c main_arg1 ((win0_1.rect t).emb (ix2 r l)) = _
  rw [V_main_arg1]
  refine congrArg (a1 m c) (funext fun a => Fin.ext ?_)
  match a with
  | ⟨0, _⟩ => show win0_1.index t 0 * 2048 + 1 * r.val = t.val % 16 * 2048 + r.val; rw [(index1 t).1]; omega
  | ⟨1, _⟩ => show win0_1.index t 1 * 128 + 1 * l.val = t.val / 16 * 128 + l.val; rw [(index1 t).2]; omega

theorem iblk2_apply (c : Dev nD) (t : Fin cfg0.N) (r : Fin 2048) (l : Fin 128) :
    iblk m c 2 t (ix2 r l) = a2 m c (ix2 (row t r) (col t l)) := by
  unfold iblk
  show V m c main_arg2 ((win0_2.rect t).emb (ix2 r l)) = _
  rw [V_main_arg2]
  refine congrArg (a2 m c) (funext fun a => Fin.ext ?_)
  match a with
  | ⟨0, _⟩ => show win0_2.index t 0 * 2048 + 1 * r.val = t.val % 16 * 2048 + r.val; rw [(index2 t).1]; omega
  | ⟨1, _⟩ => show win0_2.index t 1 * 128 + 1 * l.val = t.val / 16 * 128 + l.val; rw [(index2 t).2]; omega

/-- The window of the table of biases, of any contents. -/
theorem tabBlock_apply (t : Fin cfg0.N) (T : S4x4x8x128x512.Idx → EReal) (s : Fin 8) (r : Fin 128) (j : Fin 512) :
    T ((win0_3.rect t).emb (ix5 0 0 s r j)) = T (ix5 0 (pair t) s r j) := by
  refine congrArg T (funext fun a => Fin.ext ?_)
  match a with
  | ⟨0, _⟩ => show win0_3.index t 0 * 1 + 1 * 0 = 0; rw [(index3 t).1]
  | ⟨1, _⟩ => show win0_3.index t 1 * 1 + 1 * 0 = t.val / 16; rw [(index3 t).2.1]; omega
  | ⟨2, _⟩ => show win0_3.index t 2 * 8 + 1 * s.val = s.val; rw [(index3 t).2.2.1]; omega
  | ⟨3, _⟩ => show win0_3.index t 3 * 128 + 1 * r.val = r.val; rw [(index3 t).2.2.2.1]; omega
  | ⟨4, _⟩ => show win0_3.index t 4 * 512 + 1 * j.val = j.val; rw [(index3 t).2.2.2.2]; omega
theorem readTab_apply (c : Dev nD) (t : Fin cfg0.N) (T : Buf (Elt Ideal) ((c : Thread nD τ).loc main_v56)) (s : Fin 8) (r : Fin 128) (j : Fin 512) :
    ((cfg0.win 3).blk t).view.read (Elt Ideal) T (ix5 0 0 s r j) = T ((win0_3.rect t).emb (ix5 0 0 s r j)) := rfl
theorem readRef_apply (c : Dev nD) (t : Fin cfg0.N) (W : (r : Ref sig .tc) → Buf (Elt Ideal) ((c : Thread nD τ).loc r)) (s : Fin 8) (r : Fin 128) (j : Fin 512) :
    ((cfg0.win 3).blk t).view.read (Elt Ideal) (W (Pipeline.arrRef spec0 3)) (ix5 0 0 s r j) = W main_v56 (ix5 0 (pair t) s r j) :=
  (readTab_apply c t (W main_v56) s r j).trans (tabBlock_apply t (W main_v56) s r j)
theorem iblk3_apply (c : Dev nD) (t : Fin cfg0.N) (s : Fin 8) (r : Fin 128) (j : Fin 512) :
    iblk m c 3 t (ix5 0 0 s r j) = tab m c (ix5 0 (pair t) s r j) := by
  unfold iblk tab
  exact readRef_apply c t (V m c) s r j

/-- A query's scores in powers of two, from the queries, the keys and the table of biases. -/
def score2 (q k : S32768x512.Idx → EReal) (T : S4x4x8x128x512.Idx → EReal) (b : Fin 16) (t : Fin 32) (qc : Fin 64) (h : Fin 8) (j : Fin 512) : EReal :=
  (∑ d : Fin 64, q (ix2 (token b t qc) (chan h d)) * scl * k (ix2 (key b t j) (chan h d)))
    + T (ix5 0 ⟨h.val / 2, by omega⟩ (slot t) (lane ⟨h.val % 2, by omega⟩ qc) j) * l2e

/-- The result at a token and a channel. -/
def out (q k v : S32768x512.Idx → EReal) (T : S4x4x8x128x512.Idx → EReal) (n : Fin 32768) (ch : Fin 512) : EReal :=
  attend2 (score2 q k T (seqOf n) (rowOf n) (colOf n) (headOf ch)) fun j => v (ix2 (key (seqOf n) (rowOf n) j) (chan (headOf ch) (inHead ch)))

/-- The result array. -/
def outArr (c : Dev nD) : S32768x512.Idx → EReal := fun i => out (a0 m c) (a1 m c) (a2 m c) (tab m c) (i 0) (i 1)

theorem ix2_ext (x x' : Fin 32768) (y y' : Fin 512) (h : x.val = x'.val) (h' : y.val = y'.val) : (ix2 x y : S32768x512.Idx) = ix2 x' y' := by
  rw [Fin.ext h, Fin.ext h']

/-- A block of staged arrays is the result's rows and columns of its place. -/
theorem block_eq (q k v : S32768x512.Idx → EReal) (T : S4x4x8x128x512.Idx → EReal) (t : Fin cfg0.N)
    (x0 x1 x2 : Vec Ideal S2048x128 .bf16) (x3 : Vec Ideal S1x1x8x128x512 .f32)
    (h0 : ∀ r l, x0 (ix2 r l) = q (ix2 (row t r) (col t l))) (h1 : ∀ r l, x1 (ix2 r l) = k (ix2 (row t r) (col t l)))
    (h2 : ∀ r l, x2 (ix2 r l) = v (ix2 (row t r) (col t l))) (h3 : ∀ s r j, x3 (ix5 0 0 s r j) = T (ix5 0 (pair t) s r j))
    (r : Fin 2048) (l : Fin 128) : blockOut x0 x1 x2 x3 (ix2 r l) = out q k v T (row t r) (col t l) := by
  have hN := lt_N t
  unfold blockOut blockAt out
  refine congrArg₂ attend2 (funext fun j => ?_) (funext fun j => ?_)
  · unfold score2
    refine congrArg₂ (· + ·) (Finset.sum_congr rfl fun d _ => ?_) (congrArg (· * l2e) ?_)
    · rw [h0, h1]
      refine congrArg₂ (fun x y => x * scl * y) (congrArg q (ix2_ext _ _ _ _ ?_ ?_)) (congrArg k (ix2_ext _ _ _ _ ?_ ?_))
      · show t.val % 16 * 2048 + (r.val / 64 * 64 + r.val % 64)
          = (t.val % 16 * 2048 + r.val) / 2048 * 2048 + (t.val % 16 * 2048 + r.val) % 2048 / 64 * 64 + (t.val % 16 * 2048 + r.val) % 64
        omega
      · show t.val / 16 * 128 + (l.val / 64 * 64 + d.val) = (t.val / 16 * 128 + l.val) / 64 * 64 + d.val
        omega
      · show t.val % 16 * 2048 + (min (r.val / 64 - 4) 24 * 64 + j.val)
          = (t.val % 16 * 2048 + r.val) / 2048 * 2048 + min ((t.val % 16 * 2048 + r.val) % 2048 / 64 - 4) 24 * 64 + j.val
        omega
      · show t.val / 16 * 128 + (l.val / 64 * 64 + d.val) = (t.val / 16 * 128 + l.val) / 64 * 64 + d.val
        omega
    · rw [h3]
      refine congrArg T (funext fun a => Fin.ext ?_)
      match a with
      | ⟨0, _⟩ => rfl
      | ⟨1, _⟩ => show t.val / 16 = (t.val / 16 * 128 + l.val) / 64 / 2; omega
      | ⟨2, _⟩ =>
        show r.val / 64 - min (r.val / 64 - 4) 24
          = (t.val % 16 * 2048 + r.val) % 2048 / 64 - min ((t.val % 16 * 2048 + r.val) % 2048 / 64 - 4) 24
        omega
      | ⟨3, _⟩ =>
        show l.val / 64 * 64 + r.val % 64 = (t.val / 16 * 128 + l.val) / 64 % 2 * 64 + (t.val % 16 * 2048 + r.val) % 64
        omega
      | ⟨4, _⟩ => rfl
  · rw [h2]
    refine congrArg v (ix2_ext _ _ _ _ ?_ ?_)
    · show t.val % 16 * 2048 + (min (r.val / 64 - 4) 24 * 64 + j.val)
        = (t.val % 16 * 2048 + r.val) / 2048 * 2048 + min ((t.val % 16 * 2048 + r.val) % 2048 / 64 - 4) 24 * 64 + j.val
      omega
    · show t.val / 16 * 128 + (l.val / 64 * 64 + l.val % 64) = (t.val / 16 * 128 + l.val) / 64 * 64 + (t.val / 16 * 128 + l.val) % 64
      omega

theorem body_apply (c : Dev nD) (t : Fin cfg0.N) (r : Fin 2048) (l : Fin 128) :
    outsAt0 m c t (ix2 r l) = out (a0 m c) (a1 m c) (a2 m c) (tab m c) (row t r) (col t l) :=
  (body m c t (ix2 r l)).trans (block_eq _ _ _ _ t _ _ _ _ (iblk0_apply m c t) (iblk1_apply m c t) (iblk2_apply m c t) (iblk3_apply m c t) r l)

theorem flushed_eq (c : Dev nD) (t : Fin cfg0.N) :
    (dats m 0 c).flushed 4 t = (win0_4.blk t).view.read (Elt Ideal) (outArr m c) := by
  rw [Value.flushed4]
  funext i
  obtain ⟨r, l, rfl⟩ : ∃ (r : Fin 2048) (l : Fin 128), i = ix2 r l := ⟨i 0, i 1, funext fun a => by match a with | ⟨0, _⟩ => rfl | ⟨1, _⟩ => rfl⟩
  refine (body_apply m c t r l).trans ?_
  show _ = outArr m c ((win0_4.rect t).emb (ix2 r l))
  unfold outArr
  refine congrArg₂ (out (a0 m c) (a1 m c) (a2 m c) (tab m c)) (Fin.ext ?_) (Fin.ext ?_)
  · show t.val % 16 * 2048 + r.val = win0_4.index t 0 * 2048 + 1 * r.val
    rw [(index4 t).1]; omega
  · show t.val / 16 * 128 + l.val = win0_4.index t 1 * 128 + 1 * l.val
    rw [(index4 t).2]; omega

/-- Point `t`'s block: its sequence's rows, its pair's columns. -/
theorem mem_blk (t : Fin cfg0.N) (i : S32768x512.Idx) :
    i ∈ ((cfg0.win 4).blk t).view.set ↔ (t.val % 16 * 2048 ≤ (i 0 : Nat) ∧ (i 0 : Nat) < t.val % 16 * 2048 + 2048)
      ∧ t.val / 16 * 128 ≤ (i 1 : Nat) ∧ (i 1 : Nat) < t.val / 16 * 128 + 128 := by
  show i ∈ ((View.whole main_v57).slice (win0_4.rect t)).set ↔ _
  rw [View.set_slice_whole, Rect.mem_set_unit]
  refine ⟨fun h => ?_, fun h a => ?_⟩
  · have h2 : win0_4.index t 0 * 2048 ≤ (i 0 : Nat) ∧ (i 0 : Nat) < win0_4.index t 0 * 2048 + 2048 := h 0
    have h3 : win0_4.index t 1 * 128 ≤ (i 1 : Nat) ∧ (i 1 : Nat) < win0_4.index t 1 * 128 + 128 := h 1
    rw [(index4 t).1] at h2; rw [(index4 t).2] at h3; exact ⟨h2, h3⟩
  · match a with
    | ⟨0, _⟩ =>
      show win0_4.index t 0 * 2048 ≤ (i 0 : Nat) ∧ (i 0 : Nat) < win0_4.index t 0 * 2048 + 2048
      rw [(index4 t).1]; exact h.1
    | ⟨1, _⟩ =>
      show win0_4.index t 1 * 128 ≤ (i 1 : Nat) ∧ (i 1 : Nat) < win0_4.index t 1 * 128 + 128
      rw [(index4 t).2]; exact h.2

/-- The blocks tile the array. -/
theorem cover (i : S32768x512.Idx) : ∃ t : Fin cfg0.N, (cfg0.win 4).flush t = true ∧ i ∈ ((cfg0.win 4).blk t).view.set := by
  have h0 : (i 0 : Nat) < 32768 := (i 0).isLt
  have h1 : (i 1 : Nat) < 512 := (i 1).isLt
  have hN : cfg0.N = 64 := N_0
  have ht : (i 1 : Nat) / 128 * 16 + (i 0 : Nat) / 2048 < cfg0.N := by omega
  refine ⟨⟨(i 1 : Nat) / 128 * 16 + (i 0 : Nat) / 2048, ht⟩, flush0_4 _, ?_⟩
  rw [mem_blk]; dsimp only; omega

/-- The result array after the run. -/
theorem final (c : Dev nD) : (dats m 0 c).arrAt 4 cfg0.N = outArr m c :=
  (dats m 0 c).arrAt_eq_of_cover 4 (outArr m c) (fun t _ => flushed_eq m c t) cover

end Cert.Proof.NaKernel

end
-- ==== Proof.NaTable.lean ====
/-
  The attention kernel's table of biases, as the host prepares it: for each pair of heads and each case of the row window,
  the bias table's entries at the relative positions of the queries and keys, minus infinity outside the window.
-/
module

public import proofs.«01_k».proof.Proof.NaBlocks
public import Idealize.ShloMosaic.Lib.StableHlo.Run
public import Idealize.ShloMosaic.Lib.ValueIdxRank6

@[expose] public section

set_option maxRecDepth 16384

noncomputable section

namespace Cert.Proof.NaKernel

open Idealize.ShloMosaic Idealize.ShloMosaic.ValueIdx Idealize.ShloMosaic.TcCoe Idealize.SL.Sem
open Cert.KernelIdeal Cert.KernelIdeal.Gen Cert.Na
open Idealize.ShloMosaic.Pipeline (Dat Cfg Window)

/-- The grid's columns, and the first column of each one's window. -/
def cols : IVec S64 32 := iotaInDim S64 32 0
def firstCol : IVec S64 32 :=
  minsi (broadcastInDim S64 ![] bcast_S_S64 (constantI S_ 32 48#32))
    (maxsi (broadcastInDim S64 ![] bcast_S_S64 (constantI S_ 32 0#32)) (subi cols (broadcastInDim S64 ![] bcast_S_S64 (constantI S_ 32 8#32))))
/-- A column's number along the rows, and along the columns, of a square. -/
def across (x : IVec S64 32) : IVec S64x64 32 := broadcastInDim S64x64 ![0, 1] bcast_S1x64_S64x64_0_1 (broadcastInDim S1x64 ![1] bcast_S64_S1x64_1 x)
def down (x : IVec S64 32) : IVec S64x64 32 := broadcastInDim S64x64 ![0, 1] bcast_S64x1_S64x64_0_1 (broadcastInDim S64x1 ![0] bcast_S64_S64x1_0 x)
/-- Which columns are within which windows. -/
def inside : IVec S64x64 1 :=
  andi (cmpi .sge (across cols) (down firstCol))
    (cmpi .slt (across cols) (broadcastInDim S64x64 ![0, 1] bcast_S64x1_S64x64_0_1
      (addi (broadcastInDim S64x1 ![0] bcast_S64_S64x1_0 firstCol) (broadcastInDim S64x1 ![] bcast_S_S64x1 (constantI S_ 32 16#32)))))
/-- The bias table's column for each pair of columns. -/
def relative : IVec S64x64 32 :=
  subi (addi (minsi (broadcastInDim S64x64 ![] bcast_S_S64x64 (constantI S_ 32 15#32))
      (maxsi (broadcastInDim S64x64 ![] bcast_S_S64x64 (constantI S_ 32 4294967281#32)) (subi (across cols) (down cols))))
    (broadcastInDim S64x64 ![] bcast_S_S64x64 (constantI S_ 32 16#32))) (broadcastInDim S64x64 ![] bcast_S_S64x64 (constantI S_ 32 1#32))
/-- One at each pair's relative column. -/
def hot : FVec Ideal S64x64x31 .f32 :=
  uitofp .f32 (cmpi .eq (broadcastInDim S64x64x31 ![0, 1, 2] bcast_S64x64x1_S64x64x31_0_1_2 (broadcastInDim S64x64x1 ![0, 1] bcast_S64x64_S64x64x1_0_1 relative))
    (broadcastInDim S64x64x31 ![0, 1, 2] bcast_S1x1x31_S64x64x31_0_1_2 (broadcastInDim S1x1x31 ![2] bcast_S31_S1x1x31_2 (iotaInDim S31 32 0))))
/-- The bias table spread over pairs of columns, minus infinity outside the windows. -/
def spread (x : S4x8x15x31.Idx → EReal) : FVec Ideal S4x8x15x64x64 .f32 :=
  select (broadcastInDim S4x8x15x64x64 ![3, 4] bcast_S64x64_S4x8x15x64x64_3_4 inside)
    (Host.dotGeneral (F := Ideal) (φ₁ := .f32) (φ₂ := .f32) dot_S4x8x15x31_S64x64x31_S4x8x15x64x64_3_2_012_01_n_n (some .fp32) x hot)
    (broadcastInDim S4x8x15x64x64 ![] bcast_S_S4x8x15x64x64 (constant (F := Ideal) S_ .f32 0xFF800000#32))
/-- One case of the row window. -/
def case (y : FVec Ideal S4x8x15x64x64 .f32) (o : Nat) (h : S4x8x15x64x64.Slices ![0, 0, o, 0, 0] S4x8x8x64x64) : FVec Ideal S4x8x1x8x64x64 .f32 :=
  broadcastInDim S4x8x1x8x64x64 ![0, 1, 3, 4, 5] bcast_S4x8x8x64x64_S4x8x1x8x64x64_0_1_3_4_5 (extractStridedSlice S4x8x8x64x64 ![0, 0, o, 0, 0] y h)
/-- The eight cases together. -/
def cases (y : FVec Ideal S4x8x15x64x64 .f32) : FVec Ideal S4x8x8x8x64x64 .f32 :=
  concatenate S4x8x8x8x64x64 2 [⟨S4x8x1x8x64x64, case y 7 slices_S4x8x15x64x64_S4x8x8x64x64_0_0_7_0_0⟩,
    ⟨S4x8x1x8x64x64, case y 6 slices_S4x8x15x64x64_S4x8x8x64x64_0_0_6_0_0⟩, ⟨S4x8x1x8x64x64, case y 5 slices_S4x8x15x64x64_S4x8x8x64x64_0_0_5_0_0⟩,
    ⟨S4x8x1x8x64x64, case y 4 slices_S4x8x15x64x64_S4x8x8x64x64_0_0_4_0_0⟩, ⟨S4x8x1x8x64x64, case y 3 slices_S4x8x15x64x64_S4x8x8x64x64_0_0_3_0_0⟩,
    ⟨S4x8x1x8x64x64, case y 2 slices_S4x8x15x64x64_S4x8x8x64x64_0_0_2_0_0⟩, ⟨S4x8x1x8x64x64, case y 1 slices_S4x8x15x64x64_S4x8x8x64x64_0_0_1_0_0⟩,
    ⟨S4x8x1x8x64x64, case y 0 slices_S4x8x15x64x64_S4x8x8x64x64_0_0_0_0_0⟩] concatenates_S4x8x1x8x64x64_S4x8x1x8x64x64_S4x8x1x8x64x64_S4x8x1x8x64x64_S4x8x1x8x64x64_S4x8x1x8x64x64_S4x8x1x8x64x64_S4x8x1x8x64x64_S4x8x8x8x64x64_d2
/-- The cases laid out by pairs of heads, the keys in one row. -/
def laid (z : FVec Ideal S4x8x8x8x64x64 .f32) : FVec Ideal S4x4x8x128x512 .f32 :=
  shapeCast S4x4x8x128x512 (transpose S4x4x8x2x64x512 [0, 1, 3, 2, 4, 5]
    (shapeCast S4x4x2x8x64x512 (transpose S4x8x8x64x8x64 [0, 1, 2, 4, 3, 5] z transposes_S4x8x8x8x64x64_S4x8x8x64x8x64_0_1_2_4_3_5)
      shapeCasts_S4x8x8x64x8x64_S4x4x2x8x64x512) transposes_S4x4x2x8x64x512_S4x4x8x2x64x512_0_1_3_2_4_5) shapeCasts_S4x4x8x2x64x512_S4x4x8x128x512

/-! ## The host's operations, a stretch at a time -/

section Host

open Idealize.ShloMosaic.StableHlo

/-- An operation of eight operands: its result from the operands' contents. -/
theorem eight_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal)) (hxs hy)
    (σ : Valuation τ sig (Elt Ideal)) :
    (nary (τ := τ) ![x0, x1, x2, x3, x4, x5, x6, x7] y f hxs hy).result σ (no_index (Proc.devRef .tc y))
      = f (Fin.cons (σ (Proc.devRef .tc x0)) (Fin.cons (σ (Proc.devRef .tc x1)) (Fin.cons (σ (Proc.devRef .tc x2)) (Fin.cons (σ (Proc.devRef .tc x3))
          (Fin.cons (σ (Proc.devRef .tc x4)) (Fin.cons (σ (Proc.devRef .tc x5)) (Fin.cons (σ (Proc.devRef .tc x6)) (Fin.cons (σ (Proc.devRef .tc x7))
            fun i => i.elim0)))))))) := by
  refine (nary_result _ _ _ _ _ _).trans (congrArg f (funext fun k => ?_))
  fin_cases k <;> rfl

variable (σ : Valuation τ sig (Elt Ideal))

theorem seg6 : after hostOps0_6 σ (Proc.devRef .tc main_v56) = laid (cases (σ (Proc.devRef .tc main_v35))) := by
  simp (disch := decide) only [hostOps0_6, after_cons, after_nil, eight_result, unary_result', reshape_result', unary_result_ne', reshape_result_ne', nary_result_ne']
  rfl
theorem seg5 : after hostOps0_5 σ (Proc.devRef .tc main_v35)
    = select (broadcastInDim S4x8x15x64x64 ![3, 4] bcast_S64x64_S4x8x15x64x64_3_4 (σ (Proc.devRef .tc main_v16) : IVec S64x64 1))
        (σ (Proc.devRef .tc main_v34) : FVec Ideal S4x8x15x64x64 .f32)
        (broadcastInDim S4x8x15x64x64 ![] bcast_S_S4x8x15x64x64 (σ (Proc.devRef .tc main_cst) : FVec Ideal S_ .f32)) := by
  simp only [hostOps0_5, TRef.binary, TRef.ternary, TRef.unary, TRef.toBuf, TRef.ofBuf, cast_eq]
  after_results_simp
  rfl
/-- One at each pair's column of the bias table, from the pairs' clipped differences. -/
def hotOf (x : IVec S64x64 32) : FVec Ideal S64x64x31 .f32 :=
  uitofp .f32 (cmpi .eq (broadcastInDim S64x64x31 ![0, 1, 2] bcast_S64x64x1_S64x64x31_0_1_2 (broadcastInDim S64x64x1 ![0, 1] bcast_S64x64_S64x64x1_0_1
      (subi (addi x (broadcastInDim S64x64 ![] bcast_S_S64x64 (constantI S_ 32 16#32))) (broadcastInDim S64x64 ![] bcast_S_S64x64 (constantI S_ 32 1#32)))))
    (broadcastInDim S64x64x31 ![0, 1, 2] bcast_S1x1x31_S64x64x31_0_1_2 (broadcastInDim S1x1x31 ![2] bcast_S31_S1x1x31_2 (iotaInDim S31 32 0))))
theorem seg4 : after hostOps0_4 σ (Proc.devRef .tc main_v34)
      = (Host.dotGeneral (F := Ideal) (φ₁ := .f32) (φ₂ := .f32) dot_S4x8x15x31_S64x64x31_S4x8x15x64x64_3_2_012_01_n_n (some .fp32)
          (σ (Proc.devRef .tc main_arg3)) (hotOf (σ (Proc.devRef .tc main_v22))) : FVec Ideal S4x8x15x64x64 .f32)
    ∧ after hostOps0_4 σ (Proc.devRef .tc main_v16) = σ (Proc.devRef .tc main_v16)
    ∧ after hostOps0_4 σ (Proc.devRef .tc main_cst) = (constant (F := Ideal) S_ .f32 0xFF800000#32 : FVec Ideal S_ .f32) := by
  refine ⟨?_, ?_, ?_⟩ <;> · simp only [hostOps0_4]; after_results_simp <;> rfl
theorem seg3 : after hostOps0_3 σ (Proc.devRef .tc main_v22)
      = minsi (broadcastInDim S64x64 ![] bcast_S_S64x64 (σ (Proc.devRef .tc main_c_4) : IVec S_ 32))
          (maxsi (broadcastInDim S64x64 ![] bcast_S_S64x64 (σ (Proc.devRef .tc main_c_3) : IVec S_ 32)) (σ (Proc.devRef .tc main_v21) : IVec S64x64 32))
    ∧ after hostOps0_3 σ (Proc.devRef .tc main_v16) = σ (Proc.devRef .tc main_v16)
    ∧ after hostOps0_3 σ (Proc.devRef .tc main_arg3) = σ (Proc.devRef .tc main_arg3) := by
  refine ⟨?_, ?_, ?_⟩ <;>
    · simp only [hostOps0_3, TRef.binary, TRef.ternary, TRef.unary, TRef.toBuf, TRef.ofBuf, cast_eq]
      after_results_simp <;> rfl
theorem seg2 : after hostOps0_2 σ (Proc.devRef .tc main_v16)
      = andi (cmpi .sge (across (σ (Proc.devRef .tc main_v0))) (down (σ (Proc.devRef .tc main_v3))))
          (cmpi .slt (across (σ (Proc.devRef .tc main_v0))) (broadcastInDim S64x64 ![0, 1] bcast_S64x1_S64x64_0_1
            (addi (broadcastInDim S64x1 ![0] bcast_S64_S64x1_0 (σ (Proc.devRef .tc main_v3) : IVec S64 32)) (broadcastInDim S64x1 ![] bcast_S_S64x1 (constantI S_ 32 16#32)))))
    ∧ after hostOps0_2 σ (Proc.devRef .tc main_v21) = subi (across (σ (Proc.devRef .tc main_v0))) (down (σ (Proc.devRef .tc main_v0)))
    ∧ after hostOps0_2 σ (Proc.devRef .tc main_c_3) = (constantI S_ 32 4294967281#32 : IVec S_ 32)
    ∧ after hostOps0_2 σ (Proc.devRef .tc main_c_4) = (constantI S_ 32 15#32 : IVec S_ 32)
    ∧ after hostOps0_2 σ (Proc.devRef .tc main_arg3) = σ (Proc.devRef .tc main_arg3) := by
  refine ⟨?_, ?_, ?_, ?_, ?_⟩ <;> · simp only [hostOps0_2]; after_results_simp <;> rfl
theorem seg1 : after hostOps0_1 σ (Proc.devRef .tc main_v3)
      = minsi (broadcastInDim S64 ![] bcast_S_S64 (σ (Proc.devRef .tc main_c_1) : IVec S_ 32))
          (maxsi (broadcastInDim S64 ![] bcast_S_S64 (σ (Proc.devRef .tc main_c_0) : IVec S_ 32)) (σ (Proc.devRef .tc main_v2) : IVec S64 32))
    ∧ after hostOps0_1 σ (Proc.devRef .tc main_v0) = σ (Proc.devRef .tc main_v0)
    ∧ after hostOps0_1 σ (Proc.devRef .tc main_arg3) = σ (Proc.devRef .tc main_arg3) := by
  refine ⟨?_, ?_, ?_⟩ <;>
    · simp only [hostOps0_1, TRef.binary, TRef.ternary, TRef.unary, TRef.toBuf, TRef.ofBuf, cast_eq]
      after_results_simp <;> rfl
theorem seg0 : after hostOps0 σ (Proc.devRef .tc main_v2) = subi cols (broadcastInDim S64 ![] bcast_S_S64 (constantI S_ 32 8#32))
    ∧ after hostOps0 σ (Proc.devRef .tc main_v0) = (cols : IVec S64 32)
    ∧ after hostOps0 σ (Proc.devRef .tc main_c_0) = (constantI S_ 32 0#32 : IVec S_ 32)
    ∧ after hostOps0 σ (Proc.devRef .tc main_c_1) = (constantI S_ 32 48#32 : IVec S_ 32)
    ∧ after hostOps0 σ (Proc.devRef .tc main_arg3) = σ (Proc.devRef .tc main_arg3) := by
  refine ⟨?_, ?_, ?_, ?_, ?_⟩ <;> · simp only [hostOps0]; after_results_simp <;> rfl

end Host

variable (m : (ℓ : Loc nD τ sig) → Buf (Elt Ideal) ℓ)

theorem V_tab (c : Dev nD) : V m c main_v56 = laid (cases (spread (a3 m c))) := by
  show StableHlo.after [hostOps0, hostOps0_1, hostOps0_2, hostOps0_3, hostOps0_4, hostOps0_5, hostOps0_6].flatten _ _ = _
  simp only [List.flatten_cons, List.flatten_nil, List.append_nil, StableHlo.after_append]
  rw [seg6, seg5, (seg4 _).1, (seg4 _).2.1, (seg4 _).2.2, (seg3 _).1, (seg3 _).2.1, (seg3 _).2.2, (seg2 _).1, (seg2 _).2.1, (seg2 _).2.2.1,
    (seg2 _).2.2.2.1, (seg2 _).2.2.2.2, (seg1 _).1, (seg1 _).2.1, (seg1 _).2.2, (seg0 _).1, (seg0 _).2.1, (seg0 _).2.2.1, (seg0 _).2.2.2.1, (seg0 _).2.2.2.2]
  rfl

/-! ## An entry of the table -/

/-- Which columns are within which windows, and the bias table's column of two columns. -/
theorem inside_apply (qc kc : Fin 64) : inside (ix2 qc kc) = if near qc kc then 1#1 else 0#1 :=
  (by decide +kernel : ∀ qc kc : Fin 64, inside (ix2 qc kc) = if near qc kc then 1#1 else 0#1) qc kc
theorem relative_apply (qc kc : Fin 64) : relative (ix2 qc kc) = BitVec.ofNat 32 (relCol qc kc).val :=
  (by decide +kernel : ∀ qc kc : Fin 64, relative (ix2 qc kc) = BitVec.ofNat 32 (relCol qc kc).val) qc kc

theorem hot_apply (qc kc : Fin 64) (p : Fin 31) : hot (ix3 qc kc p) = if p = relCol qc kc then 1 else 0 := by
  have e1 : broadcastInDim S64x64x31 ![0, 1, 2] bcast_S64x64x1_S64x64x31_0_1_2 (broadcastInDim S64x64x1 ![0, 1] bcast_S64x64_S64x64x1_0_1 relative) (ix3 qc kc p)
      = BitVec.ofNat 32 (relCol qc kc).val := by
    rw [← relative_apply]
    refine (broadcastInDim_apply _ _ _ _ (ix3 qc kc 0) fun a => ?_).trans (broadcastInDim_apply _ _ _ _ (ix2 qc kc) fun a => ?_)
    · match a with
      | ⟨0, _⟩ => rfl
      | ⟨1, _⟩ => rfl
      | ⟨2, _⟩ => rfl
    · match a with
      | ⟨0, _⟩ => rfl
      | ⟨1, _⟩ => rfl
  have e2 : broadcastInDim S64x64x31 ![0, 1, 2] bcast_S1x1x31_S64x64x31_0_1_2 (broadcastInDim S1x1x31 ![2] bcast_S31_S1x1x31_2 (iotaInDim S31 32 0)) (ix3 qc kc p)
      = BitVec.ofNat 32 p.val := by
    refine (broadcastInDim_apply _ _ _ _ (ix3 0 0 p) fun a => ?_).trans (broadcastInDim_apply _ _ _ _ (ix1 p) fun a => ?_)
    · match a with
      | ⟨0, _⟩ => rfl
      | ⟨1, _⟩ => rfl
      | ⟨2, _⟩ => rfl
    · match a with
      | ⟨0, _⟩ => rfl
  unfold hot
  show ((IntOp.cmpi .eq (broadcastInDim S64x64x31 ![0, 1, 2] bcast_S64x64x1_S64x64x31_0_1_2 (broadcastInDim S64x64x1 ![0, 1] bcast_S64x64_S64x64x1_0_1 relative) (ix3 qc kc p))
    (broadcastInDim S64x64x31 ![0, 1, 2] bcast_S1x1x31_S64x64x31_0_1_2 (broadcastInDim S1x1x31 ![2] bcast_S31_S1x1x31_2 (iotaInDim S31 32 0)) (ix3 qc kc p))).toNat : EReal) = _
  rw [e1, e2, (by decide +kernel : ∀ a b : Fin 31, (IntOp.cmpi .eq (BitVec.ofNat 32 a.val) (BitVec.ofNat 32 b.val)).toNat = if b = a then 1 else 0) (relCol qc kc) p]
  split <;> simp

/-- The bias table against a column of `hot`. -/
theorem pick_apply (x : S4x8x15x31.Idx → EReal) (a : Fin 4) (h : Fin 8) (r : Fin 15) (qc kc : Fin 64) :
    Host.dotGeneral (F := Ideal) (φ₁ := .f32) (φ₂ := .f32) dot_S4x8x15x31_S64x64x31_S4x8x15x64x64_3_2_012_01_n_n (some .fp32) x hot (ix5 a h r qc kc)
      = x (ix4 a h r (relCol qc kc)) := by
  have hh : ∀ p : Fin 31, hot (ix3 qc kc p) = if p = relCol qc kc then 1 else 0 := hot_apply qc kc
  revert hh
  generalize hot = y
  intro hh
  simp only [Host.dotGeneral]
  rw [Ideal.dotGeneral_apply, ← Equiv.sum_comp (ValueIdx.contrEquiv1 dot_S4x8x15x31_S64x64x31_S4x8x15x64x64_3_2_012_01_n_n 31 rfl rfl).symm]
  have e : ∀ p : Fin 31, x (dot_S4x8x15x31_S64x64x31_S4x8x15x64x64_3_2_012_01_n_n.lhsIdx (ix5 a h r qc kc) ((ValueIdx.contrEquiv1 dot_S4x8x15x31_S64x64x31_S4x8x15x64x64_3_2_012_01_n_n 31 rfl rfl).symm p))
        * y (dot_S4x8x15x31_S64x64x31_S4x8x15x64x64_3_2_012_01_n_n.rhsIdx (ix5 a h r qc kc) ((ValueIdx.contrEquiv1 dot_S4x8x15x31_S64x64x31_S4x8x15x64x64_3_2_012_01_n_n 31 rfl rfl).symm p))
      = if p = relCol qc kc then x (ix4 a h r p) else 0 := fun p => by
    have hp := ValueIdx.contrEquiv1_symm_val dot_S4x8x15x31_S64x64x31_S4x8x15x64x64_3_2_012_01_n_n 31 rfl rfl p
    have el : dot_S4x8x15x31_S64x64x31_S4x8x15x64x64_3_2_012_01_n_n.lhsIdx (ix5 a h r qc kc) ((ValueIdx.contrEquiv1 dot_S4x8x15x31_S64x64x31_S4x8x15x64x64_3_2_012_01_n_n 31 rfl rfl).symm p) = ix4 a h r p :=
      funext fun b => Fin.ext (by
        match b with
        | ⟨0, _⟩ => rfl
        | ⟨1, _⟩ => rfl
        | ⟨2, _⟩ => rfl
        | ⟨3, _⟩ => exact (dot_S4x8x15x31_S64x64x31_S4x8x15x64x64_3_2_012_01_n_n.lhsIdx_val_of_single rfl _ _).trans hp)
    have er : dot_S4x8x15x31_S64x64x31_S4x8x15x64x64_3_2_012_01_n_n.rhsIdx (ix5 a h r qc kc) ((ValueIdx.contrEquiv1 dot_S4x8x15x31_S64x64x31_S4x8x15x64x64_3_2_012_01_n_n 31 rfl rfl).symm p) = ix3 qc kc p :=
      funext fun b => Fin.ext (by
        match b with
        | ⟨0, _⟩ => rfl
        | ⟨1, _⟩ => rfl
        | ⟨2, _⟩ => exact (dot_S4x8x15x31_S64x64x31_S4x8x15x64x64_3_2_012_01_n_n.rhsIdx_val_of_single rfl _ _).trans hp)
    rw [el, er, hh]
    split
    · exact mul_one _
    · exact mul_zero _
  rw [Finset.sum_congr rfl fun p _ => e p, Finset.sum_ite_eq' Finset.univ (relCol qc kc), if_pos (Finset.mem_univ _)]

theorem spread_apply (x : S4x8x15x31.Idx → EReal) (a : Fin 4) (h : Fin 8) (r : Fin 15) (qc kc : Fin 64) :
    spread x (ix5 a h r qc kc) = if near qc kc then x (ix4 a h r (relCol qc kc)) else ⊥ := by
  have e1 : broadcastInDim S4x8x15x64x64 ![3, 4] bcast_S64x64_S4x8x15x64x64_3_4 inside (ix5 a h r qc kc) = if near qc kc then 1#1 else 0#1 := by
    rw [← inside_apply]
    refine broadcastInDim_apply _ _ _ _ (ix2 qc kc) fun b => ?_
    match b with
    | ⟨0, _⟩ => rfl
    | ⟨1, _⟩ => rfl
  unfold spread
  rw [select_apply, e1, pick_apply]
  have e2 : broadcastInDim S4x8x15x64x64 ![] bcast_S_S4x8x15x64x64 (constant (F := Ideal) S_ .f32 0xFF800000#32) (ix5 a h r qc kc) = (⊥ : EReal) := by
    show Ideal.ofBits .f32 0xFF800000#32 = ⊥
    simp [Ideal.ofBits, Ideal.ieee]
  rw [e2]
  split <;> rfl

theorem case_apply (y : FVec Ideal S4x8x15x64x64 .f32) (o : Nat) (hs : S4x8x15x64x64.Slices ![0, 0, o, 0, 0] S4x8x8x64x64)
    (a : Fin 4) (h : Fin 8) (w : Fin 8) (qc kc : Fin 64) (r : Fin 15) (hr : r.val = o + w.val) :
    case y o hs (ix6 a h 0 w qc kc) = y (ix5 a h r qc kc) := by
  unfold case
  refine (broadcastInDim_apply _ _ _ _ (ix5 a h w qc kc) fun b => ?_).trans (extractStridedSlice_apply _ _ _ _ (ix5 a h r qc kc) fun b => ?_)
  · match b with
    | ⟨0, _⟩ => rfl
    | ⟨1, _⟩ => rfl
    | ⟨2, _⟩ => rfl
    | ⟨3, _⟩ => rfl
    | ⟨4, _⟩ => rfl
  · match b with
    | ⟨0, _⟩ => show a.val = 0 + a.val; omega
    | ⟨1, _⟩ => show h.val = 0 + h.val; omega
    | ⟨2, _⟩ => exact hr
    | ⟨3, _⟩ => show qc.val = 0 + qc.val; omega
    | ⟨4, _⟩ => show kc.val = 0 + kc.val; omega

theorem laid_apply (z : FVec Ideal S4x8x8x8x64x64 .f32) (a p : Fin 4) (s : Fin 8) (u : Fin 2) (qc : Fin 64) (j : Fin 512) :
    laid z (ix5 a p s (lane u qc) j) = z (ix6 a ⟨p.val * 2 + u.val, by omega⟩ s (keyRow j) qc (keyCol j)) := by
  unfold laid
  refine (shapeCast_apply _ _ _ (ix6 a p s u qc j) ?_).trans ((transpose_apply _ _ _ _ (ix6 a p u s qc j) fun b => ?_).trans
    ((shapeCast_apply _ _ _ (ix6 a ⟨p.val * 2 + u.val, by omega⟩ s qc (keyRow j) (keyCol j)) ?_).trans (transpose_apply _ _ _ _ _ fun b => ?_)))
  · rw [Shape.rowMajor_val_six, Shape.rowMajor_val_five]
    show ((((a.val * 4 + p.val) * 8 + s.val) * 2 + u.val) * 64 + qc.val) * 512 + j.val = (((a.val * 4 + p.val) * 8 + s.val) * 128 + (u.val * 64 + qc.val)) * 512 + j.val
    omega
  · match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_six]
    show ((((a.val * 8 + (p.val * 2 + u.val)) * 8 + s.val) * 64 + qc.val) * 8 + j.val / 64) * 64 + j.val % 64
      = ((((a.val * 4 + p.val) * 2 + u.val) * 8 + s.val) * 64 + qc.val) * 512 + j.val
    omega
  · match b with
    | ⟨0, _⟩ => rfl
    | ⟨1, _⟩ => rfl
    | ⟨2, _⟩ => rfl
    | ⟨3, _⟩ => rfl
    | ⟨4, _⟩ => rfl
    | ⟨5, _⟩ => rfl

/-- The eight cases: case `s` starts `7 - s` rows down the bias table. -/
theorem cases_apply (y : FVec Ideal S4x8x15x64x64 .f32) (a : Fin 4) (h s w : Fin 8) (qc kc : Fin 64) (r : Fin 15) (hr : r.val = 7 - s.val + w.val) :
    cases y (ix6 a h s w qc kc) = y (ix5 a h r qc kc) := by
  have piece : ∀ (k : Nat) (hk : k < 8) (x : FVec Ideal S4x8x1x8x64x64 .f32) (xs : List ((s : Shape) × (s.Idx → EReal))) (hc) (hl : xs.length = 8)
      (hx : xs[k]'(by omega) = ⟨S4x8x1x8x64x64, x⟩)
      (hpre : (((xs.take k).map (·.1)).map fun s : Shape => if h : s.rank = S4x8x8x8x64x64.rank then s.size ((2 : Fin S4x8x8x8x64x64.rank).cast h.symm) else 0).sum = k), s.val = k →
      concatenate S4x8x8x8x64x64 2 xs hc (ix6 a h s w qc kc) = x (ix6 a h 0 w qc kc) := fun k hk x xs hc hl hx hpre e =>
    concatenate_apply_piece (t := S4x8x8x8x64x64) 2 xs hc (ix6 a h s w qc kc) k (by omega) S4x8x1x8x64x64 x hx rfl k hpre (ix6 a h 0 w qc kc)
      (fun c hc => by
        match c with
        | ⟨0, _⟩ => rfl
        | ⟨1, _⟩ => rfl
        | ⟨2, _⟩ => exact absurd rfl hc
        | ⟨3, _⟩ => rfl
        | ⟨4, _⟩ => rfl
        | ⟨5, _⟩ => rfl) (by show k + 0 = s.val; omega)
  unfold cases
  obtain ⟨s, hs⟩ := s
  interval_cases s
  all_goals
    exact (piece _ hs _ _ _ rfl rfl rfl rfl).trans (case_apply _ _ _ _ _ _ _ _ r (by simpa using hr))

/-- The table's entry for a query and a key is their bias. -/
theorem tab_apply (x : S4x8x15x31.Idx → EReal) (t : Fin 32) (qc : Fin 64) (h : Fin 8) (j : Fin 512) :
    laid (cases (spread x)) (ix5 0 ⟨h.val / 2, by omega⟩ (slot t) (lane ⟨h.val % 2, by omega⟩ qc) j) = bias x h t qc j := by
  rw [laid_apply, cases_apply _ _ _ _ _ _ _ (relRow t (keyRow j)) (by
    show min (t.val - 4) 24 + j.val / 64 + 7 - t.val = 7 - (t.val - min (t.val - 4) 24) + j.val / 64
    omega), spread_apply]
  have e : (⟨h.val / 2 * 2 + h.val % 2, by omega⟩ : Fin 8) = h := Fin.ext (by show h.val / 2 * 2 + h.val % 2 = h.val; omega)
  exact congrArg (fun g => if near qc (keyCol j) then x (ix4 0 g (relRow t (keyRow j)) (relCol qc (keyCol j))) else ⊥) e

end Cert.Proof.NaKernel

end
-- ==== Proof.NaReference.lean ====
/-
  The reference of the neighbourhood attention, read at one element: its result at token `n` and channel `ch` is the
  attention function of Proof/NaSpec.lean there.
-/
module

public import proofs.«01_k».proof.Proof.NaSpec
public import proofs.«01_k».proof.Proof.Gen.ReferenceIdeal.Read
public import Idealize.ShloMosaic.Lib.ValueIdxRank6

@[expose] public section

set_option maxRecDepth 16384

noncomputable section

namespace Cert.Proof.NaReference

open Idealize.ShloMosaic Idealize.ShloMosaic.ValueIdx Idealize.ShloMosaic.TcCoe Idealize.SL.Sem
open Cert.ReferenceIdeal Cert.ReferenceIdeal.Gen Cert.ReferenceIdeal.Read Cert.Na

/-! ## The three gathers, over any operand and any index array -/

theorem gatherRows_apply (y : S16x8x32x64x64.Idx → EReal) (idx : IVec S32x8x1 32) (b : Fin 16) (h : Fin 8) (t : Fin 32) (w : Fin 8) (kc d : Fin 64) :
    Host.gather gather_S16x8x32x64x64_S32x8x1_S16x8x32x8x64x64_0145_2_n_n_2_2_16816464 y idx (ix6 b h t w kc d)
      = y (ix5 b h ⟨min (idx (ix3 t w 0)).toInt.toNat 31, by omega⟩ kc d) := by
  unfold Host.gather
  refine congrArg y (funext fun a => Fin.ext ?_)
  show gather_S16x8x32x64x64_S32x8x1_S16x8x32x8x64x64_0145_2_n_n_2_2_16816464.start (ix6 b h t w kc d) idx a
    + gather_S16x8x32x64x64_S32x8x1_S16x8x32x8x64x64_0145_2_n_n_2_2_16816464.batchCoord (ix6 b h t w kc d) a
    + gather_S16x8x32x64x64_S32x8x1_S16x8x32x8x64x64_0145_2_n_n_2_2_16816464.offCoord (ix6 b h t w kc d) a = _
  rw [GatherDims.batchCoord_eq_zero _ _ _ List.not_mem_nil, Nat.add_zero]
  unfold GatherDims.start
  obtain rfl | rfl | rfl | rfl | rfl : a = 0 ∨ a = 1 ∨ a = 2 ∨ a = 3 ∨ a = 4 := by revert a; decide
  · rw [dif_neg (by decide), Nat.zero_add]; rfl
  · rw [dif_neg (by decide), Nat.zero_add]; rfl
  · rw [GatherDims.offCoord_eq_zero _ _ _ (by decide), Nat.add_zero, dif_pos (by decide)]
    refine congrArg (fun i => min (idx i).toInt.toNat 31) (funext fun c => Fin.ext ?_)
    match c with
    | ⟨0, _⟩ => rfl
    | ⟨1, _⟩ => rfl
    | ⟨2, _⟩ => rfl
  · rw [dif_neg (by decide), Nat.zero_add]; rfl
  · rw [dif_neg (by decide), Nat.zero_add]; rfl

theorem gatherCols_apply (y : S8x15x31.Idx → EReal) (idx : IVec S64x64x1 32) (h : Fin 8) (r : Fin 15) (qc kc : Fin 64) :
    Host.gather gather_S8x15x31_S64x64x1_S8x15x64x64_01_2_n_n_2_2_8151 y idx (ix4 h r qc kc)
      = y (ix3 h r ⟨min (idx (ix3 qc kc 0)).toInt.toNat 30, by omega⟩) := by
  unfold Host.gather
  refine congrArg y (funext fun a => Fin.ext ?_)
  show gather_S8x15x31_S64x64x1_S8x15x64x64_01_2_n_n_2_2_8151.start (ix4 h r qc kc) idx a
    + gather_S8x15x31_S64x64x1_S8x15x64x64_01_2_n_n_2_2_8151.batchCoord (ix4 h r qc kc) a
    + gather_S8x15x31_S64x64x1_S8x15x64x64_01_2_n_n_2_2_8151.offCoord (ix4 h r qc kc) a = _
  rw [GatherDims.batchCoord_eq_zero _ _ _ List.not_mem_nil, Nat.add_zero]
  unfold GatherDims.start
  obtain rfl | rfl | rfl : a = 0 ∨ a = 1 ∨ a = 2 := by revert a; decide
  · rw [dif_neg (by decide), Nat.zero_add]; rfl
  · rw [dif_neg (by decide), Nat.zero_add]; rfl
  · rw [GatherDims.offCoord_eq_zero _ _ _ (by decide), Nat.add_zero, dif_pos (by decide)]
    refine congrArg (fun i => min (idx i).toInt.toNat 30) (funext fun c => Fin.ext ?_)
    match c with
    | ⟨0, _⟩ => rfl
    | ⟨1, _⟩ => rfl
    | ⟨2, _⟩ => rfl

theorem gatherBias_apply (y : S8x15x64x64.Idx → EReal) (idx : IVec S32x8x1 32) (h : Fin 8) (t : Fin 32) (w : Fin 8) (qc kc : Fin 64) :
    Host.gather gather_S8x15x64x64_S32x8x1_S8x32x8x64x64_034_1_n_n_1_2_816464 y idx (ix5 h t w qc kc)
      = y (ix4 h ⟨min (idx (ix3 t w 0)).toInt.toNat 14, by omega⟩ qc kc) := by
  unfold Host.gather
  refine congrArg y (funext fun a => Fin.ext ?_)
  show gather_S8x15x64x64_S32x8x1_S8x32x8x64x64_034_1_n_n_1_2_816464.start (ix5 h t w qc kc) idx a
    + gather_S8x15x64x64_S32x8x1_S8x32x8x64x64_034_1_n_n_1_2_816464.batchCoord (ix5 h t w qc kc) a
    + gather_S8x15x64x64_S32x8x1_S8x32x8x64x64_034_1_n_n_1_2_816464.offCoord (ix5 h t w qc kc) a = _
  rw [GatherDims.batchCoord_eq_zero _ _ _ List.not_mem_nil, Nat.add_zero]
  unfold GatherDims.start
  obtain rfl | rfl | rfl | rfl : a = 0 ∨ a = 1 ∨ a = 2 ∨ a = 3 := by revert a; decide
  · rw [dif_neg (by decide), Nat.zero_add]; rfl
  · rw [GatherDims.offCoord_eq_zero _ _ _ (by decide), Nat.add_zero, dif_pos (by decide)]
    refine congrArg (fun i => min (idx i).toInt.toNat 14) (funext fun c => Fin.ext ?_)
    match c with
    | ⟨0, _⟩ => rfl
    | ⟨1, _⟩ => rfl
    | ⟨2, _⟩ => rfl
  · rw [dif_neg (by decide), Nat.zero_add]; rfl
  · rw [dif_neg (by decide), Nat.zero_add]; rfl

/-! ## The index arrays and the mask -/

/-- Row `w` of the window of grid row `t`. -/
def winRow (t : Fin 32) (w : Fin 8) : Fin 32 := ⟨rowStart t.val + w.val, by unfold rowStart; omega⟩

theorem keyRows_apply (t : Fin 32) (w : Fin 8) : min (val_main_v58 (F := Ideal) (ix3 t w 0)).toInt.toNat 31 = rowStart t.val + w.val :=
  (by decide +kernel : ∀ (t : Fin 32) (w : Fin 8), min (val_main_v58 (F := Ideal) (ix3 t w 0)).toInt.toNat 31 = rowStart t.val + w.val) t w
theorem valueRows_apply (t : Fin 32) (w : Fin 8) : min (val_main_v66 (F := Ideal) (ix3 t w 0)).toInt.toNat 31 = rowStart t.val + w.val :=
  (by decide +kernel : ∀ (t : Fin 32) (w : Fin 8), min (val_main_v66 (F := Ideal) (ix3 t w 0)).toInt.toNat 31 = rowStart t.val + w.val) t w
theorem biasRows_apply (t : Fin 32) (w : Fin 8) : min (val_main_v84 (F := Ideal) (ix3 t w 0)).toInt.toNat 14 = (relRow t w).val :=
  (by decide +kernel : ∀ (t : Fin 32) (w : Fin 8), min (val_main_v84 (F := Ideal) (ix3 t w 0)).toInt.toNat 14 = (relRow t w).val) t w
theorem biasCols_apply (qc kc : Fin 64) : min (val_main_v77 (F := Ideal) (ix3 qc kc 0)).toInt.toNat 30 = (relCol qc kc).val :=
  (by decide +kernel : ∀ qc kc : Fin 64, min (val_main_v77 (F := Ideal) (ix3 qc kc 0)).toInt.toNat 30 = (relCol qc kc).val) qc kc
theorem mask_apply (qc kc : Fin 64) : val_main_v27 (F := Ideal) (ix2 qc kc) = if near qc kc then 1#1 else 0#1 :=
  (by decide +kernel : ∀ qc kc : Fin 64, val_main_v27 (F := Ideal) (ix2 qc kc) = if near qc kc then 1#1 else 0#1) qc kc

/-! ## The scores -/

variable (x0 x1 x2 : S32768x512.Idx → EReal) (x3 : S4x8x15x31.Idx → EReal)

theorem q_apply (b : Fin 16) (h : Fin 8) (t : Fin 32) (qc d : Fin 64) :
    val_main_v4 (F := Ideal) x0 (ix5 b h t qc d) = x0 (ix2 (token b t qc) (chan h d)) := by
  rw [val_main_v4_apply, val_main_v3_apply]
  refine congrArg x0 (funext fun a => Fin.ext ?_)
  match a with
  | ⟨0, _⟩ => show ((((b.val * 32 + t.val) * 64 + qc.val) * 8 + h.val) * 64 + d.val) / 512 = b.val * 2048 + t.val * 64 + qc.val; omega
  | ⟨1, _⟩ => show ((((b.val * 32 + t.val) * 64 + qc.val) * 8 + h.val) * 64 + d.val) % 512 = h.val * 64 + d.val; omega

theorem k_apply (b : Fin 16) (h : Fin 8) (t : Fin 32) (j : Fin 512) (d : Fin 64) :
    val_main_v60 (F := Ideal) x1 (ix5 b h t j d) = x1 (ix2 (key b t j) (chan h d)) := by
  unfold val_main_v60
  refine (shapeCast_apply _ _ _ (ix6 b h t (keyRow j) (keyCol j) d) ?_).trans ?_
  · rw [Shape.rowMajor_val_six, Shape.rowMajor_val_five]
    show ((((b.val * 8 + h.val) * 32 + t.val) * 8 + j.val / 64) * 64 + j.val % 64) * 64 + d.val = (((b.val * 8 + h.val) * 32 + t.val) * 512 + j.val) * 64 + d.val
    omega
  · unfold val_main_v59
    have er : ∀ hp, (⟨min (val_main_v58 (F := Ideal) (ix3 t (keyRow j) 0)).toInt.toNat 31, hp⟩ : Fin 32) = winRow t (keyRow j) :=
      fun _ => Fin.ext (keyRows_apply t (keyRow j))
    rw [gatherRows_apply, er, val_main_v7_apply, val_main_v6_apply]
    refine congrArg x1 (funext fun a => Fin.ext ?_)
    match a with
    | ⟨0, _⟩ => show ((((b.val * 32 + (rowStart t.val + j.val / 64)) * 64 + j.val % 64) * 8 + h.val) * 64 + d.val) / 512 = b.val * 2048 + rowStart t.val * 64 + j.val; omega
    | ⟨1, _⟩ => show ((((b.val * 32 + (rowStart t.val + j.val / 64)) * 64 + j.val % 64) * 8 + h.val) * 64 + d.val) % 512 = h.val * 64 + d.val; omega

theorem v_apply (b : Fin 16) (h : Fin 8) (t : Fin 32) (j : Fin 512) (d : Fin 64) :
    val_main_v68 (F := Ideal) x2 (ix5 b h t j d) = x2 (ix2 (key b t j) (chan h d)) := by
  unfold val_main_v68
  refine (shapeCast_apply _ _ _ (ix6 b h t (keyRow j) (keyCol j) d) ?_).trans ?_
  · rw [Shape.rowMajor_val_six, Shape.rowMajor_val_five]
    show ((((b.val * 8 + h.val) * 32 + t.val) * 8 + j.val / 64) * 64 + j.val % 64) * 64 + d.val = (((b.val * 8 + h.val) * 32 + t.val) * 512 + j.val) * 64 + d.val
    omega
  · unfold val_main_v67
    have er : ∀ hp, (⟨min (val_main_v66 (F := Ideal) (ix3 t (keyRow j) 0)).toInt.toNat 31, hp⟩ : Fin 32) = winRow t (keyRow j) :=
      fun _ => Fin.ext (valueRows_apply t (keyRow j))
    rw [gatherRows_apply, er, val_main_v10_apply, val_main_v9_apply]
    refine congrArg x2 (funext fun a => Fin.ext ?_)
    match a with
    | ⟨0, _⟩ => show ((((b.val * 32 + (rowStart t.val + j.val / 64)) * 64 + j.val % 64) * 8 + h.val) * 64 + d.val) / 512 = b.val * 2048 + rowStart t.val * 64 + j.val; omega
    | ⟨1, _⟩ => show ((((b.val * 32 + (rowStart t.val + j.val / 64)) * 64 + j.val % 64) * 8 + h.val) * 64 + d.val) % 512 = h.val * 64 + d.val; omega

theorem dot_apply (b : Fin 16) (h : Fin 8) (t : Fin 32) (qc : Fin 64) (j : Fin 512) :
    val_main_v69 (F := Ideal) x0 x1 (ix5 b h t qc j) = ∑ d : Fin 64, x0 (ix2 (token b t qc) (chan h d)) * x1 (ix2 (key b t j) (chan h d)) := by
  rw [val_main_v69_apply]
  refine Finset.sum_congr rfl fun d _ => ?_
  rw [← q_apply x0, ← k_apply x1]
  refine congrArg₂ (· * ·) (congrArg _ (funext fun a => ?_)) (congrArg _ (funext fun a => ?_)) <;>
  match a with
  | ⟨0, _⟩ => rfl
  | ⟨1, _⟩ => rfl
  | ⟨2, _⟩ => rfl
  | ⟨3, _⟩ => rfl
  | ⟨4, _⟩ => rfl

theorem bias_apply (h : Fin 8) (t : Fin 32) (qc : Fin 64) (w : Fin 8) (kc : Fin 64) :
    val_main_v86 (F := Ideal) x3 (ix5 h t qc w kc) = x3 (ix4 0 h (relRow t w) (relCol qc kc)) := by
  rw [val_main_v86_apply]
  have e : idx_main_v86 (ix5 h t qc w kc) = ix5 h t w qc kc := funext fun a => by
    match a with
    | ⟨0, _⟩ => rfl
    | ⟨1, _⟩ => rfl
    | ⟨2, _⟩ => rfl
    | ⟨3, _⟩ => rfl
    | ⟨4, _⟩ => rfl
  rw [e]
  unfold val_main_v85
  have er : ∀ hp, (⟨min (val_main_v84 (F := Ideal) (ix3 t w 0)).toInt.toNat 14, hp⟩ : Fin 15) = relRow t w := fun _ => Fin.ext (biasRows_apply t w)
  have ec : ∀ hp, (⟨min (val_main_v77 (F := Ideal) (ix3 qc kc 0)).toInt.toNat 30, hp⟩ : Fin 31) = relCol qc kc := fun _ => Fin.ext (biasCols_apply qc kc)
  rw [gatherBias_apply, er]
  unfold val_main_v78
  rw [gatherCols_apply, ec]
  rw [val_main_v1_apply, val_main_v0_apply]
  generalize relRow t w = r
  generalize relCol qc kc = c
  refine congrArg x3 (funext fun a => Fin.ext ?_)
  match a with
  | ⟨0, _⟩ => rfl
  | ⟨1, _⟩ => show ((h.val * 15 + r.val) * 31 + c.val) / 465 % 8 = h.val; omega
  | ⟨2, _⟩ => show ((h.val * 15 + r.val) * 31 + c.val) / 31 % 15 = r.val; omega
  | ⟨3, _⟩ => show ((h.val * 15 + r.val) * 31 + c.val) % 31 = c.val; omega

/-- The factor on the scores. -/
theorem eighth : Ideal.ofBits .f32 0x3E000000#32 = ((1 / 8 : ℝ) : EReal) := by
  simp [Ideal.ofBits, Ideal.ieee, -EReal.coe_mul]; norm_num

theorem score_apply (b : Fin 16) (h : Fin 8) (t : Fin 32) (qc : Fin 64) (j : Fin 512) :
    val_main_v93 (F := Ideal) x0 x1 x3 (ix5 b h t qc j) = score x0 x1 x3 b t qc h j := by
  unfold val_main_v93
  refine (shapeCast_apply _ _ _ (ix6 b h t qc (keyRow j) (keyCol j)) ?_).trans ?_
  · rw [Shape.rowMajor_val_six, Shape.rowMajor_val_five]
    show ((((b.val * 8 + h.val) * 32 + t.val) * 64 + qc.val) * 8 + j.val / 64) * 64 + j.val % 64 = (((b.val * 8 + h.val) * 32 + t.val) * 64 + qc.val) * 512 + j.val
    omega
  have em : val_main_call3_v1 (F := Ideal) (ix6 b h t qc (keyRow j) (keyCol j)) = if near qc (keyCol j) then 1#1 else 0#1 := by
    rw [val_main_call3_v1_apply, val_main_v88_apply, ← mask_apply]
    refine congrArg _ (funext fun a => ?_)
    match a with
    | ⟨0, _⟩ => rfl
    | ⟨1, _⟩ => rfl
  have eb : val_main_v90 (F := Ideal) x3 (ix6 b h t qc (keyRow j) (keyCol j)) = x3 (ix4 0 h (relRow t (keyRow j)) (relCol qc (keyCol j))) := by
    rw [val_main_v90_apply, val_main_v89_apply, ← bias_apply x3]
    refine congrArg _ (funext fun a => ?_)
    match a with
    | ⟨0, _⟩ => rfl
    | ⟨1, _⟩ => rfl
    | ⟨2, _⟩ => rfl
    | ⟨3, _⟩ => rfl
    | ⟨4, _⟩ => rfl
  have es : val_main_v87 (F := Ideal) x0 x1 (ix6 b h t qc (keyRow j) (keyCol j))
      = (∑ d : Fin 64, x0 (ix2 (token b t qc) (chan h d)) * x1 (ix2 (key b t j) (chan h d))) * ((1 / 8 : ℝ) : EReal) := by
    unfold val_main_v87
    refine (shapeCast_apply _ _ _ (ix5 b h t qc j) ?_).trans ?_
    · rw [Shape.rowMajor_val_six, Shape.rowMajor_val_five]
      show (((b.val * 8 + h.val) * 32 + t.val) * 64 + qc.val) * 512 + j.val = ((((b.val * 8 + h.val) * 32 + t.val) * 64 + qc.val) * 8 + j.val / 64) * 64 + j.val % 64
      omega
    · rw [val_main_v71_apply, dot_apply, val_main_v70_apply, ← eighth]
      rfl
  have en : val_main_call3_v2 (F := Ideal) (ix6 b h t qc (keyRow j) (keyCol j)) = (⊥ : EReal) := by
    rw [val_main_call3_v2_apply]
    show Ideal.ofBits .f32 0xFF800000#32 = ⊥
    simp [Ideal.ofBits, Ideal.ieee]
  rw [val_main_v92_apply, em, val_main_v91_apply, eb, es, en]
  unfold score bias
  split
  · rfl
  · exact (EReal.add_bot _).symm

/-! ## The softmax -/

/-- The largest over the keys. -/
theorem reduceMax_apply (y : S16x8x32x64x512.Idx → EReal) (b : Fin 16) (h : Fin 8) (t : Fin 32) (qc : Fin 64) :
    Host.reduce (FloatOps.maximumf (F := Ideal) (φ := .f32)) y (val_main_cst_20 (F := Ideal)) reducesTo_S16x8x32x64x512_S16x8x32x64_d4 h_S_ (ix4 b h t qc)
      = rowMax fun j : Fin 512 => y (ix5 b h t qc j) := by
  have e : val_main_cst_20 (F := Ideal) (Shape.Idx.first h_S_) = (⊥ : EReal) := by
    show Ideal.ofBits .f32 0xFF800000#32 = ⊥
    simp [Ideal.ofBits, Ideal.ieee]
  rw [Host.reduce_eq_fold_single _ y _ reducesTo_S16x8x32x64x512_S16x8x32x64_d4 (by decide) h_S_, e]
  unfold rowMax
  refine congrArg (fun g => Finset.fold max ⊥ g Finset.univ) (funext fun j => congrArg y (funext fun a => Fin.ext ?_))
  match a with
  | ⟨0, _⟩ => rfl
  | ⟨1, _⟩ => rfl
  | ⟨2, _⟩ => rfl
  | ⟨3, _⟩ => rfl
  | ⟨4, _⟩ => rfl

theorem max_apply (b : Fin 16) (h : Fin 8) (t : Fin 32) (qc : Fin 64) :
    val_main_v96 (F := Ideal) x0 x1 x3 (ix4 b h t qc) = rowMax (score x0 x1 x3 b t qc h) := by
  rw [val_main_v96_apply]
  have e : val_main_v95 (F := Ideal) (ix4 b h t qc) = (⊥ : EReal) := by
    rw [val_main_v95_apply]
    show Ideal.ofBits .f32 0xFF800000#32 = ⊥
    simp [Ideal.ofBits, Ideal.ieee]
  rw [e]
  refine (max_eq_right bot_le).trans ?_
  unfold val_main_v94
  rw [reduceMax_apply]
  exact congrArg rowMax (funext fun j => score_apply x0 x1 x3 b h t qc j)

theorem exp_apply (b : Fin 16) (h : Fin 8) (t : Fin 32) (qc : Fin 64) (j : Fin 512) :
    val_main_v100 (F := Ideal) x0 x1 x3 (ix5 b h t qc j) = Ideal.exp (score x0 x1 x3 b t qc h j - rowMax (score x0 x1 x3 b t qc h)) := by
  have e : val_main_v98 (F := Ideal) x0 x1 x3 (ix5 b h t qc j) = rowMax (score x0 x1 x3 b t qc h) := by
    rw [val_main_v98_apply, val_main_v97_apply, ← max_apply]
    refine congrArg _ (funext fun a => ?_)
    match a with
    | ⟨0, _⟩ => rfl
    | ⟨1, _⟩ => rfl
    | ⟨2, _⟩ => rfl
    | ⟨3, _⟩ => rfl
  rw [val_main_v100_apply, val_main_v99_apply, e, score_apply]
  rfl

theorem sum_apply (b : Fin 16) (h : Fin 8) (t : Fin 32) (qc : Fin 64) :
    val_main_v101 (F := Ideal) x0 x1 x3 (ix4 b h t qc)
      = ∑ j : Fin 512, Ideal.exp (score x0 x1 x3 b t qc h j - rowMax (score x0 x1 x3 b t qc h)) := by
  rw [val_main_v101_apply]
  have e : val_main_cst_22 (F := Ideal) (Shape.Idx.first h_S_) = (0 : EReal) := Ideal.ofBits_zero_f32
  rw [e, zero_add]
  refine Finset.sum_congr rfl fun j _ => ?_
  rw [← exp_apply]
  refine congrArg _ (funext fun a => ?_)
  match a with
  | ⟨0, _⟩ => rfl
  | ⟨1, _⟩ => rfl
  | ⟨2, _⟩ => rfl
  | ⟨3, _⟩ => rfl
  | ⟨4, _⟩ => rfl

theorem prob_apply (b : Fin 16) (h : Fin 8) (t : Fin 32) (qc : Fin 64) (j : Fin 512) :
    val_main_v104 (F := Ideal) x0 x1 x3 (ix5 b h t qc j)
      = Ideal.div (Ideal.exp (score x0 x1 x3 b t qc h j - rowMax (score x0 x1 x3 b t qc h)))
          (∑ i : Fin 512, Ideal.exp (score x0 x1 x3 b t qc h i - rowMax (score x0 x1 x3 b t qc h))) := by
  have e : val_main_v103 (F := Ideal) x0 x1 x3 (ix5 b h t qc j) = val_main_v101 (F := Ideal) x0 x1 x3 (ix4 b h t qc) := by
    rw [val_main_v103_apply, val_main_v102_apply]
    refine congrArg _ (funext fun a => ?_)
    match a with
    | ⟨0, _⟩ => rfl
    | ⟨1, _⟩ => rfl
    | ⟨2, _⟩ => rfl
    | ⟨3, _⟩ => rfl
  rw [val_main_v104_apply, e, sum_apply, exp_apply]
  rfl

/-- The reference's result at a token and a channel. -/
theorem result_apply (n : Fin 32768) (ch : Fin 512) :
    val_main_v108 (F := Ideal) x0 x1 x2 x3 (ix2 n ch) = attn x0 x1 x2 x3 (seqOf n) (rowOf n) (colOf n) (headOf ch) (inHead ch) := by
  have e : val_main_v107 (F := Ideal) x0 x1 x2 x3 (ix2 n ch)
      = val_main_v105 (F := Ideal) x0 x1 x2 x3 (ix5 (seqOf n) (headOf ch) (rowOf n) (colOf n) (inHead ch)) := by
    rw [val_main_v107_apply, val_main_v106_apply]
    refine congrArg _ (funext fun a => Fin.ext ?_)
    match a with
    | ⟨0, _⟩ => show (n.val * 512 + ch.val) / 1048576 = n.val / 2048; omega
    | ⟨1, _⟩ => show (n.val * 512 + ch.val) / 64 % 8 = ch.val / 64; omega
    | ⟨2, _⟩ => show (n.val * 512 + ch.val) / 32768 % 32 = n.val % 2048 / 64; omega
    | ⟨3, _⟩ => show (n.val * 512 + ch.val) / 512 % 64 = n.val % 64; omega
    | ⟨4, _⟩ => show (n.val * 512 + ch.val) % 64 = ch.val % 64; omega
  refine (val_main_v108_apply (F := Ideal) x0 x1 x2 x3 (ix2 n ch)).trans (e.trans ?_)
  rw [val_main_v105_apply]
  unfold attn attend
  refine Finset.sum_congr rfl fun j _ => ?_
  show _ = _ * x2 (ix2 (key (seqOf n) (rowOf n) j) (chan (headOf ch) (inHead ch)))
  rw [← prob_apply, ← v_apply x2]
  refine congrArg₂ (· * ·) (congrArg _ (funext fun a => ?_)) (congrArg _ (funext fun a => ?_)) <;>
  match a with
  | ⟨0, _⟩ => rfl
  | ⟨1, _⟩ => rfl
  | ⟨2, _⟩ => rfl
  | ⟨3, _⟩ => rfl
  | ⟨4, _⟩ => rfl

end Cert.Proof.NaReference

end
-- ==== Proof.NaClaim.lean ====
/-
  The neighbourhood attention's value claim: over the ideal numbers, with finite queries, keys and biases, the kernel's
  result and the reference's are one array.
-/
module

public import proofs.«01_k».proof.Proof.NaCore
public import proofs.«01_k».proof.Proof.NaTable
public import proofs.«01_k».proof.Proof.NaReference
public import proofs.«01_k».proof.Proof.Gen.ReferenceIdeal.Run
public import proofs.«01_k».proof.Defs
public import Idealize.ShloMosaic.Lib.ReduceAll

@[expose] public section

noncomputable section

namespace Cert.Proof

open Idealize.ShloMosaic Idealize.ShloMosaic.ValueIdx Idealize.ShloMosaic.TcCoe Idealize.SL.Sem
open Cert.Na Cert.Proof.NaKernel

/-! ## The scores in powers of two are the reference's scores over `ln 2` -/

/-- Neither infinity. -/
def Real' (x : EReal) : Prop := x ≠ ⊤ ∧ x ≠ ⊥

theorem score2_eq (q k : (⟨2, ![32768, 512]⟩ : Shape).Idx → EReal) (x : (⟨4, ![4, 8, 15, 31]⟩ : Shape).Idx → EReal)
    (hq : ∀ i, Real' (q i)) (hk : ∀ i, Real' (k i)) (hx : ∀ i, Real' (x i))
    (b : Fin 16) (t : Fin 32) (qc : Fin 64) (h : Fin 8) (j : Fin 512) :
    score2 q k (laid (cases (spread x))) b t qc h j = score q k x b t qc h j * (log2e : EReal)
      ∧ score q k x b t qc h j ≠ ⊤ ∧ (near qc (keyCol j) → score q k x b t qc h j ≠ ⊥) := by
  have eq : ∀ i, q i = ((q i).toReal : EReal) := fun i => (EReal.coe_toReal (hq i).1 (hq i).2).symm
  have ek : ∀ i, k i = ((k i).toReal : EReal) := fun i => (EReal.coe_toReal (hk i).1 (hk i).2).symm
  have s1 : (∑ d : Fin 64, q (ix2 (token b t qc) (chan h d)) * k (ix2 (key b t j) (chan h d))) * ((1 / 8 : ℝ) : EReal)
      = (((∑ d : Fin 64, (q (ix2 (token b t qc) (chan h d))).toReal * (k (ix2 (key b t j) (chan h d))).toReal) * (1 / 8) : ℝ) : EReal) := by
    rw [EReal.coe_mul, ← sum_coe]
    refine congrArg (· * ((1 / 8 : ℝ) : EReal)) (Finset.sum_congr rfl fun d _ => ?_)
    rw [EReal.coe_mul, ← eq, ← ek]
  have s2 : (∑ d : Fin 64, q (ix2 (token b t qc) (chan h d)) * scl * k (ix2 (key b t j) (chan h d)))
      = ((((∑ d : Fin 64, (q (ix2 (token b t qc) (chan h d))).toReal * (k (ix2 (key b t j) (chan h d))).toReal) * (1 / 8)) * log2e : ℝ) : EReal) := by
    have e : ((∑ d : Fin 64, (q (ix2 (token b t qc) (chan h d))).toReal * (k (ix2 (key b t j) (chan h d))).toReal) * (1 / 8)) * log2e
        = ∑ d : Fin 64, (q (ix2 (token b t qc) (chan h d))).toReal * (1 / 8 * (Real.log 2)⁻¹) * (k (ix2 (key b t j) (chan h d))).toReal := by
      unfold log2e
      rw [mul_assoc, Finset.sum_mul]
      exact Finset.sum_congr rfl fun d _ => by ring
    rw [e, ← sum_coe]
    refine Finset.sum_congr rfl fun d _ => ?_
    rw [EReal.coe_mul, EReal.coe_mul, ← eq, ← ek]
    rfl
  unfold score2 score
  rw [tab_apply, s1, s2]
  generalize (∑ d : Fin 64, (q (ix2 (token b t qc) (chan h d))).toReal * (k (ix2 (key b t j) (chan h d))).toReal) * (1 / 8) = r
  show ((r * log2e : ℝ) : EReal) + bias x h t qc j * (log2e : EReal) = _ ∧ _
  unfold bias
  split
  case isTrue hn =>
    have ex := (EReal.coe_toReal (hx (ix4 0 h (relRow t (keyRow j)) (relCol qc (keyCol j)))).1 (hx (ix4 0 h (relRow t (keyRow j)) (relCol qc (keyCol j)))).2).symm
    generalize x (ix4 0 h (relRow t (keyRow j)) (relCol qc (keyCol j))) = y at ex
    rw [ex, ← EReal.coe_mul, ← EReal.coe_add, ← EReal.coe_add, ← EReal.coe_mul]
    exact ⟨congrArg (fun r : ℝ => (r : EReal)) (add_mul _ _ _).symm, EReal.coe_ne_top _, fun _ => EReal.coe_ne_bot _⟩
  case isFalse hn =>
    rw [EReal.bot_mul_coe_of_pos log2e_pos, EReal.add_bot, EReal.add_bot, EReal.bot_mul_coe_of_pos log2e_pos]
    exact ⟨rfl, bot_ne_top, fun h => absurd h hn⟩

/-- The kernel's result at a token and a channel is the attention there. -/
theorem out_eq (q k v : (⟨2, ![32768, 512]⟩ : Shape).Idx → EReal) (x : (⟨4, ![4, 8, 15, 31]⟩ : Shape).Idx → EReal)
    (hq : ∀ i, Real' (q i)) (hk : ∀ i, Real' (k i)) (hx : ∀ i, Real' (x i)) (n : Fin 32768) (ch : Fin 512) :
    out q k v (laid (cases (spread x))) n ch = attn q k v x (seqOf n) (rowOf n) (colOf n) (headOf ch) (inHead ch) := by
  have hs := fun j => score2_eq q k x hq hk hx (seqOf n) (rowOf n) (colOf n) (headOf ch) j
  refine row_eq _ _ (fun j => (hs j).2.1) ⟨(colOf n).val, by omega⟩ ((hs _).2.2 ?_) (fun j => (hs j).1) _
  have e : keyCol ⟨(colOf n).val, by omega⟩ = colOf n := Fin.ext (Nat.mod_eq_of_lt (colOf n).isLt)
  rw [e]
  exact near_self _

/-! ## The precondition -/

theorem infinity : Ideal.ofBits .f32 0x7F800000#32 = ⊤ := by simp [Ideal.ofBits, Ideal.ieee]

theorem real_of_test (x : EReal) (h : Ideal.cmp .olt (max x (-x)) (Ideal.ofBits .f32 0x7F800000#32) = 1#1) : Real' x := by
  rw [infinity] at h
  constructor
  · rintro rfl
    simp [Ideal.cmp] at h
  · rintro rfl
    simp [Ideal.cmp] at h

open Cert.Pre_finite_inputs in
theorem finite_of_pre [Cert.Pre_finite_inputs.Facts] (q k v : (⟨2, ![32768, 512]⟩ : Shape).Idx → EReal) (x : (⟨4, ![4, 8, 15, 31]⟩ : Shape).Idx → EReal)
    (h : Cert.Pre_finite_inputs.fn (F := Ideal) q k v x = fun _ => 1#1) : (∀ i, Real' (q i)) ∧ (∀ i, Real' (k i)) ∧ ∀ i, Real' (x i) := by
  have h0 := congrFun h (fun a => a.elim0)
  obtain ⟨h1, h2⟩ := IntOp.andi_eq_one.1 h0
  obtain ⟨h3, h4⟩ := IntOp.andi_eq_one.1 h1
  haveI : Subsingleton S_.Idx := ⟨fun a b => funext fun c => c.elim0⟩
  exact ⟨fun i => real_of_test _ (Host.reduce_andi_all _ _ _ _ _ h3 i), fun i => real_of_test _ (Host.reduce_andi_all _ _ _ _ _ h4 i),
    fun i => real_of_test _ (Host.reduce_andi_all _ _ _ _ _ h2 i)⟩

/-! ## The claim -/

theorem na_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hq : ∀ i, Real' (a0 m c i)) (hk : ∀ i, Real' (a1 m c i)) (hx : ∀ i, Real' (a3 m c i))
    (h0 : m' ((c.tc : Thread Cert.ReferenceIdeal.nD Cert.ReferenceIdeal.τ).loc Cert.ReferenceIdeal.main_arg0) = a0 m c)
    (h1 : m' ((c.tc : Thread Cert.ReferenceIdeal.nD Cert.ReferenceIdeal.τ).loc Cert.ReferenceIdeal.main_arg1) = a1 m c)
    (h2 : m' ((c.tc : Thread Cert.ReferenceIdeal.nD Cert.ReferenceIdeal.τ).loc Cert.ReferenceIdeal.main_arg2) = a2 m c)
    (h3 : m' ((c.tc : Thread Cert.ReferenceIdeal.nD Cert.ReferenceIdeal.τ).loc Cert.ReferenceIdeal.main_arg3) = a3 m c) :
    Cert.ReferenceIdeal.Value.res_main_v108 m' c = outArr m c := by
  have eT := V_tab m c
  rw [Cert.ReferenceIdeal.Read.val_main_v108_eq, h0, h1, h2, h3]
  funext i
  obtain ⟨n, ch, rfl⟩ : ∃ (n : Fin 32768) (ch : Fin 512), i = ix2 n ch :=
    ⟨i 0, i 1, funext fun a => by match a with | ⟨0, _⟩ => rfl | ⟨1, _⟩ => rfl⟩
  rw [NaReference.result_apply, ← out_eq _ _ _ _ hq hk hx, ← eT]
  rfl

/-- Over the ideal numbers and of finite queries, keys and biases, the kernel's result and the reference's are one
    array, and both leave their arguments as they were. -/
theorem na_algebraic [hPre : Cert.Pre_finite_inputs.Facts] : Cert.algebraic_KernelIdeal_ReferenceIdeal_pre_finite_inputs
    (hKernelIdeal := Cert.KernelIdeal.Gen.facts) (hReferenceIdeal := Cert.ReferenceIdeal.Gen.facts) := by
  intro m ρ m' ρ' hp hag
  refine ⟨fun c => outArr m c, ?_, ?_⟩
  · exact (θ_run _ _ _).mono (fun _ h c => ⟨(h c).1.trans (final m c), (h c).2⟩)
      (Cert.KernelIdeal.Value.run_blocks m ρ)
  · refine (θ_run _ _ _).mono (fun _ h c => ⟨(h c).1.trans ?_, (h c).2⟩) (Cert.ReferenceIdeal.Value.run m' ρ')
    obtain ⟨h0, h1, h2, h3⟩ := hag c
    obtain ⟨hq, hk, hx⟩ := finite_of_pre _ _ _ _ (hp c)
    exact na_agree m m' c hq hk hx h0 h1 h2 h3

end Cert.Proof

end
-- ==== Proof.FfnKernel.lean ====
/-
  The feed-forward kernel's arithmetic read at one element: the payload its body stores, at row `r` and column `j` of the
  block, is the row function of Proof/FfnSpec.lean of row `r` of the staged block.
-/
module

public import proofs.«01_k».proof.Proof.FfnSpec
public import proofs.«01_k».proof.Proof.Gen.Kernel2Ideal.Value
public import Idealize.ShloMosaic.Lib.Pipeline.ValueKit.Tiles
public import Idealize.ShloMosaic.Lib.Claim

@[expose] public section

noncomputable section

namespace Cert.Proof.FfnKernel

open Idealize.ShloMosaic Idealize.ShloMosaic.ValueIdx Idealize.ShloMosaic.TcCoe Idealize.SL.Sem
open Cert.Kernel2Ideal Cert.Kernel2Ideal.Gen Cert.Ffn
open Idealize.ShloMosaic.Pipeline (Dat Cfg Window)

/-- The normed and modulated block, at row `r`. -/
theorem pay3_apply (x : Vec Ideal S512x1024 .f32) (sh sc g : Vec Ideal S1x1x1x1024 .f32) (r : Fin 512) (k : Fin 1024) :
    k0_pay3 x sh sc g (ix2 r k) = normRow (fun k => x (ix2 r k)) (fun k => g (ix4 0 0 0 k)) (fun k => sc (ix4 0 0 0 k))
      (fun k => sh (ix4 0 0 0 k)) k := by
  unfold k0_pay3 normRow
  simp only [truncf_apply, addf_apply, mulf_apply]
  rw [bcast_col_apply (by decide), bcast_row_apply (by decide), bcast_row_apply (by decide), bcast_row_apply (by decide)]
  rw [cast11_apply, cast11_apply, addf_apply, cast11_apply]
  show x (ix2 r k) * Ideal.rsqrt (Ideal.div (shapeCast S512x1 _ _ (ix2 r 0)) width + eps) * _ * (one + _) + _ = _
  rw [cast_col_apply]
  exact congrArg (fun z => x (ix2 r k) * Ideal.rsqrt (Ideal.div z width + eps) * g (ix4 0 0 0 k)
    * (one + sc (ix4 0 0 0 k)) + sh (ix4 0 0 0 k)) (rowSum_apply _ _ _ _ _ r)

/-- The gate's product, at row `r` and hidden unit `f`. -/
theorem pay4_apply (x : Vec Ideal S512x1024 .f32) (sh sc g : Vec Ideal S1x1x1x1024 .f32) (wg : Vec Ideal S1x1x1024x2816 .bf16)
    (r : Fin 512) (f : Fin 2816) :
    k0_pay4 x sh sc g wg (ix2 r f) = ∑ k, normRow (fun k => x (ix2 r k)) (fun k => g (ix4 0 0 0 k)) (fun k => sc (ix4 0 0 0 k))
      (fun k => sh (ix4 0 0 0 k)) k * wg (ix4 0 0 k f) := by
  unfold k0_pay4
  refine (mm_apply _ rfl _ _ r f).trans (Finset.sum_congr rfl fun k _ => ?_)
  rw [pay3_apply, cast11_apply]

/-- What the body stores, at row `r` and column `j`. -/
theorem pay1_apply (x : Vec Ideal S512x1024 .f32) (sh sc gt g : Vec Ideal S1x1x1x1024 .f32)
    (wg wu : Vec Ideal S1x1x1024x2816 .bf16) (wd : Vec Ideal S1x1x2816x1024 .bf16) (r : Fin 512) (j : Fin 1024) :
    k0_pay1 x (k0_pay2 gt) (k0_pay3 x sh sc g) (k0_pay4 x sh sc g wg) wu wd (ix2 r j)
      = ffnRow (fun k => x (ix2 r k)) (fun k => g (ix4 0 0 0 k)) (fun k => sc (ix4 0 0 0 k)) (fun k => sh (ix4 0 0 0 k))
          (fun k => gt (ix4 0 0 0 k)) (fun k f => wg (ix4 0 0 k f)) (fun k f => wu (ix4 0 0 k f)) (fun f j => wd (ix4 0 0 f j)) j := by
  unfold k0_pay1 ffnRow k0_pay2
  simp only [addf_apply, mulf_apply]
  rw [bcast_row_apply (by decide), mulf_apply, cast11_apply]
  refine congrArg (fun z => x (ix2 r j) + half * gt (ix4 0 0 0 j) * z) ?_
  refine (mm_apply _ rfl _ _ r j).trans (Finset.sum_congr rfl fun f _ => ?_)
  rw [cast11_apply]
  refine congrArg (· * wd (ix4 0 0 f j)) ?_
  simp only [truncf_apply, mulf_apply, divf_apply]
  unfold hid silu
  rw [pay4_apply]
  refine congrArg₂ (· * ·) (congrArg₂ (· * ·) rfl ?_) ?_
  · show Ideal.div one (one + Ideal.exp (Ideal.ofBits .f32 0x00000000#32 - k0_pay4 x sh sc g wg (ix2 r f))) = _
    rw [pay4_apply, Ideal.ofBits_zero_f32, zero_sub]
  · refine (mm_apply _ rfl _ _ r f).trans (Finset.sum_congr rfl fun k _ => ?_)
    rw [pay3_apply, cast11_apply]

/-! ## From a block to the array -/

variable (m : (ℓ : Loc nD τ sig) → Buf (Elt Ideal) ℓ)

/-- The argument arrays, as launched. -/
abbrev a0 (c : Dev nD) : S32768x1024.Idx → EReal := m ((c : Thread nD τ).loc main_arg0)
abbrev a1 (c : Dev nD) : S4x24x9x1024.Idx → EReal := m ((c : Thread nD τ).loc main_arg1)
abbrev a2 (c : Dev nD) : S4x3x1024.Idx → EReal := m ((c : Thread nD τ).loc main_arg2)
abbrev a3 (c : Dev nD) : S4x2x1024x2816.Idx → EReal := m ((c : Thread nD τ).loc main_arg3)
abbrev a4 (c : Dev nD) : S4x2x1024x2816.Idx → EReal := m ((c : Thread nD τ).loc main_arg4)
abbrev a5 (c : Dev nD) : S4x2x2816x1024.Idx → EReal := m ((c : Thread nD τ).loc main_arg5)

/-- What the region finds in the reshaped norm weights and in the narrowed feed-forward weights. -/
theorem V_v0 (c : Dev nD) : V m c main_v0 = shapeCast S4x3x1x1024 (a2 m c) shapeCasts_S4x3x1024_S4x3x1x1024 := by
  entry_read; rfl
theorem V_v1 (c : Dev nD) : V m c main_v1 = a3 m c := by
  entry_read; rfl
theorem V_v2 (c : Dev nD) : V m c main_v2 = a4 m c := by
  entry_read; rfl
theorem V_v3 (c : Dev nD) : V m c main_v3 = a5 m c := by
  entry_read; rfl

/-- The windows' block indices over the 64 points. -/
theorem index0 (t : Fin cfg0.N) : win0_0.index t 0 = t.val ∧ win0_0.index t 1 = 0 :=
  (by decide +kernel : ∀ t : Fin grid0.N, win0_0.index t 0 = t.val ∧ win0_0.index t 1 = 0) t
theorem index6 (t : Fin cfg0.N) : win0_6.index t 0 = t.val ∧ win0_6.index t 1 = 0 :=
  (by decide +kernel : ∀ t : Fin grid0.N, win0_6.index t 0 = t.val ∧ win0_6.index t 1 = 0) t
theorem index1 (t : Fin cfg0.N) : win0_1.index t 0 = 0 ∧ win0_1.index t 1 = t.val / 4 ∧ win0_1.index t 2 = 0 ∧ win0_1.index t 3 = 0 :=
  (by decide +kernel : ∀ t : Fin grid0.N, win0_1.index t 0 = 0 ∧ win0_1.index t 1 = t.val / 4 ∧ win0_1.index t 2 = 0 ∧ win0_1.index t 3 = 0) t
theorem index2 (t : Fin cfg0.N) (a : Fin 4) : win0_2.index t a = 0 :=
  (by decide +kernel : ∀ (t : Fin grid0.N) (a : Fin 4), win0_2.index t a = 0) t a
theorem index3 (t : Fin cfg0.N) (a : Fin 4) : win0_3.index t a = 0 :=
  (by decide +kernel : ∀ (t : Fin grid0.N) (a : Fin 4), win0_3.index t a = 0) t a
theorem index4 (t : Fin cfg0.N) (a : Fin 4) : win0_4.index t a = 0 :=
  (by decide +kernel : ∀ (t : Fin grid0.N) (a : Fin 4), win0_4.index t a = 0) t a
theorem index5 (t : Fin cfg0.N) (a : Fin 4) : win0_5.index t a = 0 :=
  (by decide +kernel : ∀ (t : Fin grid0.N) (a : Fin 4), win0_5.index t a = 0) t a

/-- Point `t`'s row `r` in the array, and its sequence. -/
theorem lt_N (t : Fin cfg0.N) : t.val < 64 := lt_of_lt_of_eq t.isLt N_0
def row (t : Fin cfg0.N) (r : Fin 512) : Fin 32768 := ⟨t.val * 512 + r.val, by have := lt_N t; omega⟩

/-- The staged blocks, read at an index. -/
theorem iblk0_apply (c : Dev nD) (t : Fin cfg0.N) (r : Fin 512) (k : Fin 1024) :
    iblk m c 0 t (ix2 r k) = a0 m c (ix2 (row t r) k) := by
  unfold iblk
  show V m c main_arg0 ((win0_0.rect t).emb (ix2 r k)) = _
  rw [V_main_arg0]
  refine congrArg (a0 m c) (funext fun a => Fin.ext ?_)
  match a with
  | ⟨0, _⟩ =>
    show win0_0.index t 0 * 512 + 1 * r.val = t.val * 512 + r.val
    rw [(index0 t).1]; omega
  | ⟨1, _⟩ =>
    show win0_0.index t 1 * 1024 + 1 * k.val = k.val
    rw [(index0 t).2]; omega

theorem iblk1_apply (c : Dev nD) (t : Fin cfg0.N) (p : Fin 9) (k : Fin 1024) :
    iblk m c 1 t (ix4 0 0 p k) = a1 m c (ix4 0 ⟨t.val / 4, by have := lt_N t; omega⟩ p k) := by
  unfold iblk
  show V m c main_arg1 ((win0_1.rect t).emb (ix4 0 0 p k)) = _
  rw [V_main_arg1]
  refine congrArg (a1 m c) (funext fun a => Fin.ext ?_)
  match a with
  | ⟨0, _⟩ =>
    show win0_1.index t 0 * 1 + 1 * 0 = 0
    rw [(index1 t).1]
  | ⟨1, _⟩ =>
    show win0_1.index t 1 * 1 + 1 * 0 = t.val / 4
    rw [(index1 t).2.1]; omega
  | ⟨2, _⟩ =>
    show win0_1.index t 2 * 9 + 1 * p.val = p.val
    rw [(index1 t).2.2.1]; omega
  | ⟨3, _⟩ =>
    show win0_1.index t 3 * 1024 + 1 * k.val = k.val
    rw [(index1 t).2.2.2]; omega

theorem iblk2_apply (c : Dev nD) (t : Fin cfg0.N) (k : Fin 1024) :
    iblk m c 2 t (ix4 0 0 0 k) = a2 m c (ix3 0 0 k) := by
  unfold iblk
  show V m c main_v0 ((win0_2.rect t).emb (ix4 0 0 0 k)) = _
  rw [V_v0]
  refine shapeCast_apply _ _ _ _ ?_
  rw [Shape.rowMajor_val_three, Shape.rowMajor_val_four]
  show (0 * 3 + 0) * 1024 + k.val = (((win0_2.index t 0 * 1 + 1 * 0) * 3 + (win0_2.index t 1 * 1 + 1 * 0)) * 1
    + (win0_2.index t 2 * 1 + 1 * 0)) * 1024 + (win0_2.index t 3 * 1024 + 1 * k.val)
  rw [index2, index2, index2, index2]; omega

theorem iblk3_apply (c : Dev nD) (t : Fin cfg0.N) (k : Fin 1024) (f : Fin 2816) :
    iblk m c 3 t (ix4 0 0 k f) = a3 m c (ix4 0 0 k f) := by
  unfold iblk
  show V m c main_v1 ((win0_3.rect t).emb (ix4 0 0 k f)) = _
  rw [V_v1]
  refine congrArg (a3 m c) (funext fun a => Fin.ext ?_)
  match a with
  | ⟨0, _⟩ => show win0_3.index t 0 * 1 + 1 * 0 = 0; rw [index3]
  | ⟨1, _⟩ => show win0_3.index t 1 * 1 + 1 * 0 = 0; rw [index3]
  | ⟨2, _⟩ => show win0_3.index t 2 * 1024 + 1 * k.val = k.val; rw [index3]; omega
  | ⟨3, _⟩ => show win0_3.index t 3 * 2816 + 1 * f.val = f.val; rw [index3]; omega

theorem iblk4_apply (c : Dev nD) (t : Fin cfg0.N) (k : Fin 1024) (f : Fin 2816) :
    iblk m c 4 t (ix4 0 0 k f) = a4 m c (ix4 0 0 k f) := by
  unfold iblk
  show V m c main_v2 ((win0_4.rect t).emb (ix4 0 0 k f)) = _
  rw [V_v2]
  refine congrArg (a4 m c) (funext fun a => Fin.ext ?_)
  match a with
  | ⟨0, _⟩ => show win0_4.index t 0 * 1 + 1 * 0 = 0; rw [index4]
  | ⟨1, _⟩ => show win0_4.index t 1 * 1 + 1 * 0 = 0; rw [index4]
  | ⟨2, _⟩ => show win0_4.index t 2 * 1024 + 1 * k.val = k.val; rw [index4]; omega
  | ⟨3, _⟩ => show win0_4.index t 3 * 2816 + 1 * f.val = f.val; rw [index4]; omega

theorem iblk5_apply (c : Dev nD) (t : Fin cfg0.N) (f : Fin 2816) (k : Fin 1024) :
    iblk m c 5 t (ix4 0 0 f k) = a5 m c (ix4 0 0 f k) := by
  unfold iblk
  show V m c main_v3 ((win0_5.rect t).emb (ix4 0 0 f k)) = _
  rw [V_v3]
  refine congrArg (a5 m c) (funext fun a => Fin.ext ?_)
  match a with
  | ⟨0, _⟩ => show win0_5.index t 0 * 1 + 1 * 0 = 0; rw [index5]
  | ⟨1, _⟩ => show win0_5.index t 1 * 1 + 1 * 0 = 0; rw [index5]
  | ⟨2, _⟩ => show win0_5.index t 2 * 2816 + 1 * f.val = f.val; rw [index5]; omega
  | ⟨3, _⟩ => show win0_5.index t 3 * 1024 + 1 * k.val = k.val; rw [index5]; omega

/-- The result: at row `n`, the row function of row `n` under the modulation of `n`'s sequence. -/
def out (c : Dev nD) (n : Fin 32768) (j : Fin 1024) : EReal :=
  ffnRow (fun k => a0 m c (ix2 n k)) (fun k => a2 m c (ix3 0 0 k))
    (fun k => a1 m c (ix4 0 ⟨n.val / 2048, by omega⟩ 1 k)) (fun k => a1 m c (ix4 0 ⟨n.val / 2048, by omega⟩ 0 k))
    (fun k => a1 m c (ix4 0 ⟨n.val / 2048, by omega⟩ 2 k))
    (fun k f => a3 m c (ix4 0 0 k f)) (fun k f => a4 m c (ix4 0 0 k f)) (fun f k => a5 m c (ix4 0 0 f k)) j
def outArr (c : Dev nD) : Buf (Elt Ideal) ((c : Thread nD τ).loc main_v4) := fun i => out m c (i 0) (i 1)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The modulation's rows 0, 1 and 2 as the body loads them. -/
theorem ld1_apply (x : Vec Ideal S1x1x9x1024 .f32) (k : Fin 1024) : View.ld x r0_1 (ix4 0 0 0 k) = x (ix4 0 0 0 k) :=
  congrArg x (funext fun a => Fin.ext (by
    match a with
    | ⟨0, _⟩ => rfl
    | ⟨1, _⟩ => rfl
    | ⟨2, _⟩ => rfl
    | ⟨3, _⟩ => show 0 + 1 * k.val = k.val; omega))
theorem ld2_apply (x : Vec Ideal S1x1x9x1024 .f32) (k : Fin 1024) : View.ld x r0_2 (ix4 0 0 0 k) = x (ix4 0 0 1 k) :=
  congrArg x (funext fun a => Fin.ext (by
    match a with
    | ⟨0, _⟩ => rfl
    | ⟨1, _⟩ => rfl
    | ⟨2, _⟩ => rfl
    | ⟨3, _⟩ => show 0 + 1 * k.val = k.val; omega))
theorem ld3_apply (x : Vec Ideal S1x1x9x1024 .f32) (k : Fin 1024) : View.ld x r0_3 (ix4 0 0 0 k) = x (ix4 0 0 2 k) :=
  congrArg x (funext fun a => Fin.ext (by
    match a with
    | ⟨0, _⟩ => rfl
    | ⟨1, _⟩ => rfl
    | ⟨2, _⟩ => rfl
    | ⟨3, _⟩ => show 0 + 1 * k.val = k.val; omega))

/-- What point `t` writes back, at row `r` and column `j` of its block. -/
theorem body_apply (c : Dev nD) (t : Fin cfg0.N) (r : Fin 512) (j : Fin 1024) :
    out0_6 (iblk m c 0 t) (iblk m c 1 t) (iblk m c 2 t) (iblk m c 3 t) (iblk m c 4 t) (iblk m c 5 t) (ix2 r j)
      = out m c (row t r) j := by
  unfold out0_6
  rw [View.canon_unit_zero hz2, View.ld_unit_zero hz2, View.ld_unit_zero hz4, View.ld_unit_zero hz4, View.ld_unit_zero hz4,
    View.ld_unit_zero hz4, pay1_apply]
  simp only [iblk0_apply, iblk2_apply, iblk3_apply, iblk4_apply, iblk5_apply]
  unfold out
  have e : (row t r).val / 2048 = t.val / 4 := by show (t.val * 512 + r.val) / 2048 = _; omega
  simp only [e]
  congr 1
  · exact funext fun k => (ld2_apply _ k).trans (iblk1_apply m c t 1 k)
  · exact funext fun k => (ld1_apply _ k).trans (iblk1_apply m c t 0 k)
  · exact funext fun k => (ld3_apply _ k).trans (iblk1_apply m c t 2 k)

theorem flushed_eq (c : Dev nD) (t : Fin cfg0.N) :
    (dats m 0 c).flushed 6 t = (win0_6.blk t).view.read (Elt Ideal) (outArr m c) := by
  rw [Value.flushed6]
  funext i
  obtain ⟨r, j, rfl⟩ : ∃ (r : Fin 512) (j : Fin 1024), i = ix2 r j := ⟨i 0, i 1, funext fun a => by match a with | ⟨0, _⟩ => rfl | ⟨1, _⟩ => rfl⟩
  refine (body_apply m c t r j).trans ?_
  show _ = outArr m c ((win0_6.rect t).emb (ix2 r j))
  unfold outArr
  refine congrArg₂ (out m c) (Fin.ext ?_) (Fin.ext ?_)
  · show t.val * 512 + r.val = win0_6.index t 0 * 512 + 1 * r.val
    rw [(index6 t).1]; omega
  · show j.val = win0_6.index t 1 * 1024 + 1 * j.val
    rw [(index6 t).2]; omega

/-- Point `t`'s block is the rows `512 t` to `512 t + 511`. -/
theorem mem_blk (t : Fin cfg0.N) (i : S32768x1024.Idx) :
    i ∈ ((cfg0.win 6).blk t).view.set ↔ t.val * 512 ≤ (i 0 : Nat) ∧ (i 0 : Nat) < t.val * 512 + 512 := by
  show i ∈ ((View.whole main_v4).slice (win0_6.rect t)).set ↔ _
  rw [View.set_slice_whole, Rect.mem_set_unit]
  have h1 : (i 1 : Nat) < 1024 := (i 1).isLt
  refine ⟨fun h => ?_, fun h a => ?_⟩
  · have h2 : win0_6.index t 0 * 512 ≤ (i 0 : Nat) ∧ (i 0 : Nat) < win0_6.index t 0 * 512 + 512 := h 0
    rw [(index6 t).1] at h2; exact h2
  · match a with
    | ⟨0, _⟩ =>
      show win0_6.index t 0 * 512 ≤ (i 0 : Nat) ∧ (i 0 : Nat) < win0_6.index t 0 * 512 + 512
      rw [(index6 t).1]; exact h
    | ⟨1, _⟩ =>
      show win0_6.index t 1 * 1024 ≤ (i 1 : Nat) ∧ (i 1 : Nat) < win0_6.index t 1 * 1024 + 1024
      rw [(index6 t).2, Nat.zero_mul, Nat.zero_add]; exact ⟨Nat.zero_le _, h1⟩

/-- The blocks tile the array. -/
theorem cover (i : S32768x1024.Idx) : ∃ t : Fin cfg0.N, (cfg0.win 6).flush t = true ∧ i ∈ ((cfg0.win 6).blk t).view.set := by
  have h0 : (i 0 : Nat) < 32768 := (i 0).isLt
  have hN : cfg0.N = 64 := N_0
  have ht : (i 0 : Nat) / 512 < cfg0.N := by omega
  refine ⟨⟨(i 0 : Nat) / 512, ht⟩, flush0_6 _, ?_⟩
  rw [mem_blk]; dsimp only; omega

/-- The result array after the run. -/
theorem final (c : Dev nD) : (dats m 0 c).arrAt 6 cfg0.N = outArr m c :=
  (dats m 0 c).arrAt_eq_of_cover 6 (outArr m c) (fun t _ => flushed_eq m c t) cover

end Cert.Proof.FfnKernel

end
-- ==== Proof.FfnReference.lean ====
/-
  The feed-forward reference read at one element: its result at row `n` and column `j` is the row function of
  Proof/FfnSpec.lean of row `n` of the argument.
-/
module

public import proofs.«01_k».proof.Proof.FfnSpec
public import proofs.«01_k».proof.Proof.Gen.Reference2Ideal.Read

@[expose] public section

noncomputable section

namespace Cert.Proof.FfnReference

open Idealize.ShloMosaic Idealize.ShloMosaic.ValueIdx Idealize.ShloMosaic.TcCoe Idealize.SL.Sem
open Cert.Reference2Ideal Cert.Reference2Ideal.Read Cert.Ffn

variable (x0 : S32768x1024.Idx → EReal) (x1 : S4x24x9x1024.Idx → EReal) (x2 : S4x3x1024.Idx → EReal)
  (x3 x4 : S4x2x1024x2816.Idx → EReal) (x5 : S4x2x2816x1024.Idx → EReal)

/-- Position `s` of sequence `b` as a row. -/
def flat (b : Fin 16) (s : Fin 2048) : Fin 32768 := ⟨b.val * 2048 + s.val, by omega⟩
/-- Sequence `b` among the modulation's. -/
def seq24 (b : Fin 16) : Fin 24 := ⟨b.val, by omega⟩

/-- The input, as sequences. -/
theorem x_apply (b : Fin 16) (s : Fin 2048) (k : Fin 1024) :
    val_main_v0 (F := Ideal) x0 (ix3 b s k) = x0 (ix2 (flat b s) k) := by
  rw [val_main_v0_apply]
  refine congrArg x0 (funext fun a => Fin.ext ?_)
  match a with
  | ⟨0, _⟩ => show ((b.val * 2048 + s.val) * 1024 + k.val) / 1024 = b.val * 2048 + s.val; omega
  | ⟨1, _⟩ => show ((b.val * 2048 + s.val) * 1024 + k.val) % 1024 = k.val; omega

/-- The norm's weight, broadcast. -/
theorem g_apply (b : Fin 16) (s : Fin 2048) (k : Fin 1024) :
    val_main_v18 (F := Ideal) x2 (ix3 b s k) = x2 (ix3 0 0 k) := by
  rw [val_main_v18_apply, val_main_v17_apply, val_main_v6_apply, val_main_v5_apply]
  refine congrArg x2 (funext fun a => Fin.ext ?_)
  match a with
  | ⟨0, _⟩ => rfl
  | ⟨1, _⟩ => rfl
  | ⟨2, _⟩ => show k.val % 1024 = k.val; omega

/-- The reciprocal root of the mean square, broadcast. -/
theorem r_apply (b : Fin 16) (s : Fin 2048) (k : Fin 1024) :
    val_main_v15 (F := Ideal) x0 (ix3 b s k)
      = Ideal.rsqrt (Ideal.div (∑ j, x0 (ix2 (flat b s) j) * x0 (ix2 (flat b s) j)) width + eps) := by
  rw [val_main_v15_apply, val_main_v14_apply, val_main_v13_apply, val_main_v11_apply, val_main_v9_apply, val_main_v8_apply]
  show Ideal.rsqrt (Ideal.div (Ideal.ofBits .f32 0x00000000#32 + _) width + eps) = _
  rw [Ideal.ofBits_zero_f32, zero_add]
  refine congrArg (fun z => Ideal.rsqrt (Ideal.div z width + eps)) (Finset.sum_congr rfl fun j _ => ?_)
  show val_main_v0 (F := Ideal) x0 (ix3 b s j) * val_main_v0 (F := Ideal) x0 (ix3 b s j) = _
  rw [x_apply]

/-- The modulation's row `3 i + j` of sequence `b`, as the reference's nine rows in three threes. -/
theorem mod_apply (b : Fin 16) (i j : Fin 3) (k : Fin 1024) :
    val_main_v4 (F := Ideal) x1 (ix5 b i j 0 k) = x1 (ix4 0 (seq24 b) ⟨i.val * 3 + j.val, by omega⟩ k) := by
  have e3 : idx_main_v3 (idx_main_v4 (ix5 b i j 0 k)) = ix3 b ⟨i.val * 3 + j.val, by omega⟩ k := funext fun a => Fin.ext (by
    match a with
    | ⟨0, _⟩ => show (((b.val * 3 + i.val) * 3 + j.val) * 1024 + k.val) / 9216 = b.val; omega
    | ⟨1, _⟩ => show (((b.val * 3 + i.val) * 3 + j.val) * 1024 + k.val) / 1024 % 9 = i.val * 3 + j.val; omega
    | ⟨2, _⟩ => show (((b.val * 3 + i.val) * 3 + j.val) * 1024 + k.val) % 1024 = k.val; omega)
  rw [val_main_v4_apply, val_main_v3_apply, e3]
  generalize hp : (⟨i.val * 3 + j.val, by omega⟩ : Fin 9) = p
  rw [val_main_v2_apply, val_main_v1_apply]
  refine congrArg x1 (funext fun a => Fin.ext ?_)
  match a with
  | ⟨0, _⟩ => rfl
  | ⟨1, _⟩ => show ((b.val * 9 + p.val) * 1024 + k.val) / 9216 % 16 = b.val; omega
  | ⟨2, _⟩ => show ((b.val * 9 + p.val) * 1024 + k.val) / 1024 % 9 = p.val; omega
  | ⟨3, _⟩ => show ((b.val * 9 + p.val) * 1024 + k.val) % 1024 = k.val; omega

theorem v21_apply (b : Fin 16) (j : Fin 3) (k : Fin 1024) :
    val_main_v21 (F := Ideal) x1 (ix4 b j 0 k) = x1 (ix4 0 (seq24 b) ⟨j.val, by omega⟩ k) := by
  have e : idx_main_v20 (idx_main_v21 (ix4 b j 0 k)) = ix5 b 0 j 0 k := funext fun a => Fin.ext (by
    match a with
    | ⟨0, _⟩ => show (((b.val * 3 + j.val) * 1 + 0) * 1024 + k.val) / 3072 = b.val; omega
    | ⟨1, _⟩ => rfl
    | ⟨2, _⟩ => show (((b.val * 3 + j.val) * 1 + 0) * 1024 + k.val) / 1024 % 3 = j.val; omega
    | ⟨3, _⟩ => rfl
    | ⟨4, _⟩ => show (((b.val * 3 + j.val) * 1 + 0) * 1024 + k.val) % 1024 = k.val; omega)
  rw [val_main_v21_apply, val_main_v20_apply, e, mod_apply]
  refine congrArg (fun p => x1 (ix4 0 (seq24 b) p k)) (Fin.ext ?_)
  show 0 * 3 + j.val = j.val
  omega

/-- The modulation's scale, shift and gate, broadcast. -/
theorem sc_apply (b : Fin 16) (s : Fin 2048) (k : Fin 1024) :
    val_main_v26 (F := Ideal) x1 (ix3 b s k) = one + x1 (ix4 0 (seq24 b) 1 k) := by
  have e : idx_main_v22 (idx_main_v23 (idx_main_v26 (ix3 b s k))) = ix4 b 1 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v26_apply, val_main_v25_apply]
  refine congrArg (one + ·) ?_
  rw [val_main_v23_apply, val_main_v22_apply, e, v21_apply]
  rfl

theorem sh_apply (b : Fin 16) (s : Fin 2048) (k : Fin 1024) :
    val_main_v30 (F := Ideal) x1 (ix3 b s k) = x1 (ix4 0 (seq24 b) 0 k) := by
  have e : idx_main_v28 (idx_main_v29 (idx_main_v30 (ix3 b s k))) = ix4 b 0 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v30_apply, val_main_v29_apply, val_main_v28_apply, e, v21_apply]
  rfl

theorem gt_apply (b : Fin 16) (s : Fin 2048) (k : Fin 1024) :
    val_main_v47 (F := Ideal) x1 (ix3 b s k) = half * x1 (ix4 0 (seq24 b) 2 k) := by
  have e : idx_main_v32 (idx_main_v33 (idx_main_v47 (ix3 b s k))) = ix5 b 0 2 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => rfl
    | ⟨4, _⟩ => show ((b.val * 1 + 0) * 1024 + k.val) % 1024 = k.val; omega)
  rw [val_main_v47_apply, val_main_v35_apply]
  refine congrArg (half * ·) ?_
  rw [val_main_v33_apply, val_main_v32_apply, e, mod_apply]
  rfl

/-- The layer's feed-forward weights. -/
theorem wg_apply (k : Fin 1024) (f : Fin 2816) : val_main_v37 (F := Ideal) x3 (ix2 k f) = x3 (ix4 0 0 k f) := by
  rw [val_main_v37_apply, val_main_v36_apply]
  refine congrArg x3 (funext fun a => Fin.ext ?_)
  match a with
  | ⟨0, _⟩ => rfl
  | ⟨1, _⟩ => rfl
  | ⟨2, _⟩ => show (k.val * 2816 + f.val) / 2816 % 1024 = k.val; omega
  | ⟨3, _⟩ => show (k.val * 2816 + f.val) % 2816 = f.val; omega

theorem wu_apply (k : Fin 1024) (f : Fin 2816) : val_main_v39 (F := Ideal) x4 (ix2 k f) = x4 (ix4 0 0 k f) := by
  rw [val_main_v39_apply, val_main_v38_apply]
  refine congrArg x4 (funext fun a => Fin.ext ?_)
  match a with
  | ⟨0, _⟩ => rfl
  | ⟨1, _⟩ => rfl
  | ⟨2, _⟩ => show (k.val * 2816 + f.val) / 2816 % 1024 = k.val; omega
  | ⟨3, _⟩ => show (k.val * 2816 + f.val) % 2816 = f.val; omega

theorem wd_apply (f : Fin 2816) (k : Fin 1024) : val_main_v41 (F := Ideal) x5 (ix2 f k) = x5 (ix4 0 0 f k) := by
  rw [val_main_v41_apply, val_main_v40_apply]
  refine congrArg x5 (funext fun a => Fin.ext ?_)
  match a with
  | ⟨0, _⟩ => rfl
  | ⟨1, _⟩ => rfl
  | ⟨2, _⟩ => show (f.val * 1024 + k.val) / 1024 % 2816 = f.val; omega
  | ⟨3, _⟩ => show (f.val * 1024 + k.val) % 1024 = k.val; omega

/-- The normed and modulated row of position `s` of sequence `b`. -/
def nrow (b : Fin 16) (s : Fin 2048) : Fin 1024 → EReal :=
  normRow (fun k => x0 (ix2 (flat b s) k)) (fun k => x2 (ix3 0 0 k)) (fun k => x1 (ix4 0 (seq24 b) 1 k))
    (fun k => x1 (ix4 0 (seq24 b) 0 k))

theorem h_apply (b : Fin 16) (s : Fin 2048) (k : Fin 1024) :
    val_main_v31 (F := Ideal) x0 x1 x2 (ix3 b s k) = nrow x0 x1 x2 b s k := by
  rw [val_main_v31_apply, val_main_v27_apply, val_main_v19_apply, val_main_v16_apply, x_apply, r_apply, g_apply, sc_apply, sh_apply]
  rfl

theorem gate_apply (b : Fin 16) (s : Fin 2048) (f : Fin 2816) :
    val_main_v42 (F := Ideal) x0 x1 x2 x3 (ix3 b s f) = ∑ k, nrow x0 x1 x2 b s k * x3 (ix4 0 0 k f) := by
  rw [val_main_v42_apply]
  refine Finset.sum_congr rfl fun k _ => ?_
  rw [← h_apply, ← wg_apply x3]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem up_apply (b : Fin 16) (s : Fin 2048) (f : Fin 2816) :
    val_main_v44 (F := Ideal) x0 x1 x2 x4 (ix3 b s f) = ∑ k, nrow x0 x1 x2 b s k * x4 (ix4 0 0 k f) := by
  rw [val_main_v44_apply]
  refine Finset.sum_congr rfl fun k _ => ?_
  rw [← h_apply, ← wu_apply x4]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem hid_apply (b : Fin 16) (s : Fin 2048) (f : Fin 2816) :
    val_main_v45 (F := Ideal) x0 x1 x2 x3 x4 (ix3 b s f)
      = hid (nrow x0 x1 x2 b s) (fun k f => x3 (ix4 0 0 k f)) (fun k f => x4 (ix4 0 0 k f)) f := by
  rw [val_main_v45_apply, val_main_v43_apply, val_main_call0_v5_apply, val_main_call0_v3_apply, val_main_call0_v1_apply,
    val_main_call0_v0_apply, gate_apply, up_apply]
  rfl

/-- The result at row `n`. -/
theorem result_apply (n : Fin 32768) (j : Fin 1024) :
    val_main_v50 (F := Ideal) x0 x1 x2 x3 x4 x5 (ix2 n j)
      = ffnRow (fun k => x0 (ix2 n k)) (fun k => x2 (ix3 0 0 k))
          (fun k => x1 (ix4 0 ⟨n.val / 2048, by omega⟩ 1 k)) (fun k => x1 (ix4 0 ⟨n.val / 2048, by omega⟩ 0 k))
          (fun k => x1 (ix4 0 ⟨n.val / 2048, by omega⟩ 2 k))
          (fun k f => x3 (ix4 0 0 k f)) (fun k f => x4 (ix4 0 0 k f)) (fun f k => x5 (ix4 0 0 f k)) j := by
  have hb : n.val / 2048 < 16 := by omega
  have e : idx_main_v50 (ix2 n j) = ix3 ⟨n.val / 2048, hb⟩ ⟨n.val % 2048, by omega⟩ j := funext fun a => Fin.ext (by
    match a with
    | ⟨0, _⟩ => show (n.val * 1024 + j.val) / 2097152 = n.val / 2048; omega
    | ⟨1, _⟩ => show (n.val * 1024 + j.val) / 1024 % 2048 = n.val % 2048; omega
    | ⟨2, _⟩ => show (n.val * 1024 + j.val) % 1024 = j.val; omega)
  rw [val_main_v50_apply, e]
  have en : n = flat ⟨n.val / 2048, hb⟩ ⟨n.val % 2048, by omega⟩ := Fin.ext (by
    show n.val = n.val / 2048 * 2048 + n.val % 2048; omega)
  have eb : (⟨n.val / 2048, by omega⟩ : Fin 24) = seq24 ⟨n.val / 2048, hb⟩ := rfl
  rw [eb]
  generalize hbb : (⟨n.val / 2048, hb⟩ : Fin 16) = b at *
  generalize (⟨n.val % 2048, by omega⟩ : Fin 2048) = s at *
  subst en
  rw [val_main_v49_apply, val_main_v48_apply, x_apply, gt_apply, val_main_v46_apply]
  refine congrArg (fun z => x0 (ix2 (flat b s) j) + half * x1 (ix4 0 (seq24 b) 2 j) * z) (Finset.sum_congr rfl fun f _ => ?_)
  refine congrArg₂ (· * ·) (Eq.trans (congrArg _ ?_) (hid_apply x0 x1 x2 x3 x4 b s f)) (Eq.trans (congrArg _ ?_) (wd_apply x5 f j))
  · funext a; match a with | ⟨0, _⟩ => rfl | ⟨1, _⟩ => rfl | ⟨2, _⟩ => rfl
  · funext a; match a with | ⟨0, _⟩ => rfl | ⟨1, _⟩ => rfl

end Cert.Proof.FfnReference

end
-- ==== Proof.FfnClaim.lean ====
/-
  The feed-forward call: the kernel's result array and the reference's are the same function of the arguments.
-/
module

public import proofs.«01_k».proof.Defs
public import proofs.«01_k».proof.Proof.FfnKernel
public import proofs.«01_k».proof.Proof.FfnReference
public import proofs.«01_k».proof.Proof.Gen.Reference2Ideal.Run
public import proofs.«01_k».proof.Proof.Gen.Kernel2Ideal.Value
public import proofs.«01_k».proof.Proof.Gen.Kernel2Ideal
public import proofs.«01_k».proof.Proof.Gen.Reference2Ideal

@[expose] public section

noncomputable section

namespace Cert.Proof

open Idealize.ShloMosaic Idealize.ShloMosaic.ValueIdx Idealize.ShloMosaic.TcCoe Idealize.SL.Sem

/-- The reference's composed term, element by element, under arguments equal to the kernel's. -/
theorem ffn_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = FfnKernel.a0 m c)
    (h1 : m' ((c.tc : Thread Cert.Reference2Ideal.nD Cert.Reference2Ideal.τ).loc Cert.Reference2Ideal.main_arg1) = FfnKernel.a1 m c)
    (h2 : m' ((c.tc : Thread Cert.Reference2Ideal.nD Cert.Reference2Ideal.τ).loc Cert.Reference2Ideal.main_arg2) = FfnKernel.a2 m c)
    (h3 : m' ((c.tc : Thread Cert.Reference2Ideal.nD Cert.Reference2Ideal.τ).loc Cert.Reference2Ideal.main_arg3) = FfnKernel.a3 m c)
    (h4 : m' ((c.tc : Thread Cert.Reference2Ideal.nD Cert.Reference2Ideal.τ).loc Cert.Reference2Ideal.main_arg4) = FfnKernel.a4 m c)
    (h5 : m' ((c.tc : Thread Cert.Reference2Ideal.nD Cert.Reference2Ideal.τ).loc Cert.Reference2Ideal.main_arg5) = FfnKernel.a5 m c) :
    Cert.Reference2Ideal.Value.res_main_v50 m' c = FfnKernel.outArr m c := by
  rw [Cert.Reference2Ideal.Read.val_main_v50_eq, h0, h1, h2, h3, h4, h5]
  funext i
  obtain ⟨n, j, rfl⟩ : ∃ (n : Fin 32768) (j : Fin 1024), i = ix2 n j :=
    ⟨i 0, i 1, funext fun a => by match a with | ⟨0, _⟩ => rfl | ⟨1, _⟩ => rfl⟩
  rw [FfnReference.result_apply]
  rfl

/-- Over the ideal numbers the kernel's result and the reference's are one array, and both leave their arguments as
    they were. -/
theorem ffn_algebraic : Cert.algebraic_Kernel2Ideal_Reference2Ideal
    (hKernel2Ideal := Cert.Kernel2Ideal.Gen.facts) (hReference2Ideal := Cert.Reference2Ideal.Gen.facts) := by
  intro m ρ m' ρ' _ hag
  refine ⟨fun c => FfnKernel.outArr m c, ?_, ?_⟩
  · exact (θ_run _ _ _).mono (fun _ h c => ⟨(h c).1.trans (FfnKernel.final m c), (h c).2⟩)
      (Cert.Kernel2Ideal.Value.run_blocks m ρ)
  · refine (θ_run _ _ _).mono (fun _ h c => ⟨(h c).1.trans ?_, (h c).2⟩) (Cert.Reference2Ideal.Value.run m' ρ')
    obtain ⟨h0, h1, h2, h3, h4, h5⟩ := hag c
    exact ffn_agree m m' c h0 h1 h2 h3 h4 h5

end Cert.Proof

end
-- ==== Proof.MixSpec.lean ====
/-
  The mixers' join of the layer as ONE function of one row: each head's output divided by its root mean square, scaled
  and gated, set beside the attention's output, projected, and added to the row under the modulation's gate. No program
  is mentioned here.
-/
module

public import proofs.«01_k».proof.Proof.FfnSpec

@[expose] public section

noncomputable section

namespace Cert.Mix

open Idealize.ShloMosaic Idealize.ShloMosaic.ValueIdx Cert.Ffn

/-- The head width 128, as the programs write it. -/
def headWidth : EReal := Ideal.ofBits .f32 0x43000000#32

/-- Lane `q` of head `u`. -/
def lane (u : Fin 4) (q : Fin 128) : Fin 512 := ⟨u.val * 128 + q.val, by omega⟩
/-- The head of a lane, and the lane within it. -/
def headOf (k : Fin 512) : Fin 4 := ⟨k.val / 128, by omega⟩
def inHead (k : Fin 512) : Fin 128 := ⟨k.val % 128, by omega⟩
theorem lane_headOf (k : Fin 512) : lane (headOf k) (inHead k) = k := Fin.ext (by
  show k.val / 128 * 128 + k.val % 128 = k.val; omega)
theorem headOf_lane (u : Fin 4) (q : Fin 128) : headOf (lane u q) = u := Fin.ext (by
  show (u.val * 128 + q.val) / 128 = u.val; omega)
theorem inHead_lane (u : Fin 4) (q : Fin 128) : inHead (lane u q) = q := Fin.ext (by
  show (u.val * 128 + q.val) % 128 = q.val; omega)

/-- One head's row divided by its root mean square, scaled by `g` and gated by `s`. -/
def headRow (o g s : Fin 128 → EReal) (q : Fin 128) : EReal :=
  o q * Ideal.rsqrt (Ideal.div (∑ p, o p * o p) headWidth + eps) * g q * s q

theorem headRow_congr {o o' g g' s s' : Fin 128 → EReal} (ho : ∀ q, o q = o' q) (hg : ∀ q, g q = g' q) (hs : ∀ q, s q = s' q)
    (q : Fin 128) : headRow o g s q = headRow o' g' s' q := by
  rw [funext ho, funext hg, funext hs]

/-- All four heads. -/
def heads (o s : Fin 512 → EReal) (g : Fin 128 → EReal) (k : Fin 512) : EReal :=
  headRow (fun q => o (lane (headOf k) q)) g (fun q => s (lane (headOf k) q)) (inHead k)

/-- Row `k` of the projection's first half, and of its second. -/
def lo (k : Fin 512) : Fin 1024 := ⟨k.val, by omega⟩
def hi (k : Fin 512) : Fin 1024 := ⟨512 + k.val, by omega⟩

/-- The row after the mixers. -/
def mixRow (x : Fin 1024 → EReal) (o s : Fin 512 → EReal) (g : Fin 128 → EReal) (na : Fin 512 → EReal)
    (w : Fin 1024 → Fin 1024 → EReal) (gm : Fin 1024 → EReal) (j : Fin 1024) : EReal :=
  x j + gm j * ((∑ k, heads o s g k * w (lo k) j) + ∑ k, na k * w (hi k) j)

/-- One leading unit axis dropped. -/
theorem cast1_apply {α : Type} {a b : Nat} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 0 p q) := by
  refine shapeCast_apply x h _ _ ?_
  rw [Shape.rowMajor_val_three, Shape.rowMajor_val_two]
  show (0 * a + p.val) * b + q.val = p.val * b + q.val
  rw [Nat.zero_mul, Nat.zero_add]

/-- A sum over 1024 as the sum over its two halves. -/
theorem sum_halves (f : Fin 1024 → EReal) : ∑ k, f k = (∑ k, f (lo k)) + ∑ k, f (hi k) :=
  (Fin.sum_univ_add (a := 512) (b := 512) f).trans (by
    refine congrArg₂ (· + ·) (Finset.sum_congr rfl fun k _ => congrArg f (Fin.ext rfl)) (Finset.sum_congr rfl fun k _ => congrArg f (Fin.ext rfl)))

end Cert.Mix

end
-- ==== Proof.MixKernel.lean ====
/-
  The mixers' join and second feed-forward half of the kernel, read at one element: what its body stores at row `r` of a
  block is the row functions of Proof/MixSpec.lean and Proof/FfnSpec.lean of the staged rows; and from the blocks the
  whole array.
-/
module

public import proofs.«01_k».proof.Proof.MixSpec
public import proofs.«01_k».proof.Proof.FfnKernel
public import proofs.«01_k».proof.Proof.Gen.Kernel3Ideal.Value
public import Idealize.ShloMosaic.Lib.Pipeline.ValueKit.Tiles
public import Idealize.ShloMosaic.Lib.Claim

@[expose] public section

noncomputable section

namespace Cert.Proof.MixKernel

open Idealize.ShloMosaic Idealize.ShloMosaic.ValueIdx Idealize.ShloMosaic.TcCoe Idealize.SL.Sem
open Cert.Kernel3Ideal Cert.Kernel3Ideal.Gen Cert.Ffn Cert.Mix
open Idealize.ShloMosaic.Pipeline (Dat Cfg Window)

/-- One head's block, at row `r` and lane `q`. -/
theorem pay2_apply (a b : Vec Ideal S512x128 .f32) (g : Vec Ideal S1x1x128 .f32) (s : Vec Ideal S512x128 .bf16)
    (r : Fin 512) (q : Fin 128) :
    k0_pay2 a b g s (ix2 r q) = headRow (fun q => a (ix2 r q) + b (ix2 r q)) (fun q => g (ix3 0 0 q)) (fun q => s (ix2 r q)) q := by
  unfold k0_pay2 headRow
  simp only [truncf_apply, extf_apply, mulf_apply, addf_apply]
  rw [bcast_col_apply (by decide), bcast_row_apply (by decide), cast1_apply]
  show (a (ix2 r q) + b (ix2 r q)) * Ideal.rsqrt (Ideal.div (shapeCast S512x1 _ _ (ix2 r 0)) headWidth + eps) * _ * _ = _
  rw [cast_col_apply]
  exact congrArg (fun z => (a (ix2 r q) + b (ix2 r q)) * Ideal.rsqrt (Ideal.div z headWidth + eps) * g (ix3 0 0 q) * s (ix2 r q))
    (rowSum_apply _ _ _ _ _ r)

/-- Four heads' blocks side by side. -/
theorem cat_apply (x0 x1 x2 x3 : FVec Ideal S512x128 .bf16) (r : Fin 512) (u : Fin 4) (q : Fin 128) :
    concatenate S512x512 1 [⟨S512x128, x0⟩, ⟨S512x128, x1⟩, ⟨S512x128, x2⟩, ⟨S512x128, x3⟩]
        concatenates_S512x128_S512x128_S512x128_S512x128_S512x512_d1 (ix2 r (lane u q))
      = (![x0, x1, x2, x3] u) (ix2 r q) := by
  have h0 : ∀ c : Fin 2, c.cast rfl ≠ (1 : Fin 2) → ((ix2 r q : S512x128.Idx) c).val = ((ix2 r (lane u q) : S512x512.Idx) (c.cast rfl)).val := by
    intro c hc
    match c with
    | ⟨0, _⟩ => rfl
    | ⟨1, _⟩ => exact absurd rfl hc
  match u with
  | ⟨0, _⟩ => exact concatenate_apply_piece (t := S512x512) 1 [⟨S512x128, x0⟩, ⟨S512x128, x1⟩, ⟨S512x128, x2⟩, ⟨S512x128, x3⟩] _ (ix2 r (lane ⟨0, by decide⟩ q)) 0 (by simp) S512x128 x0 rfl rfl 0 rfl (ix2 r q) h0 rfl
  | ⟨1, _⟩ => exact concatenate_apply_piece (t := S512x512) 1 [⟨S512x128, x0⟩, ⟨S512x128, x1⟩, ⟨S512x128, x2⟩, ⟨S512x128, x3⟩] _ (ix2 r (lane ⟨1, by decide⟩ q)) 1 (by simp) S512x128 x1 rfl rfl 128 rfl (ix2 r q) h0 rfl
  | ⟨2, _⟩ => exact concatenate_apply_piece (t := S512x512) 1 [⟨S512x128, x0⟩, ⟨S512x128, x1⟩, ⟨S512x128, x2⟩, ⟨S512x128, x3⟩] _ (ix2 r (lane ⟨2, by decide⟩ q)) 2 (by simp) S512x128 x2 rfl rfl 256 rfl (ix2 r q) h0 rfl
  | ⟨3, _⟩ => exact concatenate_apply_piece (t := S512x512) 1 [⟨S512x128, x0⟩, ⟨S512x128, x1⟩, ⟨S512x128, x2⟩, ⟨S512x128, x3⟩] _ (ix2 r (lane ⟨3, by decide⟩ q)) 3 (by simp) S512x128 x3 rfl rfl 384 rfl (ix2 r q) h0 rfl

/-- The row after the mixers, from the four heads' blocks and the attention's. -/
theorem pay8_apply (x : Vec Ideal S512x1024 .f32) (p0 p1 p2 : FVec Ideal S512x128 .bf16) (a b : Vec Ideal S512x128 .f32)
    (g : Vec Ideal S1x1x128 .f32) (s : Vec Ideal S512x128 .bf16) (wl : Vec Ideal S1x512x1024 .bf16) (na : Vec Ideal S512x512 .bf16)
    (wh : Vec Ideal S1x512x1024 .bf16) (gm : Vec Ideal S1x1x1x1024 .f32) (r : Fin 512) (j : Fin 1024) :
    k0_pay8 x p0 p1 p2 (k0_pay6 a b) (k0_pay7 a b) g s wl na wh gm (ix2 r j)
      = x (ix2 r j) + gm (ix4 0 0 0 j) * ((∑ k : Fin 512, (![p0, p1, p2, k0_pay2 a b g s] (headOf k)) (ix2 r (inHead k)) * wl (ix3 0 k j))
          + ∑ k : Fin 512, na (ix2 r k) * wh (ix3 0 k j)) := by
  unfold k0_pay8
  simp only [addf_apply, mulf_apply]
  rw [bcast_row_apply (by decide), cast11_apply]
  refine congrArg (fun z => x (ix2 r j) + gm (ix4 0 0 0 j) * z) (congrArg₂ (· + ·) ?_ ?_)
  · refine (mm_apply _ rfl _ _ r j).trans (Finset.sum_congr rfl fun k _ => ?_)
    rw [cast1_apply]
    refine congrArg (· * wl (ix3 0 k j)) ?_
    have e := cat_apply p0 p1 p2 (k0_pay2 a b g s) r (headOf k) (inHead k)
    rw [lane_headOf] at e
    exact e
  · refine (mm_apply _ rfl _ _ r j).trans (Finset.sum_congr rfl fun k _ => ?_)
    rw [cast1_apply]

/-- The feed-forward's part of what the body stores: the same arithmetic as the first half's. -/
theorem tail_apply (v : FVec Ideal S512x1024 .f32) (sh sc gt g : Vec Ideal S1x1x1x1024 .f32)
    (wg wu : Vec Ideal S1x1x1024x2816 .bf16) (wd : Vec Ideal S1x1x2816x1024 .bf16) (r : Fin 512) (j : Fin 1024) :
    k0_pay1 v (k0_pay11 gt) (k0_pay12 v (k0_pay9 sh) (k0_pay10 sc) g wg wu) wd (ix2 r j)
      = ffnRow (fun k => v (ix2 r k)) (fun k => g (ix4 0 0 0 k)) (fun k => sc (ix4 0 0 0 k)) (fun k => sh (ix4 0 0 0 k))
          (fun k => gt (ix4 0 0 0 k)) (fun k f => wg (ix4 0 0 k f)) (fun k f => wu (ix4 0 0 k f)) (fun f j => wd (ix4 0 0 f j)) j :=
  FfnKernel.pay1_apply v sh sc gt g wg wu wd r j

/-! ## From a block to the array -/

variable (m : (ℓ : Loc nD τ sig) → Buf (Elt Ideal) ℓ)

/-- The argument arrays, as launched. -/
abbrev a0 (c : Dev nD) : S32768x1024.Idx → EReal := m ((c : Thread nD τ).loc main_arg0)
abbrev a1 (c : Dev nD) : S32768x512.Idx → EReal := m ((c : Thread nD τ).loc main_arg1)
abbrev a2 (c : Dev nD) : S32768x512.Idx → EReal := m ((c : Thread nD τ).loc main_arg2)
abbrev a3 (c : Dev nD) : S32768x512.Idx → EReal := m ((c : Thread nD τ).loc main_arg3)
abbrev a4 (c : Dev nD) : S32768x512.Idx → EReal := m ((c : Thread nD τ).loc main_arg4)
abbrev a5 (c : Dev nD) : S4x128.Idx → EReal := m ((c : Thread nD τ).loc main_arg5)
abbrev a6 (c : Dev nD) : S4x1024x1024.Idx → EReal := m ((c : Thread nD τ).loc main_arg6)
abbrev a7 (c : Dev nD) : S4x24x9x1024.Idx → EReal := m ((c : Thread nD τ).loc main_arg7)
abbrev a8 (c : Dev nD) : S4x3x1024.Idx → EReal := m ((c : Thread nD τ).loc main_arg8)
abbrev a9 (c : Dev nD) : S4x2x1024x2816.Idx → EReal := m ((c : Thread nD τ).loc main_arg9)
abbrev a10 (c : Dev nD) : S4x2x1024x2816.Idx → EReal := m ((c : Thread nD τ).loc main_arg10)
abbrev a11 (c : Dev nD) : S4x2x2816x1024.Idx → EReal := m ((c : Thread nD τ).loc main_arg11)

/-- What the region finds in the reshaped norm weights and in the narrowed weights. -/
theorem V_v0 (c : Dev nD) : V m c main_v0 = shapeCast S4x3x1x1024 (a8 m c) shapeCasts_S4x3x1024_S4x3x1x1024 := by
  entry_read; rfl
theorem V_v1 (c : Dev nD) : V m c main_v1 = a9 m c := by
  entry_read; rfl
theorem V_v2 (c : Dev nD) : V m c main_v2 = a10 m c := by
  entry_read; rfl
theorem V_v3 (c : Dev nD) : V m c main_v3 = a11 m c := by
  entry_read; rfl
theorem V_v4 (c : Dev nD) : V m c main_v4 = a6 m c := by
  entry_read; rfl
theorem V_v5 (c : Dev nD) : V m c main_v5 = shapeCast S4x1x128 (a5 m c) shapeCasts_S4x128_S4x1x128 := by
  entry_read; rfl

/-- The windows' block indices over the 64 points. -/
theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index12 (t : Fin cfg0.N) : win0_12.index t 0 = t.val ∧ win0_12.index t 1 = 0 :=
  (by decide +kernel : ∀ t : Fin grid0.N, win0_12.index t 0 = t.val ∧ win0_12.index t 1 = 0) t
theorem index7 (t : Fin cfg0.N) : win0_7.index t 0 = 0 ∧ win0_7.index t 1 = t.val / 4 ∧ win0_7.index t 2 = 0 ∧ win0_7.index t 3 = 0 :=
  (by decide +kernel : ∀ t : Fin grid0.N, win0_7.index t 0 = 0 ∧ win0_7.index t 1 = t.val / 4 ∧ win0_7.index t 2 = 0 ∧ win0_7.index t 3 = 0) t
theorem index8 (t : Fin cfg0.N) : win0_8.index t 0 = 0 ∧ win0_8.index t 1 = 2 ∧ win0_8.index t 2 = 0 ∧ win0_8.index t 3 = 0 :=
  (by decide +kernel : ∀ t : Fin grid0.N, win0_8.index t 0 = 0 ∧ win0_8.index t 1 = 2 ∧ win0_8.index t 2 = 0 ∧ win0_8.index t 3 = 0) t
theorem index5 (t : Fin cfg0.N) (a : Fin 3) : win0_5.index t a = 0 :=
  (by decide +kernel : ∀ (t : Fin grid0.N) (a : Fin 3), win0_5.index t a = 0) t a
theorem index6 (t : Fin cfg0.N) (a : Fin 3) : win0_6.index t a = 0 :=
  (by decide +kernel : ∀ (t : Fin grid0.N) (a : Fin 3), win0_6.index t a = 0) t a
theorem index9 (t : Fin cfg0.N) : win0_9.index t 0 = 0 ∧ win0_9.index t 1 = 1 ∧ win0_9.index t 2 = 0 ∧ win0_9.index t 3 = 0 :=
  (by decide +kernel : ∀ t : Fin grid0.N, win0_9.index t 0 = 0 ∧ win0_9.index t 1 = 1 ∧ win0_9.index t 2 = 0 ∧ win0_9.index t 3 = 0) t
theorem index10 (t : Fin cfg0.N) : win0_10.index t 0 = 0 ∧ win0_10.index t 1 = 1 ∧ win0_10.index t 2 = 0 ∧ win0_10.index t 3 = 0 :=
  (by decide +kernel : ∀ t : Fin grid0.N, win0_10.index t 0 = 0 ∧ win0_10.index t 1 = 1 ∧ win0_10.index t 2 = 0 ∧ win0_10.index t 3 = 0) t
theorem index11 (t : Fin cfg0.N) : win0_11.index t 0 = 0 ∧ win0_11.index t 1 = 1 ∧ win0_11.index t 2 = 0 ∧ win0_11.index t 3 = 0 :=
  (by decide +kernel : ∀ t : Fin grid0.N, win0_11.index t 0 = 0 ∧ win0_11.index t 1 = 1 ∧ win0_11.index t 2 = 0 ∧ win0_11.index t 3 = 0) t

/-- Point `t`'s row `r` in the array, and its sequence. -/
theorem lt_N (t : Fin cfg0.N) : t.val < 64 := lt_of_lt_of_eq t.isLt N_0
def row (t : Fin cfg0.N) (r : Fin 512) : Fin 32768 := ⟨t.val * 512 + r.val, by have := lt_N t; omega⟩

/-- The staged blocks, read at an index. -/
theorem iblk0_apply (c : Dev nD) (t : Fin cfg0.N) (r : Fin 512) (k : Fin 1024) :
    iblk m c 0 t (ix2 r k) = a0 m c (ix2 (row t r) k) := by
  unfold iblk
  show V m c main_arg0 ((win0_0.rect t).emb (ix2 r k)) = _
  rw [V_main_arg0]
  refine congrArg (a0 m c) (funext fun a => Fin.ext ?_)
  match a with
  | ⟨0, _⟩ =>
    show win0_0.index t 0 * 512 + 1 * r.val = t.val * 512 + r.val
    rw [(index0 t).1]; omega
  | ⟨1, _⟩ =>
    show win0_0.index t 1 * 1024 + 1 * k.val = k.val
    rw [(index0 t).2]; omega

theorem iblk1_apply (c : Dev nD) (t : Fin cfg0.N) (r : Fin 512) (k : Fin 512) :
    iblk m c 1 t (ix2 r k) = a1 m c (ix2 (row t r) k) := by
  unfold iblk
  show V m c main_arg1 ((win0_1.rect t).emb (ix2 r k)) = _
  rw [V_main_arg1]
  refine congrArg (a1 m c) (funext fun a => Fin.ext ?_)
  match a with
  | ⟨0, _⟩ =>
    show win0_1.index t 0 * 512 + 1 * r.val = t.val * 512 + r.val
    rw [(index1 t).1]; omega
  | ⟨1, _⟩ =>
    show win0_1.index t 1 * 512 + 1 * k.val = k.val
    rw [(index1 t).2]; omega

theorem iblk2_apply (c : Dev nD) (t : Fin cfg0.N) (r : Fin 512) (k : Fin 512) :
    iblk m c 2 t (ix2 r k) = a2 m c (ix2 (row t r) k) := by
  unfold iblk
  show V m c main_arg2 ((win0_2.rect t).emb (ix2 r k)) = _
  rw [V_main_arg2]
  refine congrArg (a2 m c) (funext fun a => Fin.ext ?_)
  match a with
  | ⟨0, _⟩ =>
    show win0_2.index t 0 * 512 + 1 * r.val = t.val * 512 + r.val
    rw [(index2 t).1]; omega
  | ⟨1, _⟩ =>
    show win0_2.index t 1 * 512 + 1 * k.val = k.val
    rw [(index2 t).2]; omega

theorem iblk3_apply (c : Dev nD) (t : Fin cfg0.N) (r : Fin 512) (k : Fin 512) :
    iblk m c 3 t (ix2 r k) = a3 m c (ix2 (row t r) k) := by
  unfold iblk
  show V m c main_arg3 ((win0_3.rect t).emb (ix2 r k)) = _
  rw [V_main_arg3]
  refine congrArg (a3 m c) (funext fun a => Fin.ext ?_)
  match a with
  | ⟨0, _⟩ =>
    show win0_3.index t 0 * 512 + 1 * r.val = t.val * 512 + r.val
    rw [(index3 t).1]; omega
  | ⟨1, _⟩ =>
    show win0_3.index t 1 * 512 + 1 * k.val = k.val
    rw [(index3 t).2]; omega

theorem iblk4_apply (c : Dev nD) (t : Fin cfg0.N) (r : Fin 512) (k : Fin 512) :
    iblk m c 4 t (ix2 r k) = a4 m c (ix2 (row t r) k) := by
  unfold iblk
  show V m c main_arg4 ((win0_4.rect t).emb (ix2 r k)) = _
  rw [V_main_arg4]
  refine congrArg (a4 m c) (funext fun a => Fin.ext ?_)
  match a with
  | ⟨0, _⟩ =>
    show win0_4.index t 0 * 512 + 1 * r.val = t.val * 512 + r.val
    rw [(index4 t).1]; omega
  | ⟨1, _⟩ =>
    show win0_4.index t 1 * 512 + 1 * k.val = k.val
    rw [(index4 t).2]; omega

theorem iblk5_apply (c : Dev nD) (t : Fin cfg0.N) (q : Fin 128) :
    iblk m c 5 t (ix3 0 0 q) = a5 m c (ix2 0 q) := by
  unfold iblk
  show V m c main_v5 ((win0_5.rect t).emb (ix3 0 0 q)) = _
  rw [V_v5]
  refine shapeCast_apply _ _ _ _ ?_
  rw [Shape.rowMajor_val_two, Shape.rowMajor_val_three]
  show 0 * 128 + q.val = ((win0_5.index t 0 * 1 + 1 * 0) * 1 + (win0_5.index t 1 * 1 + 1 * 0)) * 128
    + (win0_5.index t 2 * 128 + 1 * q.val)
  rw [index5, index5, index5]; omega

theorem iblk6_apply (c : Dev nD) (t : Fin cfg0.N) (k j : Fin 1024) :
    iblk m c 6 t (ix3 0 k j) = a6 m c (ix3 0 k j) := by
  unfold iblk
  show V m c main_v4 ((win0_6.rect t).emb (ix3 0 k j)) = _
  rw [V_v4]
  refine congrArg (a6 m c) (funext fun a => Fin.ext ?_)
  match a with
  | ⟨0, _⟩ => show win0_6.index t 0 * 1 + 1 * 0 = 0; rw [index6]
  | ⟨1, _⟩ => show win0_6.index t 1 * 1024 + 1 * k.val = k.val; rw [index6]; omega
  | ⟨2, _⟩ => show win0_6.index t 2 * 1024 + 1 * j.val = j.val; rw [index6]; omega

theorem iblk7_apply (c : Dev nD) (t : Fin cfg0.N) (p : Fin 9) (k : Fin 1024) :
    iblk m c 7 t (ix4 0 0 p k) = a7 m c (ix4 0 ⟨t.val / 4, by have := lt_N t; omega⟩ p k) := by
  unfold iblk
  show V m c main_arg7 ((win0_7.rect t).emb (ix4 0 0 p k)) = _
  rw [V_main_arg7]
  refine congrArg (a7 m c) (funext fun a => Fin.ext ?_)
  match a with
  | ⟨0, _⟩ => show win0_7.index t 0 * 1 + 1 * 0 = 0; rw [(index7 t).1]
  | ⟨1, _⟩ => show win0_7.index t 1 * 1 + 1 * 0 = t.val / 4; rw [(index7 t).2.1]; omega
  | ⟨2, _⟩ => show win0_7.index t 2 * 9 + 1 * p.val = p.val; rw [(index7 t).2.2.1]; omega
  | ⟨3, _⟩ => show win0_7.index t 3 * 1024 + 1 * k.val = k.val; rw [(index7 t).2.2.2]; omega

theorem iblk8_apply (c : Dev nD) (t : Fin cfg0.N) (k : Fin 1024) :
    iblk m c 8 t (ix4 0 0 0 k) = a8 m c (ix3 0 2 k) := by
  unfold iblk
  show V m c main_v0 ((win0_8.rect t).emb (ix4 0 0 0 k)) = _
  rw [V_v0]
  refine shapeCast_apply _ _ _ _ ?_
  rw [Shape.rowMajor_val_three, Shape.rowMajor_val_four]
  show (0 * 3 + 2) * 1024 + k.val = (((win0_8.index t 0 * 1 + 1 * 0) * 3 + (win0_8.index t 1 * 1 + 1 * 0)) * 1
    + (win0_8.index t 2 * 1 + 1 * 0)) * 1024 + (win0_8.index t 3 * 1024 + 1 * k.val)
  rw [(index8 t).1, (index8 t).2.1, (index8 t).2.2.1, (index8 t).2.2.2]; omega

theorem iblk9_apply (c : Dev nD) (t : Fin cfg0.N) (k : Fin 1024) (f : Fin 2816) :
    iblk m c 9 t (ix4 0 0 k f) = a9 m c (ix4 0 1 k f) := by
  unfold iblk
  show V m c main_v1 ((win0_9.rect t).emb (ix4 0 0 k f)) = _
  rw [V_v1]
  refine congrArg (a9 m c) (funext fun a => Fin.ext ?_)
  match a with
  | ⟨0, _⟩ => show win0_9.index t 0 * 1 + 1 * 0 = 0; rw [(index9 t).1]
  | ⟨1, _⟩ => show win0_9.index t 1 * 1 + 1 * 0 = 1; rw [(index9 t).2.1]
  | ⟨2, _⟩ => show win0_9.index t 2 * 1024 + 1 * k.val = k.val; rw [(index9 t).2.2.1]; omega
  | ⟨3, _⟩ => show win0_9.index t 3 * 2816 + 1 * f.val = f.val; rw [(index9 t).2.2.2]; omega

theorem iblk10_apply (c : Dev nD) (t : Fin cfg0.N) (k : Fin 1024) (f : Fin 2816) :
    iblk m c 10 t (ix4 0 0 k f) = a10 m c (ix4 0 1 k f) := by
  unfold iblk
  show V m c main_v2 ((win0_10.rect t).emb (ix4 0 0 k f)) = _
  rw [V_v2]
  refine congrArg (a10 m c) (funext fun a => Fin.ext ?_)
  match a with
  | ⟨0, _⟩ => show win0_10.index t 0 * 1 + 1 * 0 = 0; rw [(index10 t).1]
  | ⟨1, _⟩ => show win0_10.index t 1 * 1 + 1 * 0 = 1; rw [(index10 t).2.1]
  | ⟨2, _⟩ => show win0_10.index t 2 * 1024 + 1 * k.val = k.val; rw [(index10 t).2.2.1]; omega
  | ⟨3, _⟩ => show win0_10.index t 3 * 2816 + 1 * f.val = f.val; rw [(index10 t).2.2.2]; omega

theorem iblk11_apply (c : Dev nD) (t : Fin cfg0.N) (f : Fin 2816) (k : Fin 1024) :
    iblk m c 11 t (ix4 0 0 f k) = a11 m c (ix4 0 1 f k) := by
  unfold iblk
  show V m c main_v3 ((win0_11.rect t).emb (ix4 0 0 f k)) = _
  rw [V_v3]
  refine congrArg (a11 m c) (funext fun a => Fin.ext ?_)
  match a with
  | ⟨0, _⟩ => show win0_11.index t 0 * 1 + 1 * 0 = 0; rw [(index11 t).1]
  | ⟨1, _⟩ => show win0_11.index t 1 * 1 + 1 * 0 = 1; rw [(index11 t).2.1]
  | ⟨2, _⟩ => show win0_11.index t 2 * 2816 + 1 * f.val = f.val; rw [(index11 t).2.2.1]; omega
  | ⟨3, _⟩ => show win0_11.index t 3 * 1024 + 1 * k.val = k.val; rw [(index11 t).2.2.2]; omega

/-- Row `n` after the mixers. -/
def mixed (c : Dev nD) (n : Fin 32768) : Fin 1024 → EReal :=
  mixRow (fun k => a0 m c (ix2 n k)) (fun k => a1 m c (ix2 n k) + a2 m c (ix2 n k)) (fun k => a3 m c (ix2 n k))
    (fun q => a5 m c (ix2 0 q)) (fun k => a4 m c (ix2 n k)) (fun k j => a6 m c (ix3 0 k j))
    (fun k => a7 m c (ix4 0 ⟨n.val / 2048, by omega⟩ 5 k))

/-- The result: at row `n`, the feed-forward of the mixed row under the modulation of `n`'s sequence. -/
def out (c : Dev nD) (n : Fin 32768) (j : Fin 1024) : EReal :=
  ffnRow (mixed m c n) (fun k => a8 m c (ix3 0 2 k))
    (fun k => a7 m c (ix4 0 ⟨n.val / 2048, by omega⟩ 7 k)) (fun k => a7 m c (ix4 0 ⟨n.val / 2048, by omega⟩ 6 k))
    (fun k => a7 m c (ix4 0 ⟨n.val / 2048, by omega⟩ 8 k))
    (fun k f => a9 m c (ix4 0 1 k f)) (fun k f => a10 m c (ix4 0 1 k f)) (fun f k => a11 m c (ix4 0 1 f k)) j
def outArr (c : Dev nD) : Buf (Elt Ideal) ((c : Thread nD τ).loc main_v6) := fun i => out m c (i 0) (i 1)

theorem hz3 : (![0, 0, 0] : Fin 3 → Nat) = fun _ => 0 := funext fun a => by fin_cases a <;> rfl

/-- A modulation row as the body loads it. -/
theorem ldmod (p : Nat) (hp : p < 9) (inb) (x : Vec Ideal S1x1x9x1024 .f32) (k : Fin 1024) :
    View.ld x (Rect.unit (s := S1x1x9x1024) ![0, 0, p, 0] S1x1x1x1024.size inb) (ix4 0 0 0 k) = x (ix4 0 0 ⟨p, hp⟩ k) :=
  congrArg x (funext fun a => Fin.ext (by
    match a with
    | ⟨0, _⟩ => rfl
    | ⟨1, _⟩ => rfl
    | ⟨2, _⟩ => rfl
    | ⟨3, _⟩ => show 0 + 1 * k.val = k.val; omega))

/-- Head `u`'s 128 columns as the body loads them. -/
theorem ldhead {e : EltTy} (u : Fin 4) (p : Nat) (hp : p = u.val * 128) (inb) (x : Vec Ideal S512x512 e) (r : Fin 512) (q : Fin 128) :
    View.ld x (Rect.unit (s := S512x512) ![0, p] S512x128.size inb) (ix2 r q) = x (ix2 r (lane u q)) :=
  congrArg x (funext fun a => Fin.ext (by
    match a with
    | ⟨0, _⟩ => show 0 + 1 * r.val = r.val; omega
    | ⟨1, _⟩ => show p + 1 * q.val = u.val * 128 + q.val; omega))

/-- Half of the projection's rows as the body loads them. -/
theorem ldproj (p : Nat) (hp : p + 512 ≤ 1024) (inb) (x : Vec Ideal S1x1024x1024 .bf16) (k : Fin 512) (j : Fin 1024) :
    View.ld x (Rect.unit (s := S1x1024x1024) ![0, p, 0] S1x512x1024.size inb) (ix3 0 k j) = x (ix3 0 ⟨p + k.val, by omega⟩ j) :=
  congrArg x (funext fun a => Fin.ext (by
    match a with
    | ⟨0, _⟩ => rfl
    | ⟨1, _⟩ => show p + 1 * k.val = p + k.val; omega
    | ⟨2, _⟩ => show 0 + 1 * j.val = j.val; omega))

/-- One head's block computed from the staged blocks. -/
theorem head_apply (c : Dev nD) (t : Fin cfg0.N) (u : Fin 4) (p : Nat) (hp : p = u.val * 128) (inb) (r : Fin 512) (q : Fin 128) :
    k0_pay2 (View.ld (iblk m c 1 t) (Rect.unit (s := S512x512) ![0, p] S512x128.size inb))
        (View.ld (iblk m c 2 t) (Rect.unit (s := S512x512) ![0, p] S512x128.size inb)) (iblk m c 5 t)
        (View.ld (iblk m c 3 t) (Rect.unit (s := S512x512) ![0, p] S512x128.size inb)) (ix2 r q)
      = headRow (fun q => a1 m c (ix2 (row t r) (lane u q)) + a2 m c (ix2 (row t r) (lane u q))) (fun q => a5 m c (ix2 0 q))
          (fun q => a3 m c (ix2 (row t r) (lane u q))) q := by
  refine (pay2_apply _ _ _ _ r q).trans (headRow_congr (fun q => ?_) (fun q => ?_) (fun q => ?_) q)
  · exact congrArg₂ (· + ·) ((ldhead u p hp inb _ r q).trans (iblk1_apply m c t r _)) ((ldhead u p hp inb _ r q).trans (iblk2_apply m c t r _))
  · exact iblk5_apply m c t q
  · exact (ldhead u p hp inb _ r q).trans (iblk3_apply m c t r _)

/-- The row after the mixers, from the staged blocks. -/
theorem pay13_apply (c : Dev nD) (t : Fin cfg0.N) (r : Fin 512) (j : Fin 1024) :
    k0_pay13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = mixed m c (row t r) j := by
  unfold k0_pay13
  rw [View.ld_unit_zero FfnKernel.hz2, View.ld_unit_zero hz3, View.ld_unit_zero FfnKernel.hz2, pay8_apply]
  unfold mixed mixRow
  have e : (row t r).val / 2048 = t.val / 4 := by show (t.val * 512 + r.val) / 2048 = _; omega
  simp only [e]
  refine congrArg₂ (· + ·) (iblk0_apply m c t r j) (congrArg₂ (· * ·) ?_ (congrArg₂ (· + ·) ?_ ?_))
  · exact (ldmod 5 (by decide) _ _ j).trans (iblk7_apply m c t 5 j)
  · refine Finset.sum_congr rfl fun k _ => congrArg₂ (· * ·) ?_ ?_
    · unfold heads
      generalize headOf k = u
      match u with
      | ⟨0, h⟩ => exact head_apply m c t ⟨0, h⟩ 0 rfl _ r (inHead k)
      | ⟨1, h⟩ => exact head_apply m c t ⟨1, h⟩ 128 rfl _ r (inHead k)
      | ⟨2, h⟩ => exact head_apply m c t ⟨2, h⟩ 256 rfl _ r (inHead k)
      | ⟨3, h⟩ => exact head_apply m c t ⟨3, h⟩ 384 rfl _ r (inHead k)
    · refine (ldproj 0 (by decide) _ _ k j).trans ((iblk6_apply m c t _ j).trans ?_)
      exact congrArg (fun k => a6 m c (ix3 0 k j)) (Fin.ext (Nat.zero_add _))
  · refine Finset.sum_congr rfl fun k _ => congrArg₂ (· * ·) (iblk4_apply m c t r k) ?_
    exact (ldproj 512 (by decide) _ _ k j).trans (iblk6_apply m c t _ j)

/-- What point `t` writes back, at row `r` and column `j` of its block. -/
theorem body_apply (c : Dev nD) (t : Fin cfg0.N) (r : Fin 512) (j : Fin 1024) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = out m c (row t r) j := by
  unfold out0_12
  rw [View.canon_unit_zero FfnKernel.hz2, View.ld_unit_zero FfnKernel.hz4, View.ld_unit_zero FfnKernel.hz4,
    View.ld_unit_zero FfnKernel.hz4, View.ld_unit_zero FfnKernel.hz4, tail_apply]
  simp only [pay13_apply, iblk8_apply, iblk9_apply, iblk10_apply, iblk11_apply]
  unfold out
  have e : (row t r).val / 2048 = t.val / 4 := by show (t.val * 512 + r.val) / 2048 = _; omega
  simp only [e]
  congr 1
  · exact funext fun k => (ldmod 7 (by decide) _ _ k).trans (iblk7_apply m c t 7 k)
  · exact funext fun k => (ldmod 6 (by decide) _ _ k).trans (iblk7_apply m c t 6 k)
  · exact funext fun k => (ldmod 8 (by decide) _ _ k).trans (iblk7_apply m c t 8 k)

theorem flushed_eq (c : Dev nD) (t : Fin cfg0.N) :
    (dats m 0 c).flushed 12 t = (win0_12.blk t).view.read (Elt Ideal) (outArr m c) := by
  rw [Value.flushed12]
  funext i
  obtain ⟨r, j, rfl⟩ : ∃ (r : Fin 512) (j : Fin 1024), i = ix2 r j := ⟨i 0, i 1, funext fun a => by match a with | ⟨0, _⟩ => rfl | ⟨1, _⟩ => rfl⟩
  refine (body_apply m c t r j).trans ?_
  show _ = outArr m c ((win0_12.rect t).emb (ix2 r j))
  unfold outArr
  refine congrArg₂ (out m c) (Fin.ext ?_) (Fin.ext ?_)
  · show t.val * 512 + r.val = win0_12.index t 0 * 512 + 1 * r.val
    rw [(index12 t).1]; omega
  · show j.val = win0_12.index t 1 * 1024 + 1 * j.val
    rw [(index12 t).2]; omega

/-- Point `t`'s block is the rows `512 t` to `512 t + 511`. -/
theorem mem_blk (t : Fin cfg0.N) (i : S32768x1024.Idx) :
    i ∈ ((cfg0.win 12).blk t).view.set ↔ t.val * 512 ≤ (i 0 : Nat) ∧ (i 0 : Nat) < t.val * 512 + 512 := by
  show i ∈ ((View.whole main_v6).slice (win0_12.rect t)).set ↔ _
  rw [View.set_slice_whole, Rect.mem_set_unit]
  have h1 : (i 1 : Nat) < 1024 := (i 1).isLt
  refine ⟨fun h => ?_, fun h a => ?_⟩
  · have h2 : win0_12.index t 0 * 512 ≤ (i 0 : Nat) ∧ (i 0 : Nat) < win0_12.index t 0 * 512 + 512 := h 0
    rw [(index12 t).1] at h2; exact h2
  · match a with
    | ⟨0, _⟩ =>
      show win0_12.index t 0 * 512 ≤ (i 0 : Nat) ∧ (i 0 : Nat) < win0_12.index t 0 * 512 + 512
      rw [(index12 t).1]; exact h
    | ⟨1, _⟩ =>
      show win0_12.index t 1 * 1024 ≤ (i 1 : Nat) ∧ (i 1 : Nat) < win0_12.index t 1 * 1024 + 1024
      rw [(index12 t).2, Nat.zero_mul, Nat.zero_add]; exact ⟨Nat.zero_le _, h1⟩

/-- The blocks tile the array. -/
theorem cover (i : S32768x1024.Idx) : ∃ t : Fin cfg0.N, (cfg0.win 12).flush t = true ∧ i ∈ ((cfg0.win 12).blk t).view.set := by
  have h0 : (i 0 : Nat) < 32768 := (i 0).isLt
  have hN : cfg0.N = 64 := N_0
  have ht : (i 0 : Nat) / 512 < cfg0.N := by omega
  refine ⟨⟨(i 0 : Nat) / 512, ht⟩, flush0_12 _, ?_⟩
  rw [mem_blk]; dsimp only; omega

/-- The result array after the run. -/
theorem final (c : Dev nD) : (dats m 0 c).arrAt 12 cfg0.N = outArr m c :=
  (dats m 0 c).arrAt_eq_of_cover 12 (outArr m c) (fun t _ => flushed_eq m c t) cover

end Cert.Proof.MixKernel

end
-- ==== Proof.MixReference.lean ====
/-
  The reference of the mixers' join and second feed-forward half, read at one element: its result at row `n` and column
  `j` is the row functions of Proof/MixSpec.lean and Proof/FfnSpec.lean of row `n` of the arguments.
-/
module

public import proofs.«01_k».proof.Proof.MixSpec
public import proofs.«01_k».proof.Proof.Gen.Reference3Ideal.Read

@[expose] public section

noncomputable section

namespace Cert.Proof.MixReference

open Idealize.ShloMosaic Idealize.ShloMosaic.ValueIdx Idealize.ShloMosaic.TcCoe Idealize.SL.Sem
open Cert.Reference3Ideal Cert.Reference3Ideal.Read Cert.Ffn Cert.Mix

variable (x0 : S32768x1024.Idx → EReal) (x1 x2 x3 x4 : S32768x512.Idx → EReal) (x5 : S4x128.Idx → EReal)
  (x6 : S4x1024x1024.Idx → EReal) (x7 : S4x24x9x1024.Idx → EReal) (x8 : S4x3x1024.Idx → EReal)
  (x9 x10 : S4x2x1024x2816.Idx → EReal) (x11 : S4x2x2816x1024.Idx → EReal)

/-- Position `s` of sequence `b` as a row. -/
def flat (b : Fin 16) (s : Fin 2048) : Fin 32768 := ⟨b.val * 2048 + s.val, by omega⟩
/-- Sequence `b` among the modulation's. -/
def seq24 (b : Fin 16) : Fin 24 := ⟨b.val, by omega⟩

/-- The input, as sequences. -/
theorem x_apply (b : Fin 16) (s : Fin 2048) (k : Fin 1024) :
    val_main_v0 (F := Ideal) x0 (ix3 b s k) = x0 (ix2 (flat b s) k) := by
  rw [val_main_v0_apply]
  refine congrArg x0 (funext fun a => Fin.ext ?_)
  match a with
  | ⟨0, _⟩ => show ((b.val * 2048 + s.val) * 1024 + k.val) / 1024 = b.val * 2048 + s.val; omega
  | ⟨1, _⟩ => show ((b.val * 2048 + s.val) * 1024 + k.val) % 1024 = k.val; omega

/-- The modulation's row `3 i + j` of sequence `b`, as the reference's nine rows in three threes. -/
theorem mod_apply (b : Fin 16) (i j : Fin 3) (k : Fin 1024) :
    val_main_v4 (F := Ideal) x7 (ix5 b i j 0 k) = x7 (ix4 0 (seq24 b) ⟨i.val * 3 + j.val, by omega⟩ k) := by
  have e3 : idx_main_v3 (idx_main_v4 (ix5 b i j 0 k)) = ix3 b ⟨i.val * 3 + j.val, by omega⟩ k := funext fun a => Fin.ext (by
    match a with
    | ⟨0, _⟩ => show (((b.val * 3 + i.val) * 3 + j.val) * 1024 + k.val) / 9216 = b.val; omega
    | ⟨1, _⟩ => show (((b.val * 3 + i.val) * 3 + j.val) * 1024 + k.val) / 1024 % 9 = i.val * 3 + j.val; omega
    | ⟨2, _⟩ => show (((b.val * 3 + i.val) * 3 + j.val) * 1024 + k.val) % 1024 = k.val; omega)
  rw [val_main_v4_apply, val_main_v3_apply, e3]
  generalize hp : (⟨i.val * 3 + j.val, by omega⟩ : Fin 9) = p
  rw [val_main_v2_apply, val_main_v1_apply]
  refine congrArg x7 (funext fun a => Fin.ext ?_)
  match a with
  | ⟨0, _⟩ => rfl
  | ⟨1, _⟩ => show ((b.val * 9 + p.val) * 1024 + k.val) / 9216 % 16 = b.val; omega
  | ⟨2, _⟩ => show ((b.val * 9 + p.val) * 1024 + k.val) / 1024 % 9 = p.val; omega
  | ⟨3, _⟩ => show ((b.val * 9 + p.val) * 1024 + k.val) % 1024 = k.val; omega

/-! ## The mixers -/

/-- The recurrence's output of both directions, as heads. -/
theorem lane_row (b : Fin 16) (s : Fin 2048) (u : Fin 4) (q : Fin 128) :
    idx_main_v5 (ix4 b s u q) = ix2 (flat b s) (lane u q) := funext fun a => Fin.ext (by
  have e : ((b.val * 2048 + s.val) * 4 + u.val) * 128 + q.val = (b.val * 2048 + s.val) * 512 + (u.val * 128 + q.val) := by omega
  match a with
  | ⟨0, _⟩ =>
    show (((b.val * 2048 + s.val) * 4 + u.val) * 128 + q.val) / 512 = b.val * 2048 + s.val
    rw [e]; omega
  | ⟨1, _⟩ =>
    show (((b.val * 2048 + s.val) * 4 + u.val) * 128 + q.val) % 512 = u.val * 128 + q.val
    rw [e]; omega)

theorem o_apply (b : Fin 16) (s : Fin 2048) (u : Fin 4) (q : Fin 128) :
    val_main_v7 (F := Ideal) x1 x2 (ix4 b s u q) = x1 (ix2 (flat b s) (lane u q)) + x2 (ix2 (flat b s) (lane u q)) := by
  rw [val_main_v7_apply, val_main_v5_apply, val_main_v6_apply, lane_row]
  exact congrArg (fun i => x1 (ix2 (flat b s) (lane u q)) + x2 i) (lane_row b s u q)

/-- The head's root mean square, broadcast. -/
theorem hr_apply (b : Fin 16) (s : Fin 2048) (u : Fin 4) (q : Fin 128) :
    val_main_v18 (F := Ideal) x1 x2 (ix4 b s u q)
      = Ideal.rsqrt (Ideal.div (∑ p, (x1 (ix2 (flat b s) (lane u p)) + x2 (ix2 (flat b s) (lane u p)))
          * (x1 (ix2 (flat b s) (lane u p)) + x2 (ix2 (flat b s) (lane u p)))) headWidth + eps) := by
  rw [val_main_v18_apply, val_main_v17_apply, val_main_v16_apply, val_main_v14_apply, val_main_v12_apply, val_main_v11_apply]
  show Ideal.rsqrt (Ideal.div (Ideal.ofBits .f32 0x00000000#32 + _) headWidth + eps) = _
  rw [Ideal.ofBits_zero_f32, zero_add]
  refine congrArg (fun z => Ideal.rsqrt (Ideal.div z headWidth + eps)) (Finset.sum_congr rfl fun p _ => ?_)
  show val_main_v7 (F := Ideal) x1 x2 (ix4 b s u p) * val_main_v7 (F := Ideal) x1 x2 (ix4 b s u p) = _
  rw [o_apply]

theorem hg_apply (b : Fin 16) (s : Fin 2048) (u : Fin 4) (q : Fin 128) :
    val_main_v21 (F := Ideal) x5 (ix4 b s u q) = x5 (ix2 0 q) := by
  rw [val_main_v21_apply, val_main_v20_apply, val_main_v9_apply, val_main_v8_apply]
  refine congrArg x5 (funext fun a => Fin.ext ?_)
  match a with
  | ⟨0, _⟩ => rfl
  | ⟨1, _⟩ => show q.val % 128 = q.val; omega

/-- The gate and the attention's output, as sequences. -/
theorem row512 (b : Fin 16) (s : Fin 2048) (k : Fin 512) : idx_main_v25 (ix3 b s k) = ix2 (flat b s) k := funext fun a => Fin.ext (by
  match a with
  | ⟨0, _⟩ => show ((b.val * 2048 + s.val) * 512 + k.val) / 512 = b.val * 2048 + s.val; omega
  | ⟨1, _⟩ => show ((b.val * 2048 + s.val) * 512 + k.val) % 512 = k.val; omega)

theorem sg_apply (b : Fin 16) (s : Fin 2048) (k : Fin 512) : val_main_v25 (F := Ideal) x3 (ix3 b s k) = x3 (ix2 (flat b s) k) := by
  rw [val_main_v25_apply, row512]
  rfl
theorem na_apply (b : Fin 16) (s : Fin 2048) (k : Fin 512) : val_main_v28 (F := Ideal) x4 (ix3 b s k) = x4 (ix2 (flat b s) k) := by
  rw [val_main_v28_apply]
  exact congrArg x4 (row512 b s k)

/-- The heads' rows. -/
def hrow (b : Fin 16) (s : Fin 2048) : Fin 512 → EReal :=
  heads (fun k => x1 (ix2 (flat b s) k) + x2 (ix2 (flat b s) k)) (fun k => x3 (ix2 (flat b s) k)) (fun q => x5 (ix2 0 q))

theorem heads_apply (b : Fin 16) (s : Fin 2048) (k : Fin 512) :
    val_main_v26 (F := Ideal) x1 x2 x3 x5 (ix3 b s k) = hrow x1 x2 x3 x5 b s k := by
  have e : idx_main_v23 (ix3 b s k) = ix4 b s (headOf k) (inHead k) := by
    have h := k.isLt
    have hs := s.isLt
    have e2 : (b.val * 2048 + s.val) * 512 + k.val = ((b.val * 2048 + s.val) * 4 + k.val / 128) * 128 + k.val % 128 := by omega
    have e3 : ((b.val * 2048 + s.val) * 512 + k.val) / 128 = (b.val * 2048 + s.val) * 4 + k.val / 128 := by rw [e2]; omega
    refine funext fun a => Fin.ext ?_
    match a with
    | ⟨0, _⟩ => show ((b.val * 2048 + s.val) * 512 + k.val) / 1048576 = b.val; omega
    | ⟨1, _⟩ => show ((b.val * 2048 + s.val) * 512 + k.val) / 512 % 2048 = s.val; omega
    | ⟨2, _⟩ => show ((b.val * 2048 + s.val) * 512 + k.val) / 128 % 4 = k.val / 128; rw [e3]; omega
    | ⟨3, _⟩ => show ((b.val * 2048 + s.val) * 512 + k.val) % 128 = k.val % 128; rw [e2]; omega
  rw [val_main_v26_apply, val_main_v23_apply, e, val_main_v22_apply, val_main_v19_apply, o_apply, hr_apply, hg_apply, sg_apply]
  unfold hrow heads headRow
  dsimp only
  rw [lane_headOf]
  rfl

/-- The heads' rows and the attention's, side by side. -/
theorem cat_lo (b : Fin 16) (s : Fin 2048) (k : Fin 512) :
    val_main_v29 (F := Ideal) x1 x2 x3 x4 x5 (ix3 b s (lo k)) = hrow x1 x2 x3 x5 b s k := by
  unfold val_main_v29
  rw [← heads_apply]
  generalize val_main_v26 (F := Ideal) x1 x2 x3 x5 = y
  generalize val_main_v28 (F := Ideal) x4 = z
  exact concatenate_apply_piece (t := S16x2048x1024) 2 [⟨S16x2048x512, y⟩, ⟨S16x2048x512, z⟩] _ (ix3 b s (lo k)) 0 (by simp)
    S16x2048x512 y rfl rfl 0 rfl (ix3 b s k) (fun c hc => by
      match c with
      | ⟨0, _⟩ => rfl
      | ⟨1, _⟩ => rfl
      | ⟨2, _⟩ => exact absurd rfl hc) (Nat.zero_add _)

theorem cat_hi (b : Fin 16) (s : Fin 2048) (k : Fin 512) :
    val_main_v29 (F := Ideal) x1 x2 x3 x4 x5 (ix3 b s (hi k)) = x4 (ix2 (flat b s) k) := by
  unfold val_main_v29
  rw [← na_apply x4]
  generalize val_main_v26 (F := Ideal) x1 x2 x3 x5 = y
  generalize val_main_v28 (F := Ideal) x4 = z
  exact concatenate_apply_piece (t := S16x2048x1024) 2 [⟨S16x2048x512, y⟩, ⟨S16x2048x512, z⟩] _ (ix3 b s (hi k)) 1 (by simp)
    S16x2048x512 z rfl rfl 512 rfl (ix3 b s k) (fun c hc => by
      match c with
      | ⟨0, _⟩ => rfl
      | ⟨1, _⟩ => rfl
      | ⟨2, _⟩ => exact absurd rfl hc) rfl

theorem w_apply (k j : Fin 1024) : val_main_v31 (F := Ideal) x6 (ix2 k j) = x6 (ix3 0 k j) := by
  rw [val_main_v31_apply, val_main_v30_apply]
  refine congrArg x6 (funext fun a => Fin.ext ?_)
  match a with
  | ⟨0, _⟩ => rfl
  | ⟨1, _⟩ => show (k.val * 1024 + j.val) / 1024 % 1024 = k.val; omega
  | ⟨2, _⟩ => show (k.val * 1024 + j.val) % 1024 = j.val; omega

theorem proj_apply (b : Fin 16) (s : Fin 2048) (j : Fin 1024) :
    val_main_v32 (F := Ideal) x1 x2 x3 x4 x5 x6 (ix3 b s j)
      = (∑ k, hrow x1 x2 x3 x5 b s k * x6 (ix3 0 (lo k) j)) + ∑ k, x4 (ix2 (flat b s) k) * x6 (ix3 0 (hi k) j) := by
  have e : val_main_v32 (F := Ideal) x1 x2 x3 x4 x5 x6 (ix3 b s j)
      = ∑ k : Fin 1024, val_main_v29 (F := Ideal) x1 x2 x3 x4 x5 (ix3 b s k) * x6 (ix3 0 k j) := by
    rw [val_main_v32_apply]
    refine Finset.sum_congr rfl fun k _ => ?_
    rw [← w_apply x6]
    exact congrArg₂ (· * ·) (congrArg _ (funext fun a => by match a with | ⟨0, _⟩ => rfl | ⟨1, _⟩ => rfl | ⟨2, _⟩ => rfl))
      (congrArg _ (funext fun a => by match a with | ⟨0, _⟩ => rfl | ⟨1, _⟩ => rfl))
  rw [e, sum_halves]
  exact congrArg₂ (· + ·) (Finset.sum_congr rfl fun k _ => by rw [cat_lo]) (Finset.sum_congr rfl fun k _ => by rw [cat_hi])

theorem gm_apply (b : Fin 16) (s : Fin 2048) (k : Fin 1024) :
    val_main_v35 (F := Ideal) x7 (ix3 b s k) = x7 (ix4 0 (seq24 b) 5 k) := by
  have e : idx_main_v33 (idx_main_v34 (idx_main_v35 (ix3 b s k))) = ix5 b 1 2 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => rfl
    | ⟨4, _⟩ => show ((b.val * 1 + 0) * 1024 + k.val) % 1024 = k.val; omega)
  rw [val_main_v35_apply, val_main_v34_apply, val_main_v33_apply, e, mod_apply]
  rfl

/-- The row after the mixers. -/
def mrow (b : Fin 16) (s : Fin 2048) : Fin 1024 → EReal :=
  mixRow (fun k => x0 (ix2 (flat b s) k)) (fun k => x1 (ix2 (flat b s) k) + x2 (ix2 (flat b s) k)) (fun k => x3 (ix2 (flat b s) k))
    (fun q => x5 (ix2 0 q)) (fun k => x4 (ix2 (flat b s) k)) (fun k j => x6 (ix3 0 k j)) (fun k => x7 (ix4 0 (seq24 b) 5 k))

theorem m_apply (b : Fin 16) (s : Fin 2048) (k : Fin 1024) :
    val_main_v37 (F := Ideal) x0 x1 x2 x3 x4 x5 x6 x7 (ix3 b s k) = mrow x0 x1 x2 x3 x4 x5 x6 x7 b s k := by
  rw [val_main_v37_apply, val_main_v36_apply, x_apply, gm_apply, proj_apply]
  rfl

/-! ## The feed-forward -/

/-- The norm's weight, broadcast. -/
theorem g_apply (b : Fin 16) (s : Fin 2048) (k : Fin 1024) :
    val_main_v51 (F := Ideal) x8 (ix3 b s k) = x8 (ix3 0 2 k) := by
  rw [val_main_v51_apply, val_main_v50_apply, val_main_v39_apply, val_main_v38_apply]
  refine congrArg x8 (funext fun a => Fin.ext ?_)
  match a with
  | ⟨0, _⟩ => rfl
  | ⟨1, _⟩ => rfl
  | ⟨2, _⟩ => show k.val % 1024 = k.val; omega

/-- The reciprocal root of the mean square, broadcast. -/
theorem r_apply (b : Fin 16) (s : Fin 2048) (k : Fin 1024) :
    val_main_v48 (F := Ideal) x0 x1 x2 x3 x4 x5 x6 x7 (ix3 b s k)
      = Ideal.rsqrt (Ideal.div (∑ j, mrow x0 x1 x2 x3 x4 x5 x6 x7 b s j * mrow x0 x1 x2 x3 x4 x5 x6 x7 b s j) width + eps) := by
  have e : ∀ j, val_main_v40 (F := Ideal) x0 x1 x2 x3 x4 x5 x6 x7 (ix3 b s j)
      = mrow x0 x1 x2 x3 x4 x5 x6 x7 b s j * mrow x0 x1 x2 x3 x4 x5 x6 x7 b s j := fun j => by
    rw [val_main_v40_apply, m_apply]; rfl
  rw [val_main_v48_apply, val_main_v47_apply, val_main_v46_apply, val_main_v44_apply, val_main_v42_apply, val_main_v41_apply]
  refine congrArg (fun z => Ideal.rsqrt (Ideal.div z width + eps)) ?_
  show Ideal.ofBits .f32 0x00000000#32 + _ = _
  rw [Ideal.ofBits_zero_f32, zero_add]
  refine Finset.sum_congr rfl fun j _ => Eq.trans (congrArg _ ?_) (e j)
  funext a; match a with | ⟨0, _⟩ => rfl | ⟨1, _⟩ => rfl | ⟨2, _⟩ => rfl

theorem v54_apply (b : Fin 16) (j : Fin 3) (k : Fin 1024) :
    val_main_v54 (F := Ideal) x7 (ix4 b j 0 k) = x7 (ix4 0 (seq24 b) ⟨6 + j.val, by omega⟩ k) := by
  have e : idx_main_v53 (idx_main_v54 (ix4 b j 0 k)) = ix5 b 2 j 0 k := funext fun a => Fin.ext (by
    match a with
    | ⟨0, _⟩ => show (((b.val * 3 + j.val) * 1 + 0) * 1024 + k.val) / 3072 = b.val; omega
    | ⟨1, _⟩ => rfl
    | ⟨2, _⟩ => show (((b.val * 3 + j.val) * 1 + 0) * 1024 + k.val) / 1024 % 3 = j.val; omega
    | ⟨3, _⟩ => rfl
    | ⟨4, _⟩ => show (((b.val * 3 + j.val) * 1 + 0) * 1024 + k.val) % 1024 = k.val; omega)
  rw [val_main_v54_apply, val_main_v53_apply, e, mod_apply]
  rfl

/-- The modulation's scale, shift and gate, broadcast. -/
theorem sc_apply (b : Fin 16) (s : Fin 2048) (k : Fin 1024) :
    val_main_v59 (F := Ideal) x7 (ix3 b s k) = one + x7 (ix4 0 (seq24 b) 7 k) := by
  have e : idx_main_v55 (idx_main_v56 (idx_main_v59 (ix3 b s k))) = ix4 b 1 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v59_apply, val_main_v58_apply]
  refine congrArg (one + ·) ?_
  rw [val_main_v56_apply, val_main_v55_apply, e, v54_apply]
  rfl

theorem sh_apply (b : Fin 16) (s : Fin 2048) (k : Fin 1024) :
    val_main_v63 (F := Ideal) x7 (ix3 b s k) = x7 (ix4 0 (seq24 b) 6 k) := by
  have e : idx_main_v61 (idx_main_v62 (idx_main_v63 (ix3 b s k))) = ix4 b 0 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v63_apply, val_main_v62_apply, val_main_v61_apply, e, v54_apply]
  rfl

theorem gt_apply (b : Fin 16) (s : Fin 2048) (k : Fin 1024) :
    val_main_v80 (F := Ideal) x7 (ix3 b s k) = half * x7 (ix4 0 (seq24 b) 8 k) := by
  have e : idx_main_v65 (idx_main_v66 (idx_main_v80 (ix3 b s k))) = ix5 b 2 2 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => rfl
    | ⟨4, _⟩ => show ((b.val * 1 + 0) * 1024 + k.val) % 1024 = k.val; omega)
  rw [val_main_v80_apply, val_main_v68_apply]
  refine congrArg (half * ·) ?_
  rw [val_main_v66_apply, val_main_v65_apply, e, mod_apply]
  rfl

/-- The layer's feed-forward weights. -/
theorem wg_apply (k : Fin 1024) (f : Fin 2816) : val_main_v70 (F := Ideal) x9 (ix2 k f) = x9 (ix4 0 1 k f) := by
  rw [val_main_v70_apply, val_main_v69_apply]
  refine congrArg x9 (funext fun a => Fin.ext ?_)
  match a with
  | ⟨0, _⟩ => rfl
  | ⟨1, _⟩ => rfl
  | ⟨2, _⟩ => show (k.val * 2816 + f.val) / 2816 % 1024 = k.val; omega
  | ⟨3, _⟩ => show (k.val * 2816 + f.val) % 2816 = f.val; omega

theorem wu_apply (k : Fin 1024) (f : Fin 2816) : val_main_v72 (F := Ideal) x10 (ix2 k f) = x10 (ix4 0 1 k f) := by
  rw [val_main_v72_apply, val_main_v71_apply]
  refine congrArg x10 (funext fun a => Fin.ext ?_)
  match a with
  | ⟨0, _⟩ => rfl
  | ⟨1, _⟩ => rfl
  | ⟨2, _⟩ => show (k.val * 2816 + f.val) / 2816 % 1024 = k.val; omega
  | ⟨3, _⟩ => show (k.val * 2816 + f.val) % 2816 = f.val; omega

theorem wd_apply (f : Fin 2816) (k : Fin 1024) : val_main_v74 (F := Ideal) x11 (ix2 f k) = x11 (ix4 0 1 f k) := by
  rw [val_main_v74_apply, val_main_v73_apply]
  refine congrArg x11 (funext fun a => Fin.ext ?_)
  match a with
  | ⟨0, _⟩ => rfl
  | ⟨1, _⟩ => rfl
  | ⟨2, _⟩ => show (f.val * 1024 + k.val) / 1024 % 2816 = f.val; omega
  | ⟨3, _⟩ => show (f.val * 1024 + k.val) % 1024 = k.val; omega

/-- The normed and modulated row of position `s` of sequence `b`. -/
def nrow (b : Fin 16) (s : Fin 2048) : Fin 1024 → EReal :=
  normRow (mrow x0 x1 x2 x3 x4 x5 x6 x7 b s) (fun k => x8 (ix3 0 2 k)) (fun k => x7 (ix4 0 (seq24 b) 7 k))
    (fun k => x7 (ix4 0 (seq24 b) 6 k))

theorem h_apply (b : Fin 16) (s : Fin 2048) (k : Fin 1024) :
    val_main_v64 (F := Ideal) x0 x1 x2 x3 x4 x5 x6 x7 x8 (ix3 b s k) = nrow x0 x1 x2 x3 x4 x5 x6 x7 x8 b s k := by
  rw [val_main_v64_apply, val_main_v60_apply, val_main_v52_apply, val_main_v49_apply, m_apply, r_apply, g_apply, sc_apply, sh_apply]
  rfl

theorem gate_apply (b : Fin 16) (s : Fin 2048) (f : Fin 2816) :
    val_main_v75 (F := Ideal) x0 x1 x2 x3 x4 x5 x6 x7 x8 x9 (ix3 b s f)
      = ∑ k, nrow x0 x1 x2 x3 x4 x5 x6 x7 x8 b s k * x9 (ix4 0 1 k f) := by
  rw [val_main_v75_apply]
  refine Finset.sum_congr rfl fun k _ => ?_
  rw [← h_apply, ← wg_apply x9]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem up_apply (b : Fin 16) (s : Fin 2048) (f : Fin 2816) :
    val_main_v77 (F := Ideal) x0 x1 x2 x3 x4 x5 x6 x7 x8 x10 (ix3 b s f)
      = ∑ k, nrow x0 x1 x2 x3 x4 x5 x6 x7 x8 b s k * x10 (ix4 0 1 k f) := by
  rw [val_main_v77_apply]
  refine Finset.sum_congr rfl fun k _ => ?_
  rw [← h_apply, ← wu_apply x10]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem hid_apply (b : Fin 16) (s : Fin 2048) (f : Fin 2816) :
    val_main_v78 (F := Ideal) x0 x1 x2 x3 x4 x5 x6 x7 x8 x9 x10 (ix3 b s f)
      = hid (nrow x0 x1 x2 x3 x4 x5 x6 x7 x8 b s) (fun k f => x9 (ix4 0 1 k f)) (fun k f => x10 (ix4 0 1 k f)) f := by
  rw [val_main_v78_apply, val_main_v76_apply, val_main_call0_v5_apply, val_main_call0_v3_apply, val_main_call0_v1_apply,
    val_main_call0_v0_apply, gate_apply, up_apply]
  rfl

/-- The result at row `n`. -/
theorem result_apply (n : Fin 32768) (j : Fin 1024) :
    val_main_v83 (F := Ideal) x0 x1 x2 x3 x4 x5 x6 x7 x8 x9 x10 x11 (ix2 n j)
      = ffnRow (mixRow (fun k => x0 (ix2 n k)) (fun k => x1 (ix2 n k) + x2 (ix2 n k)) (fun k => x3 (ix2 n k))
            (fun q => x5 (ix2 0 q)) (fun k => x4 (ix2 n k)) (fun k j => x6 (ix3 0 k j))
            (fun k => x7 (ix4 0 ⟨n.val / 2048, by omega⟩ 5 k)))
          (fun k => x8 (ix3 0 2 k))
          (fun k => x7 (ix4 0 ⟨n.val / 2048, by omega⟩ 7 k)) (fun k => x7 (ix4 0 ⟨n.val / 2048, by omega⟩ 6 k))
          (fun k => x7 (ix4 0 ⟨n.val / 2048, by omega⟩ 8 k))
          (fun k f => x9 (ix4 0 1 k f)) (fun k f => x10 (ix4 0 1 k f)) (fun f k => x11 (ix4 0 1 f k)) j := by
  have hb : n.val / 2048 < 16 := by omega
  have e : idx_main_v83 (ix2 n j) = ix3 ⟨n.val / 2048, hb⟩ ⟨n.val % 2048, by omega⟩ j := funext fun a => Fin.ext (by
    match a with
    | ⟨0, _⟩ => show (n.val * 1024 + j.val) / 2097152 = n.val / 2048; omega
    | ⟨1, _⟩ => show (n.val * 1024 + j.val) / 1024 % 2048 = n.val % 2048; omega
    | ⟨2, _⟩ => show (n.val * 1024 + j.val) % 1024 = j.val; omega)
  rw [val_main_v83_apply, e]
  have en : n = flat ⟨n.val / 2048, hb⟩ ⟨n.val % 2048, by omega⟩ := Fin.ext (by
    show n.val = n.val / 2048 * 2048 + n.val % 2048; omega)
  have eb : (⟨n.val / 2048, by omega⟩ : Fin 24) = seq24 ⟨n.val / 2048, hb⟩ := rfl
  rw [eb]
  generalize hbb : (⟨n.val / 2048, hb⟩ : Fin 16) = b at *
  generalize (⟨n.val % 2048, by omega⟩ : Fin 2048) = s at *
  subst en
  rw [val_main_v82_apply, val_main_v81_apply, m_apply, gt_apply, val_main_v79_apply]
  refine congrArg (fun z => mrow x0 x1 x2 x3 x4 x5 x6 x7 b s j + half * x7 (ix4 0 (seq24 b) 8 j) * z) (Finset.sum_congr rfl fun f _ => ?_)
  refine congrArg₂ (· * ·) (Eq.trans (congrArg _ ?_) (hid_apply x0 x1 x2 x3 x4 x5 x6 x7 x8 x9 x10 b s f)) (Eq.trans (congrArg _ ?_) (wd_apply x11 f j))
  · funext a; match a with | ⟨0, _⟩ => rfl | ⟨1, _⟩ => rfl | ⟨2, _⟩ => rfl
  · funext a; match a with | ⟨0, _⟩ => rfl | ⟨1, _⟩ => rfl

end Cert.Proof.MixReference

end
-- ==== Proof.MixClaim.lean ====
/-
  The mixers' join and second feed-forward half: the kernel's result array and the reference's are the same function of the arguments.
-/
module

public import proofs.«01_k».proof.Defs
public import proofs.«01_k».proof.Proof.MixKernel
public import proofs.«01_k».proof.Proof.MixReference
public import proofs.«01_k».proof.Proof.Gen.Reference3Ideal.Run
public import proofs.«01_k».proof.Proof.Gen.Kernel3Ideal.Value
public import proofs.«01_k».proof.Proof.Gen.Kernel3Ideal
public import proofs.«01_k».proof.Proof.Gen.Reference3Ideal

@[expose] public section

noncomputable section

namespace Cert.Proof

open Idealize.ShloMosaic Idealize.ShloMosaic.ValueIdx Idealize.ShloMosaic.TcCoe Idealize.SL.Sem

/-- The reference's composed term, element by element, under arguments equal to the kernel's. -/
theorem mix_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = MixKernel.a0 m c)
    (h1 : m' ((c.tc : Thread Cert.Reference3Ideal.nD Cert.Reference3Ideal.τ).loc Cert.Reference3Ideal.main_arg1) = MixKernel.a1 m c)
    (h2 : m' ((c.tc : Thread Cert.Reference3Ideal.nD Cert.Reference3Ideal.τ).loc Cert.Reference3Ideal.main_arg2) = MixKernel.a2 m c)
    (h3 : m' ((c.tc : Thread Cert.Reference3Ideal.nD Cert.Reference3Ideal.τ).loc Cert.Reference3Ideal.main_arg3) = MixKernel.a3 m c)
    (h4 : m' ((c.tc : Thread Cert.Reference3Ideal.nD Cert.Reference3Ideal.τ).loc Cert.Reference3Ideal.main_arg4) = MixKernel.a4 m c)
    (h5 : m' ((c.tc : Thread Cert.Reference3Ideal.nD Cert.Reference3Ideal.τ).loc Cert.Reference3Ideal.main_arg5) = MixKernel.a5 m c)
    (h6 : m' ((c.tc : Thread Cert.Reference3Ideal.nD Cert.Reference3Ideal.τ).loc Cert.Reference3Ideal.main_arg6) = MixKernel.a6 m c)
    (h7 : m' ((c.tc : Thread Cert.Reference3Ideal.nD Cert.Reference3Ideal.τ).loc Cert.Reference3Ideal.main_arg7) = MixKernel.a7 m c)
    (h8 : m' ((c.tc : Thread Cert.Reference3Ideal.nD Cert.Reference3Ideal.τ).loc Cert.Reference3Ideal.main_arg8) = MixKernel.a8 m c)
    (h9 : m' ((c.tc : Thread Cert.Reference3Ideal.nD Cert.Reference3Ideal.τ).loc Cert.Reference3Ideal.main_arg9) = MixKernel.a9 m c)
    (h10 : m' ((c.tc : Thread Cert.Reference3Ideal.nD Cert.Reference3Ideal.τ).loc Cert.Reference3Ideal.main_arg10) = MixKernel.a10 m c)
    (h11 : m' ((c.tc : Thread Cert.Reference3Ideal.nD Cert.Reference3Ideal.τ).loc Cert.Reference3Ideal.main_arg11) = MixKernel.a11 m c) :
    Cert.Reference3Ideal.Value.res_main_v83 m' c = MixKernel.outArr m c := by
  rw [Cert.Reference3Ideal.Read.val_main_v83_eq, h0, h1, h2, h3, h4, h5, h6, h7, h8, h9, h10, h11]
  funext i
  obtain ⟨n, j, rfl⟩ : ∃ (n : Fin 32768) (j : Fin 1024), i = ix2 n j :=
    ⟨i 0, i 1, funext fun a => by match a with | ⟨0, _⟩ => rfl | ⟨1, _⟩ => rfl⟩
  rw [MixReference.result_apply]
  rfl

/-- Over the ideal numbers the kernel's result and the reference's are one array, and both leave their arguments as
    they were. -/
theorem mix_algebraic : Cert.algebraic_Kernel3Ideal_Reference3Ideal
    (hKernel3Ideal := Cert.Kernel3Ideal.Gen.facts) (hReference3Ideal := Cert.Reference3Ideal.Gen.facts) := by
  intro m ρ m' ρ' _ hag
  refine ⟨fun c => MixKernel.outArr m c, ?_, ?_⟩
  · exact (θ_run _ _ _).mono (fun _ h c => ⟨(h c).1.trans (MixKernel.final m c), (h c).2⟩)
      (Cert.Kernel3Ideal.Value.run_blocks m ρ)
  · refine (θ_run _ _ _).mono (fun _ h c => ⟨(h c).1.trans ?_, (h c).2⟩) (Cert.Reference3Ideal.Value.run m' ρ')
    obtain ⟨h0, h1, h2, h3, h4, h5, h6, h7, h8, h9, h10, h11⟩ := hag c
    exact mix_agree m m' c h0 h1 h2 h3 h4 h5 h6 h7 h8 h9 h10 h11

end Cert.Proof

end
-- ==== Proof.SampleKernel.lean ====
/-
  The mixing call at the samples' shapes: its body is the one of Proof/MixKernel.lean, on 8 sequences of 4096 rows whose
  modulation stands after the prompts' 16. What is shown there of the body's arithmetic is used here; the staged blocks
  and the array are read anew.
-/
module

public import proofs.«01_k».proof.Proof.MixSpec
public import proofs.«01_k».proof.Proof.MixKernel
public import proofs.«01_k».proof.Proof.Gen.Kernel6Ideal.Value
public import Idealize.ShloMosaic.Lib.Pipeline.ValueKit.Tiles
public import Idealize.ShloMosaic.Lib.Claim

@[expose] public section

noncomputable section

namespace Cert.Proof.SampleKernel

open Idealize.ShloMosaic Idealize.ShloMosaic.ValueIdx Idealize.ShloMosaic.TcCoe Idealize.SL.Sem
open Cert.Kernel6Ideal Cert.Kernel6Ideal.Gen Cert.Ffn Cert.Mix
open Idealize.ShloMosaic.Pipeline (Dat Cfg Window)

/-- One head's block, at row `r` and lane `q`. -/
theorem pay2_apply (a b : Vec Ideal S512x128 .f32) (g : Vec Ideal S1x1x128 .f32) (s : Vec Ideal S512x128 .bf16)
    (r : Fin 512) (q : Fin 128) :
    k0_pay2 a b g s (ix2 r q) = headRow (fun q => a (ix2 r q) + b (ix2 r q)) (fun q => g (ix3 0 0 q)) (fun q => s (ix2 r q)) q := MixKernel.pay2_apply a b g s r q

/-- The row after the mixers, from the four heads' blocks and the attention's. -/
theorem pay8_apply (x : Vec Ideal S512x1024 .f32) (p0 p1 p2 : FVec Ideal S512x128 .bf16) (a b : Vec Ideal S512x128 .f32)
    (g : Vec Ideal S1x1x128 .f32) (s : Vec Ideal S512x128 .bf16) (wl : Vec Ideal S1x512x1024 .bf16) (na : Vec Ideal S512x512 .bf16)
    (wh : Vec Ideal S1x512x1024 .bf16) (gm : Vec Ideal S1x1x1x1024 .f32) (r : Fin 512) (j : Fin 1024) :
    k0_pay8 x p0 p1 p2 (k0_pay6 a b) (k0_pay7 a b) g s wl na wh gm (ix2 r j)
      = x (ix2 r j) + gm (ix4 0 0 0 j) * ((∑ k : Fin 512, (![p0, p1, p2, k0_pay2 a b g s] (headOf k)) (ix2 r (inHead k)) * wl (ix3 0 k j))
          + ∑ k : Fin 512, na (ix2 r k) * wh (ix3 0 k j)) := MixKernel.pay8_apply x p0 p1 p2 a b g s wl na wh gm r j

/-- The feed-forward's part of what the body stores: the same arithmetic as the first half's. -/
theorem tail_apply (v : FVec Ideal S512x1024 .f32) (sh sc gt g : Vec Ideal S1x1x1x1024 .f32)
    (wg wu : Vec Ideal S1x1x1024x2816 .bf16) (wd : Vec Ideal S1x1x2816x1024 .bf16) (r : Fin 512) (j : Fin 1024) :
    k0_pay1 v (k0_pay11 gt) (k0_pay12 v (k0_pay9 sh) (k0_pay10 sc) g wg wu) wd (ix2 r j)
      = ffnRow (fun k => v (ix2 r k)) (fun k => g (ix4 0 0 0 k)) (fun k => sc (ix4 0 0 0 k)) (fun k => sh (ix4 0 0 0 k))
          (fun k => gt (ix4 0 0 0 k)) (fun k f => wg (ix4 0 0 k f)) (fun k f => wu (ix4 0 0 k f)) (fun f j => wd (ix4 0 0 f j)) j :=
  FfnKernel.pay1_apply v sh sc gt g wg wu wd r j

/-! ## From a block to the array -/

variable (m : (ℓ : Loc nD τ sig) → Buf (Elt Ideal) ℓ)

/-- The argument arrays, as launched. -/
abbrev a0 (c : Dev nD) : S32768x1024.Idx → EReal := m ((c : Thread nD τ).loc main_arg0)
abbrev a1 (c : Dev nD) : S32768x512.Idx → EReal := m ((c : Thread nD τ).loc main_arg1)
abbrev a2 (c : Dev nD) : S32768x512.Idx → EReal := m ((c : Thread nD τ).loc main_arg2)
abbrev a3 (c : Dev nD) : S32768x512.Idx → EReal := m ((c : Thread nD τ).loc main_arg3)
abbrev a4 (c : Dev nD) : S32768x512.Idx → EReal := m ((c : Thread nD τ).loc main_arg4)
abbrev a5 (c : Dev nD) : S4x128.Idx → EReal := m ((c : Thread nD τ).loc main_arg5)
abbrev a6 (c : Dev nD) : S4x1024x1024.Idx → EReal := m ((c : Thread nD τ).loc main_arg6)
abbrev a7 (c : Dev nD) : S4x24x9x1024.Idx → EReal := m ((c : Thread nD τ).loc main_arg7)
abbrev a8 (c : Dev nD) : S4x3x1024.Idx → EReal := m ((c : Thread nD τ).loc main_arg8)
abbrev a9 (c : Dev nD) : S4x2x1024x2816.Idx → EReal := m ((c : Thread nD τ).loc main_arg9)
abbrev a10 (c : Dev nD) : S4x2x1024x2816.Idx → EReal := m ((c : Thread nD τ).loc main_arg10)
abbrev a11 (c : Dev nD) : S4x2x2816x1024.Idx → EReal := m ((c : Thread nD τ).loc main_arg11)

/-- What the region finds in the reshaped norm weights and in the narrowed weights. -/
theorem V_v0 (c : Dev nD) : V m c main_v0 = shapeCast S4x3x1x1024 (a8 m c) shapeCasts_S4x3x1024_S4x3x1x1024 := by
  entry_read; rfl
theorem V_v1 (c : Dev nD) : V m c main_v1 = a9 m c := by
  entry_read; rfl
theorem V_v2 (c : Dev nD) : V m c main_v2 = a10 m c := by
  entry_read; rfl
theorem V_v3 (c : Dev nD) : V m c main_v3 = a11 m c := by
  entry_read; rfl
theorem V_v4 (c : Dev nD) : V m c main_v4 = a6 m c := by
  entry_read; rfl
theorem V_v5 (c : Dev nD) : V m c main_v5 = shapeCast S4x1x128 (a5 m c) shapeCasts_S4x128_S4x1x128 := by
  entry_read; rfl

/-- The windows' block indices over the 64 points. -/
theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index12 (t : Fin cfg0.N) : win0_12.index t 0 = t.val ∧ win0_12.index t 1 = 0 :=
  (by decide +kernel : ∀ t : Fin grid0.N, win0_12.index t 0 = t.val ∧ win0_12.index t 1 = 0) t
theorem index7 (t : Fin cfg0.N) : win0_7.index t 0 = 0 ∧ win0_7.index t 1 = 16 + t.val / 8 ∧ win0_7.index t 2 = 0 ∧ win0_7.index t 3 = 0 :=
  (by decide +kernel : ∀ t : Fin grid0.N, win0_7.index t 0 = 0 ∧ win0_7.index t 1 = 16 + t.val / 8 ∧ win0_7.index t 2 = 0 ∧ win0_7.index t 3 = 0) t
theorem index8 (t : Fin cfg0.N) : win0_8.index t 0 = 0 ∧ win0_8.index t 1 = 2 ∧ win0_8.index t 2 = 0 ∧ win0_8.index t 3 = 0 :=
  (by decide +kernel : ∀ t : Fin grid0.N, win0_8.index t 0 = 0 ∧ win0_8.index t 1 = 2 ∧ win0_8.index t 2 = 0 ∧ win0_8.index t 3 = 0) t
theorem index5 (t : Fin cfg0.N) (a : Fin 3) : win0_5.index t a = 0 :=
  (by decide +kernel : ∀ (t : Fin grid0.N) (a : Fin 3), win0_5.index t a = 0) t a
theorem index6 (t : Fin cfg0.N) (a : Fin 3) : win0_6.index t a = 0 :=
  (by decide +kernel : ∀ (t : Fin grid0.N) (a : Fin 3), win0_6.index t a = 0) t a
theorem index9 (t : Fin cfg0.N) : win0_9.index t 0 = 0 ∧ win0_9.index t 1 = 1 ∧ win0_9.index t 2 = 0 ∧ win0_9.index t 3 = 0 :=
  (by decide +kernel : ∀ t : Fin grid0.N, win0_9.index t 0 = 0 ∧ win0_9.index t 1 = 1 ∧ win0_9.index t 2 = 0 ∧ win0_9.index t 3 = 0) t
theorem index10 (t : Fin cfg0.N) : win0_10.index t 0 = 0 ∧ win0_10.index t 1 = 1 ∧ win0_10.index t 2 = 0 ∧ win0_10.index t 3 = 0 :=
  (by decide +kernel : ∀ t : Fin grid0.N, win0_10.index t 0 = 0 ∧ win0_10.index t 1 = 1 ∧ win0_10.index t 2 = 0 ∧ win0_10.index t 3 = 0) t
theorem index11 (t : Fin cfg0.N) : win0_11.index t 0 = 0 ∧ win0_11.index t 1 = 1 ∧ win0_11.index t 2 = 0 ∧ win0_11.index t 3 = 0 :=
  (by decide +kernel : ∀ t : Fin grid0.N, win0_11.index t 0 = 0 ∧ win0_11.index t 1 = 1 ∧ win0_11.index t 2 = 0 ∧ win0_11.index t 3 = 0) t

/-- Point `t`'s row `r` in the array, and its sequence. -/
theorem lt_N (t : Fin cfg0.N) : t.val < 64 := lt_of_lt_of_eq t.isLt N_0
def row (t : Fin cfg0.N) (r : Fin 512) : Fin 32768 := ⟨t.val * 512 + r.val, by have := lt_N t; omega⟩

/-- The staged blocks, read at an index. -/
theorem iblk0_apply (c : Dev nD) (t : Fin cfg0.N) (r : Fin 512) (k : Fin 1024) :
    iblk m c 0 t (ix2 r k) = a0 m c (ix2 (row t r) k) := by
  unfold iblk
  show V m c main_arg0 ((win0_0.rect t).emb (ix2 r k)) = _
  rw [V_main_arg0]
  refine congrArg (a0 m c) (funext fun a => Fin.ext ?_)
  match a with
  | ⟨0, _⟩ =>
    show win0_0.index t 0 * 512 + 1 * r.val = t.val * 512 + r.val
    rw [(index0 t).1]; omega
  | ⟨1, _⟩ =>
    show win0_0.index t 1 * 1024 + 1 * k.val = k.val
    rw [(index0 t).2]; omega

theorem iblk1_apply (c : Dev nD) (t : Fin cfg0.N) (r : Fin 512) (k : Fin 512) :
    iblk m c 1 t (ix2 r k) = a1 m c (ix2 (row t r) k) := by
  unfold iblk
  show V m c main_arg1 ((win0_1.rect t).emb (ix2 r k)) = _
  rw [V_main_arg1]
  refine congrArg (a1 m c) (funext fun a => Fin.ext ?_)
  match a with
  | ⟨0, _⟩ =>
    show win0_1.index t 0 * 512 + 1 * r.val = t.val * 512 + r.val
    rw [(index1 t).1]; omega
  | ⟨1, _⟩ =>
    show win0_1.index t 1 * 512 + 1 * k.val = k.val
    rw [(index1 t).2]; omega

theorem iblk2_apply (c : Dev nD) (t : Fin cfg0.N) (r : Fin 512) (k : Fin 512) :
    iblk m c 2 t (ix2 r k) = a2 m c (ix2 (row t r) k) := by
  unfold iblk
  show V m c main_arg2 ((win0_2.rect t).emb (ix2 r k)) = _
  rw [V_main_arg2]
  refine congrArg (a2 m c) (funext fun a => Fin.ext ?_)
  match a with
  | ⟨0, _⟩ =>
    show win0_2.index t 0 * 512 + 1 * r.val = t.val * 512 + r.val
    rw [(index2 t).1]; omega
  | ⟨1, _⟩ =>
    show win0_2.index t 1 * 512 + 1 * k.val = k.val
    rw [(index2 t).2]; omega

theorem iblk3_apply (c : Dev nD) (t : Fin cfg0.N) (r : Fin 512) (k : Fin 512) :
    iblk m c 3 t (ix2 r k) = a3 m c (ix2 (row t r) k) := by
  unfold iblk
  show V m c main_arg3 ((win0_3.rect t).emb (ix2 r k)) = _
  rw [V_main_arg3]
  refine congrArg (a3 m c) (funext fun a => Fin.ext ?_)
  match a with
  | ⟨0, _⟩ =>
    show win0_3.index t 0 * 512 + 1 * r.val = t.val * 512 + r.val
    rw [(index3 t).1]; omega
  | ⟨1, _⟩ =>
    show win0_3.index t 1 * 512 + 1 * k.val = k.val
    rw [(index3 t).2]; omega

theorem iblk4_apply (c : Dev nD) (t : Fin cfg0.N) (r : Fin 512) (k : Fin 512) :
    iblk m c 4 t (ix2 r k) = a4 m c (ix2 (row t r) k) := by
  unfold iblk
  show V m c main_arg4 ((win0_4.rect t).emb (ix2 r k)) = _
  rw [V_main_arg4]
  refine congrArg (a4 m c) (funext fun a => Fin.ext ?_)
  match a with
  | ⟨0, _⟩ =>
    show win0_4.index t 0 * 512 + 1 * r.val = t.val * 512 + r.val
    rw [(index4 t).1]; omega
  | ⟨1, _⟩ =>
    show win0_4.index t 1 * 512 + 1 * k.val = k.val
    rw [(index4 t).2]; omega

theorem iblk5_apply (c : Dev nD) (t : Fin cfg0.N) (q : Fin 128) :
    iblk m c 5 t (ix3 0 0 q) = a5 m c (ix2 0 q) := by
  unfold iblk
  show V m c main_v5 ((win0_5.rect t).emb (ix3 0 0 q)) = _
  rw [V_v5]
  refine shapeCast_apply _ _ _ _ ?_
  rw [Shape.rowMajor_val_two, Shape.rowMajor_val_three]
  show 0 * 128 + q.val = ((win0_5.index t 0 * 1 + 1 * 0) * 1 + (win0_5.index t 1 * 1 + 1 * 0)) * 128
    + (win0_5.index t 2 * 128 + 1 * q.val)
  rw [index5, index5, index5]; omega

theorem iblk6_apply (c : Dev nD) (t : Fin cfg0.N) (k j : Fin 1024) :
    iblk m c 6 t (ix3 0 k j) = a6 m c (ix3 0 k j) := by
  unfold iblk
  show V m c main_v4 ((win0_6.rect t).emb (ix3 0 k j)) = _
  rw [V_v4]
  refine congrArg (a6 m c) (funext fun a => Fin.ext ?_)
  match a with
  | ⟨0, _⟩ => show win0_6.index t 0 * 1 + 1 * 0 = 0; rw [index6]
  | ⟨1, _⟩ => show win0_6.index t 1 * 1024 + 1 * k.val = k.val; rw [index6]; omega
  | ⟨2, _⟩ => show win0_6.index t 2 * 1024 + 1 * j.val = j.val; rw [index6]; omega

theorem iblk7_apply (c : Dev nD) (t : Fin cfg0.N) (p : Fin 9) (k : Fin 1024) :
    iblk m c 7 t (ix4 0 0 p k) = a7 m c (ix4 0 ⟨16 + t.val / 8, by have := lt_N t; omega⟩ p k) := by
  unfold iblk
  show V m c main_arg7 ((win0_7.rect t).emb (ix4 0 0 p k)) = _
  rw [V_main_arg7]
  refine congrArg (a7 m c) (funext fun a => Fin.ext ?_)
  match a with
  | ⟨0, _⟩ => show win0_7.index t 0 * 1 + 1 * 0 = 0; rw [(index7 t).1]
  | ⟨1, _⟩ => show win0_7.index t 1 * 1 + 1 * 0 = 16 + t.val / 8; rw [(index7 t).2.1]; omega
  | ⟨2, _⟩ => show win0_7.index t 2 * 9 + 1 * p.val = p.val; rw [(index7 t).2.2.1]; omega
  | ⟨3, _⟩ => show win0_7.index t 3 * 1024 + 1 * k.val = k.val; rw [(index7 t).2.2.2]; omega

theorem iblk8_apply (c : Dev nD) (t : Fin cfg0.N) (k : Fin 1024) :
    iblk m c 8 t (ix4 0 0 0 k) = a8 m c (ix3 0 2 k) := by
  unfold iblk
  show V m c main_v0 ((win0_8.rect t).emb (ix4 0 0 0 k)) = _
  rw [V_v0]
  refine shapeCast_apply _ _ _ _ ?_
  rw [Shape.rowMajor_val_three, Shape.rowMajor_val_four]
  show (0 * 3 + 2) * 1024 + k.val = (((win0_8.index t 0 * 1 + 1 * 0) * 3 + (win0_8.index t 1 * 1 + 1 * 0)) * 1
    + (win0_8.index t 2 * 1 + 1 * 0)) * 1024 + (win0_8.index t 3 * 1024 + 1 * k.val)
  rw [(index8 t).1, (index8 t).2.1, (index8 t).2.2.1, (index8 t).2.2.2]; omega

theorem iblk9_apply (c : Dev nD) (t : Fin cfg0.N) (k : Fin 1024) (f : Fin 2816) :
    iblk m c 9 t (ix4 0 0 k f) = a9 m c (ix4 0 1 k f) := by
  unfold iblk
  show V m c main_v1 ((win0_9.rect t).emb (ix4 0 0 k f)) = _
  rw [V_v1]
  refine congrArg (a9 m c) (funext fun a => Fin.ext ?_)
  match a with
  | ⟨0, _⟩ => show win0_9.index t 0 * 1 + 1 * 0 = 0; rw [(index9 t).1]
  | ⟨1, _⟩ => show win0_9.index t 1 * 1 + 1 * 0 = 1; rw [(index9 t).2.1]
  | ⟨2, _⟩ => show win0_9.index t 2 * 1024 + 1 * k.val = k.val; rw [(index9 t).2.2.1]; omega
  | ⟨3, _⟩ => show win0_9.index t 3 * 2816 + 1 * f.val = f.val; rw [(index9 t).2.2.2]; omega

theorem iblk10_apply (c : Dev nD) (t : Fin cfg0.N) (k : Fin 1024) (f : Fin 2816) :
    iblk m c 10 t (ix4 0 0 k f) = a10 m c (ix4 0 1 k f) := by
  unfold iblk
  show V m c main_v2 ((win0_10.rect t).emb (ix4 0 0 k f)) = _
  rw [V_v2]
  refine congrArg (a10 m c) (funext fun a => Fin.ext ?_)
  match a with
  | ⟨0, _⟩ => show win0_10.index t 0 * 1 + 1 * 0 = 0; rw [(index10 t).1]
  | ⟨1, _⟩ => show win0_10.index t 1 * 1 + 1 * 0 = 1; rw [(index10 t).2.1]
  | ⟨2, _⟩ => show win0_10.index t 2 * 1024 + 1 * k.val = k.val; rw [(index10 t).2.2.1]; omega
  | ⟨3, _⟩ => show win0_10.index t 3 * 2816 + 1 * f.val = f.val; rw [(index10 t).2.2.2]; omega

theorem iblk11_apply (c : Dev nD) (t : Fin cfg0.N) (f : Fin 2816) (k : Fin 1024) :
    iblk m c 11 t (ix4 0 0 f k) = a11 m c (ix4 0 1 f k) := by
  unfold iblk
  show V m c main_v3 ((win0_11.rect t).emb (ix4 0 0 f k)) = _
  rw [V_v3]
  refine congrArg (a11 m c) (funext fun a => Fin.ext ?_)
  match a with
  | ⟨0, _⟩ => show win0_11.index t 0 * 1 + 1 * 0 = 0; rw [(index11 t).1]
  | ⟨1, _⟩ => show win0_11.index t 1 * 1 + 1 * 0 = 1; rw [(index11 t).2.1]
  | ⟨2, _⟩ => show win0_11.index t 2 * 2816 + 1 * f.val = f.val; rw [(index11 t).2.2.1]; omega
  | ⟨3, _⟩ => show win0_11.index t 3 * 1024 + 1 * k.val = k.val; rw [(index11 t).2.2.2]; omega

/-- Row `n` after the mixers. -/
def mixed (c : Dev nD) (n : Fin 32768) : Fin 1024 → EReal :=
  mixRow (fun k => a0 m c (ix2 n k)) (fun k => a1 m c (ix2 n k) + a2 m c (ix2 n k)) (fun k => a3 m c (ix2 n k))
    (fun q => a5 m c (ix2 0 q)) (fun k => a4 m c (ix2 n k)) (fun k j => a6 m c (ix3 0 k j))
    (fun k => a7 m c (ix4 0 ⟨16 + n.val / 4096, by omega⟩ 5 k))

/-- The result: at row `n`, the feed-forward of the mixed row under the modulation of `n`'s sequence. -/
def out (c : Dev nD) (n : Fin 32768) (j : Fin 1024) : EReal :=
  ffnRow (mixed m c n) (fun k => a8 m c (ix3 0 2 k))
    (fun k => a7 m c (ix4 0 ⟨16 + n.val / 4096, by omega⟩ 7 k)) (fun k => a7 m c (ix4 0 ⟨16 + n.val / 4096, by omega⟩ 6 k))
    (fun k => a7 m c (ix4 0 ⟨16 + n.val / 4096, by omega⟩ 8 k))
    (fun k f => a9 m c (ix4 0 1 k f)) (fun k f => a10 m c (ix4 0 1 k f)) (fun f k => a11 m c (ix4 0 1 f k)) j
def outArr (c : Dev nD) : Buf (Elt Ideal) ((c : Thread nD τ).loc main_v6) := fun i => out m c (i 0) (i 1)

/-- One head's block computed from the staged blocks. -/
theorem head_apply (c : Dev nD) (t : Fin cfg0.N) (u : Fin 4) (p : Nat) (hp : p = u.val * 128) (inb) (r : Fin 512) (q : Fin 128) :
    k0_pay2 (View.ld (iblk m c 1 t) (Rect.unit (s := S512x512) ![0, p] S512x128.size inb))
        (View.ld (iblk m c 2 t) (Rect.unit (s := S512x512) ![0, p] S512x128.size inb)) (iblk m c 5 t)
        (View.ld (iblk m c 3 t) (Rect.unit (s := S512x512) ![0, p] S512x128.size inb)) (ix2 r q)
      = headRow (fun q => a1 m c (ix2 (row t r) (lane u q)) + a2 m c (ix2 (row t r) (lane u q))) (fun q => a5 m c (ix2 0 q))
          (fun q => a3 m c (ix2 (row t r) (lane u q))) q := by
  refine (pay2_apply _ _ _ _ r q).trans (headRow_congr (fun q => ?_) (fun q => ?_) (fun q => ?_) q)
  · exact congrArg₂ (· + ·) ((MixKernel.ldhead u p hp inb _ r q).trans (iblk1_apply m c t r _)) ((MixKernel.ldhead u p hp inb _ r q).trans (iblk2_apply m c t r _))
  · exact iblk5_apply m c t q
  · exact (MixKernel.ldhead u p hp inb _ r q).trans (iblk3_apply m c t r _)

/-- The row after the mixers, from the staged blocks. -/
theorem pay13_apply (c : Dev nD) (t : Fin cfg0.N) (r : Fin 512) (j : Fin 1024) :
    k0_pay13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = mixed m c (row t r) j := by
  unfold k0_pay13
  rw [View.ld_unit_zero FfnKernel.hz2, View.ld_unit_zero MixKernel.hz3, View.ld_unit_zero FfnKernel.hz2, pay8_apply]
  unfold mixed mixRow
  have e : (row t r).val / 4096 = t.val / 8 := by show (t.val * 512 + r.val) / 4096 = _; omega
  simp only [e]
  refine congrArg₂ (· + ·) (iblk0_apply m c t r j) (congrArg₂ (· * ·) ?_ (congrArg₂ (· + ·) ?_ ?_))
  · exact (MixKernel.ldmod 5 (by decide) _ _ j).trans (iblk7_apply m c t 5 j)
  · refine Finset.sum_congr rfl fun k _ => congrArg₂ (· * ·) ?_ ?_
    · unfold heads
      generalize headOf k = u
      match u with
      | ⟨0, h⟩ => exact head_apply m c t ⟨0, h⟩ 0 rfl _ r (inHead k)
      | ⟨1, h⟩ => exact head_apply m c t ⟨1, h⟩ 128 rfl _ r (inHead k)
      | ⟨2, h⟩ => exact head_apply m c t ⟨2, h⟩ 256 rfl _ r (inHead k)
      | ⟨3, h⟩ => exact head_apply m c t ⟨3, h⟩ 384 rfl _ r (inHead k)
    · refine (MixKernel.ldproj 0 (by decide) _ _ k j).trans ((iblk6_apply m c t _ j).trans ?_)
      exact congrArg (fun k => a6 m c (ix3 0 k j)) (Fin.ext (Nat.zero_add _))
  · refine Finset.sum_congr rfl fun k _ => congrArg₂ (· * ·) (iblk4_apply m c t r k) ?_
    exact (MixKernel.ldproj 512 (by decide) _ _ k j).trans (iblk6_apply m c t _ j)

/-- What point `t` writes back, at row `r` and column `j` of its block. -/
theorem body_apply (c : Dev nD) (t : Fin cfg0.N) (r : Fin 512) (j : Fin 1024) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = out m c (row t r) j := by
  unfold out0_12
  rw [View.canon_unit_zero FfnKernel.hz2, View.ld_unit_zero FfnKernel.hz4, View.ld_unit_zero FfnKernel.hz4,
    View.ld_unit_zero FfnKernel.hz4, View.ld_unit_zero FfnKernel.hz4, tail_apply]
  simp only [pay13_apply, iblk8_apply, iblk9_apply, iblk10_apply, iblk11_apply]
  unfold out
  have e : (row t r).val / 4096 = t.val / 8 := by show (t.val * 512 + r.val) / 4096 = _; omega
  simp only [e]
  congr 1
  · exact funext fun k => (MixKernel.ldmod 7 (by decide) _ _ k).trans (iblk7_apply m c t 7 k)
  · exact funext fun k => (MixKernel.ldmod 6 (by decide) _ _ k).trans (iblk7_apply m c t 6 k)
  · exact funext fun k => (MixKernel.ldmod 8 (by decide) _ _ k).trans (iblk7_apply m c t 8 k)

theorem flushed_eq (c : Dev nD) (t : Fin cfg0.N) :
    (dats m 0 c).flushed 12 t = (win0_12.blk t).view.read (Elt Ideal) (outArr m c) := by
  rw [Value.flushed12]
  funext i
  obtain ⟨r, j, rfl⟩ : ∃ (r : Fin 512) (j : Fin 1024), i = ix2 r j := ⟨i 0, i 1, funext fun a => by match a with | ⟨0, _⟩ => rfl | ⟨1, _⟩ => rfl⟩
  refine (body_apply m c t r j).trans ?_
  show _ = outArr m c ((win0_12.rect t).emb (ix2 r j))
  unfold outArr
  refine congrArg₂ (out m c) (Fin.ext ?_) (Fin.ext ?_)
  · show t.val * 512 + r.val = win0_12.index t 0 * 512 + 1 * r.val
    rw [(index12 t).1]; omega
  · show j.val = win0_12.index t 1 * 1024 + 1 * j.val
    rw [(index12 t).2]; omega

/-- Point `t`'s block is the rows `512 t` to `512 t + 511`. -/
theorem mem_blk (t : Fin cfg0.N) (i : S32768x1024.Idx) :
    i ∈ ((cfg0.win 12).blk t).view.set ↔ t.val * 512 ≤ (i 0 : Nat) ∧ (i 0 : Nat) < t.val * 512 + 512 := by
  show i ∈ ((View.whole main_v6).slice (win0_12.rect t)).set ↔ _
  rw [View.set_slice_whole, Rect.mem_set_unit]
  have h1 : (i 1 : Nat) < 1024 := (i 1).isLt
  refine ⟨fun h => ?_, fun h a => ?_⟩
  · have h2 : win0_12.index t 0 * 512 ≤ (i 0 : Nat) ∧ (i 0 : Nat) < win0_12.index t 0 * 512 + 512 := h 0
    rw [(index12 t).1] at h2; exact h2
  · match a with
    | ⟨0, _⟩ =>
      show win0_12.index t 0 * 512 ≤ (i 0 : Nat) ∧ (i 0 : Nat) < win0_12.index t 0 * 512 + 512
      rw [(index12 t).1]; exact h
    | ⟨1, _⟩ =>
      show win0_12.index t 1 * 1024 ≤ (i 1 : Nat) ∧ (i 1 : Nat) < win0_12.index t 1 * 1024 + 1024
      rw [(index12 t).2, Nat.zero_mul, Nat.zero_add]; exact ⟨Nat.zero_le _, h1⟩

/-- The blocks tile the array. -/
theorem cover (i : S32768x1024.Idx) : ∃ t : Fin cfg0.N, (cfg0.win 12).flush t = true ∧ i ∈ ((cfg0.win 12).blk t).view.set := by
  have h0 : (i 0 : Nat) < 32768 := (i 0).isLt
  have hN : cfg0.N = 64 := N_0
  have ht : (i 0 : Nat) / 512 < cfg0.N := by omega
  refine ⟨⟨(i 0 : Nat) / 512, ht⟩, flush0_12 _, ?_⟩
  rw [mem_blk]; dsimp only; omega

/-- The result array after the run. -/
theorem final (c : Dev nD) : (dats m 0 c).arrAt 12 cfg0.N = outArr m c :=
  (dats m 0 c).arrAt_eq_of_cover 12 (outArr m c) (fun t _ => flushed_eq m c t) cover

end Cert.Proof.SampleKernel

end
-- ==== Proof.SampleReference.lean ====
/-
  The reference of the mixing call at the samples' shapes, read at one element: its result at row `n` and column `j` is
  the row functions of Proof/MixSpec.lean and Proof/FfnSpec.lean of row `n` of the arguments, under the modulation of
  the sample `n / 4096`, which stands after the 16 prompts'.
-/
module

public import proofs.«01_k».proof.Proof.MixReference
public import proofs.«01_k».proof.Proof.Gen.Reference6Ideal.Read

@[expose] public section

noncomputable section

namespace Cert.Proof.SampleReference

open Idealize.ShloMosaic Idealize.ShloMosaic.ValueIdx Idealize.ShloMosaic.TcCoe Idealize.SL.Sem
open Cert.Reference6Ideal Cert.Reference6Ideal.Read Cert.Ffn Cert.Mix

variable (x0 : S32768x1024.Idx → EReal) (x1 x2 x3 x4 : S32768x512.Idx → EReal) (x5 : S4x128.Idx → EReal)
  (x6 : S4x1024x1024.Idx → EReal) (x7 : S4x24x9x1024.Idx → EReal) (x8 : S4x3x1024.Idx → EReal)
  (x9 x10 : S4x2x1024x2816.Idx → EReal) (x11 : S4x2x2816x1024.Idx → EReal)

/-- Position `s` of sequence `b` as a row. -/
def flat (b : Fin 8) (s : Fin 4096) : Fin 32768 := ⟨b.val * 4096 + s.val, by omega⟩
/-- Sequence `b` among the modulation's. -/
def seq24 (b : Fin 8) : Fin 24 := ⟨16 + b.val, by omega⟩

/-- The input, as sequences. -/
theorem x_apply (b : Fin 8) (s : Fin 4096) (k : Fin 1024) :
    val_main_v0 (F := Ideal) x0 (ix3 b s k) = x0 (ix2 (flat b s) k) := by
  rw [val_main_v0_apply]
  refine congrArg x0 (funext fun a => Fin.ext ?_)
  match a with
  | ⟨0, _⟩ => show ((b.val * 4096 + s.val) * 1024 + k.val) / 1024 = b.val * 4096 + s.val; omega
  | ⟨1, _⟩ => show ((b.val * 4096 + s.val) * 1024 + k.val) % 1024 = k.val; omega

/-- The modulation's row `3 i + j` of sequence `b`, as the reference's nine rows in three threes. -/
theorem mod_apply (b : Fin 8) (i j : Fin 3) (k : Fin 1024) :
    val_main_v4 (F := Ideal) x7 (ix5 b i j 0 k) = x7 (ix4 0 (seq24 b) ⟨i.val * 3 + j.val, by omega⟩ k) := by
  have e3 : idx_main_v3 (idx_main_v4 (ix5 b i j 0 k)) = ix3 b ⟨i.val * 3 + j.val, by omega⟩ k := funext fun a => Fin.ext (by
    match a with
    | ⟨0, _⟩ => show (((b.val * 3 + i.val) * 3 + j.val) * 1024 + k.val) / 9216 = b.val; omega
    | ⟨1, _⟩ => show (((b.val * 3 + i.val) * 3 + j.val) * 1024 + k.val) / 1024 % 9 = i.val * 3 + j.val; omega
    | ⟨2, _⟩ => show (((b.val * 3 + i.val) * 3 + j.val) * 1024 + k.val) % 1024 = k.val; omega)
  rw [val_main_v4_apply, val_main_v3_apply, e3]
  generalize hp : (⟨i.val * 3 + j.val, by omega⟩ : Fin 9) = p
  rw [val_main_v2_apply, val_main_v1_apply]
  refine congrArg x7 (funext fun a => Fin.ext ?_)
  match a with
  | ⟨0, _⟩ => rfl
  | ⟨1, _⟩ => show 16 + ((b.val * 9 + p.val) * 1024 + k.val) / 9216 % 8 = 16 + b.val; omega
  | ⟨2, _⟩ => show ((b.val * 9 + p.val) * 1024 + k.val) / 1024 % 9 = p.val; omega
  | ⟨3, _⟩ => show ((b.val * 9 + p.val) * 1024 + k.val) % 1024 = k.val; omega

/-! ## The mixers -/

/-- The recurrence's output of both directions, as heads. -/
theorem lane_row (b : Fin 8) (s : Fin 4096) (u : Fin 4) (q : Fin 128) :
    idx_main_v5 (ix4 b s u q) = ix2 (flat b s) (lane u q) := funext fun a => Fin.ext (by
  have e : ((b.val * 4096 + s.val) * 4 + u.val) * 128 + q.val = (b.val * 4096 + s.val) * 512 + (u.val * 128 + q.val) := by omega
  match a with
  | ⟨0, _⟩ =>
    show (((b.val * 4096 + s.val) * 4 + u.val) * 128 + q.val) / 512 = b.val * 4096 + s.val
    rw [e]; omega
  | ⟨1, _⟩ =>
    show (((b.val * 4096 + s.val) * 4 + u.val) * 128 + q.val) % 512 = u.val * 128 + q.val
    rw [e]; omega)

theorem o_apply (b : Fin 8) (s : Fin 4096) (u : Fin 4) (q : Fin 128) :
    val_main_v7 (F := Ideal) x1 x2 (ix4 b s u q) = x1 (ix2 (flat b s) (lane u q)) + x2 (ix2 (flat b s) (lane u q)) := by
  rw [val_main_v7_apply, val_main_v5_apply, val_main_v6_apply, lane_row]
  exact congrArg (fun i => x1 (ix2 (flat b s) (lane u q)) + x2 i) (lane_row b s u q)

/-- The head's root mean square, broadcast. -/
theorem hr_apply (b : Fin 8) (s : Fin 4096) (u : Fin 4) (q : Fin 128) :
    val_main_v18 (F := Ideal) x1 x2 (ix4 b s u q)
      = Ideal.rsqrt (Ideal.div (∑ p, (x1 (ix2 (flat b s) (lane u p)) + x2 (ix2 (flat b s) (lane u p)))
          * (x1 (ix2 (flat b s) (lane u p)) + x2 (ix2 (flat b s) (lane u p)))) headWidth + eps) := by
  rw [val_main_v18_apply, val_main_v17_apply, val_main_v16_apply, val_main_v14_apply, val_main_v12_apply, val_main_v11_apply]
  show Ideal.rsqrt (Ideal.div (Ideal.ofBits .f32 0x00000000#32 + _) headWidth + eps) = _
  rw [Ideal.ofBits_zero_f32, zero_add]
  refine congrArg (fun z => Ideal.rsqrt (Ideal.div z headWidth + eps)) (Finset.sum_congr rfl fun p _ => ?_)
  show val_main_v7 (F := Ideal) x1 x2 (ix4 b s u p) * val_main_v7 (F := Ideal) x1 x2 (ix4 b s u p) = _
  rw [o_apply]

theorem hg_apply (b : Fin 8) (s : Fin 4096) (u : Fin 4) (q : Fin 128) :
    val_main_v21 (F := Ideal) x5 (ix4 b s u q) = x5 (ix2 0 q) := by
  rw [val_main_v21_apply, val_main_v20_apply, val_main_v9_apply, val_main_v8_apply]
  refine congrArg x5 (funext fun a => Fin.ext ?_)
  match a with
  | ⟨0, _⟩ => rfl
  | ⟨1, _⟩ => show q.val % 128 = q.val; omega

/-- The gate and the attention's output, as sequences. -/
theorem row512 (b : Fin 8) (s : Fin 4096) (k : Fin 512) : idx_main_v25 (ix3 b s k) = ix2 (flat b s) k := funext fun a => Fin.ext (by
  match a with
  | ⟨0, _⟩ => show ((b.val * 4096 + s.val) * 512 + k.val) / 512 = b.val * 4096 + s.val; omega
  | ⟨1, _⟩ => show ((b.val * 4096 + s.val) * 512 + k.val) % 512 = k.val; omega)

theorem sg_apply (b : Fin 8) (s : Fin 4096) (k : Fin 512) : val_main_v25 (F := Ideal) x3 (ix3 b s k) = x3 (ix2 (flat b s) k) := by
  rw [val_main_v25_apply, row512]
  rfl
theorem na_apply (b : Fin 8) (s : Fin 4096) (k : Fin 512) : val_main_v28 (F := Ideal) x4 (ix3 b s k) = x4 (ix2 (flat b s) k) := by
  rw [val_main_v28_apply]
  exact congrArg x4 (row512 b s k)

/-- The heads' rows. -/
def hrow (b : Fin 8) (s : Fin 4096) : Fin 512 → EReal :=
  heads (fun k => x1 (ix2 (flat b s) k) + x2 (ix2 (flat b s) k)) (fun k => x3 (ix2 (flat b s) k)) (fun q => x5 (ix2 0 q))

theorem heads_apply (b : Fin 8) (s : Fin 4096) (k : Fin 512) :
    val_main_v26 (F := Ideal) x1 x2 x3 x5 (ix3 b s k) = hrow x1 x2 x3 x5 b s k := by
  have e : idx_main_v23 (ix3 b s k) = ix4 b s (headOf k) (inHead k) := by
    have h := k.isLt
    have hs := s.isLt
    have e2 : (b.val * 4096 + s.val) * 512 + k.val = ((b.val * 4096 + s.val) * 4 + k.val / 128) * 128 + k.val % 128 := by omega
    have e3 : ((b.val * 4096 + s.val) * 512 + k.val) / 128 = (b.val * 4096 + s.val) * 4 + k.val / 128 := by rw [e2]; omega
    refine funext fun a => Fin.ext ?_
    match a with
    | ⟨0, _⟩ => show ((b.val * 4096 + s.val) * 512 + k.val) / 2097152 = b.val; omega
    | ⟨1, _⟩ => show ((b.val * 4096 + s.val) * 512 + k.val) / 512 % 4096 = s.val; omega
    | ⟨2, _⟩ => show ((b.val * 4096 + s.val) * 512 + k.val) / 128 % 4 = k.val / 128; rw [e3]; omega
    | ⟨3, _⟩ => show ((b.val * 4096 + s.val) * 512 + k.val) % 128 = k.val % 128; rw [e2]; omega
  rw [val_main_v26_apply, val_main_v23_apply, e, val_main_v22_apply, val_main_v19_apply, o_apply, hr_apply, hg_apply, sg_apply]
  unfold hrow heads headRow
  dsimp only
  rw [lane_headOf]
  rfl

/-- The heads' rows and the attention's, side by side. -/
theorem cat_lo (b : Fin 8) (s : Fin 4096) (k : Fin 512) :
    val_main_v29 (F := Ideal) x1 x2 x3 x4 x5 (ix3 b s (lo k)) = hrow x1 x2 x3 x5 b s k := by
  unfold val_main_v29
  rw [← heads_apply]
  generalize val_main_v26 (F := Ideal) x1 x2 x3 x5 = y
  generalize val_main_v28 (F := Ideal) x4 = z
  exact concatenate_apply_piece (t := S8x4096x1024) 2 [⟨S8x4096x512, y⟩, ⟨S8x4096x512, z⟩] _ (ix3 b s (lo k)) 0 (by simp)
    S8x4096x512 y rfl rfl 0 rfl (ix3 b s k) (fun c hc => by
      match c with
      | ⟨0, _⟩ => rfl
      | ⟨1, _⟩ => rfl
      | ⟨2, _⟩ => exact absurd rfl hc) (Nat.zero_add _)

theorem cat_hi (b : Fin 8) (s : Fin 4096) (k : Fin 512) :
    val_main_v29 (F := Ideal) x1 x2 x3 x4 x5 (ix3 b s (hi k)) = x4 (ix2 (flat b s) k) := by
  unfold val_main_v29
  rw [← na_apply x4]
  generalize val_main_v26 (F := Ideal) x1 x2 x3 x5 = y
  generalize val_main_v28 (F := Ideal) x4 = z
  exact concatenate_apply_piece (t := S8x4096x1024) 2 [⟨S8x4096x512, y⟩, ⟨S8x4096x512, z⟩] _ (ix3 b s (hi k)) 1 (by simp)
    S8x4096x512 z rfl rfl 512 rfl (ix3 b s k) (fun c hc => by
      match c with
      | ⟨0, _⟩ => rfl
      | ⟨1, _⟩ => rfl
      | ⟨2, _⟩ => exact absurd rfl hc) rfl

theorem w_apply (k j : Fin 1024) : val_main_v31 (F := Ideal) x6 (ix2 k j) = x6 (ix3 0 k j) :=
  MixReference.w_apply x6 k j

theorem proj_apply (b : Fin 8) (s : Fin 4096) (j : Fin 1024) :
    val_main_v32 (F := Ideal) x1 x2 x3 x4 x5 x6 (ix3 b s j)
      = (∑ k, hrow x1 x2 x3 x5 b s k * x6 (ix3 0 (lo k) j)) + ∑ k, x4 (ix2 (flat b s) k) * x6 (ix3 0 (hi k) j) := by
  have e : val_main_v32 (F := Ideal) x1 x2 x3 x4 x5 x6 (ix3 b s j)
      = ∑ k : Fin 1024, val_main_v29 (F := Ideal) x1 x2 x3 x4 x5 (ix3 b s k) * x6 (ix3 0 k j) := by
    rw [val_main_v32_apply]
    refine Finset.sum_congr rfl fun k _ => ?_
    rw [← w_apply x6]
    exact congrArg₂ (· * ·) (congrArg _ (funext fun a => by match a with | ⟨0, _⟩ => rfl | ⟨1, _⟩ => rfl | ⟨2, _⟩ => rfl))
      (congrArg _ (funext fun a => by match a with | ⟨0, _⟩ => rfl | ⟨1, _⟩ => rfl))
  rw [e, sum_halves]
  exact congrArg₂ (· + ·) (Finset.sum_congr rfl fun k _ => by rw [cat_lo]) (Finset.sum_congr rfl fun k _ => by rw [cat_hi])

theorem gm_apply (b : Fin 8) (s : Fin 4096) (k : Fin 1024) :
    val_main_v35 (F := Ideal) x7 (ix3 b s k) = x7 (ix4 0 (seq24 b) 5 k) := by
  have e : idx_main_v33 (idx_main_v34 (idx_main_v35 (ix3 b s k))) = ix5 b 1 2 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => rfl
    | ⟨4, _⟩ => show ((b.val * 1 + 0) * 1024 + k.val) % 1024 = k.val; omega)
  rw [val_main_v35_apply, val_main_v34_apply, val_main_v33_apply, e, mod_apply]
  rfl

/-- The row after the mixers. -/
def mrow (b : Fin 8) (s : Fin 4096) : Fin 1024 → EReal :=
  mixRow (fun k => x0 (ix2 (flat b s) k)) (fun k => x1 (ix2 (flat b s) k) + x2 (ix2 (flat b s) k)) (fun k => x3 (ix2 (flat b s) k))
    (fun q => x5 (ix2 0 q)) (fun k => x4 (ix2 (flat b s) k)) (fun k j => x6 (ix3 0 k j)) (fun k => x7 (ix4 0 (seq24 b) 5 k))

theorem m_apply (b : Fin 8) (s : Fin 4096) (k : Fin 1024) :
    val_main_v37 (F := Ideal) x0 x1 x2 x3 x4 x5 x6 x7 (ix3 b s k) = mrow x0 x1 x2 x3 x4 x5 x6 x7 b s k := by
  rw [val_main_v37_apply, val_main_v36_apply, x_apply, gm_apply, proj_apply]
  rfl

/-! ## The feed-forward -/

/-- The norm's weight, broadcast. -/
theorem g_apply (b : Fin 8) (s : Fin 4096) (k : Fin 1024) :
    val_main_v51 (F := Ideal) x8 (ix3 b s k) = x8 (ix3 0 2 k) := by
  rw [val_main_v51_apply, val_main_v50_apply, val_main_v39_apply, val_main_v38_apply]
  refine congrArg x8 (funext fun a => Fin.ext ?_)
  match a with
  | ⟨0, _⟩ => rfl
  | ⟨1, _⟩ => rfl
  | ⟨2, _⟩ => show k.val % 1024 = k.val; omega

/-- The reciprocal root of the mean square, broadcast. -/
theorem r_apply (b : Fin 8) (s : Fin 4096) (k : Fin 1024) :
    val_main_v48 (F := Ideal) x0 x1 x2 x3 x4 x5 x6 x7 (ix3 b s k)
      = Ideal.rsqrt (Ideal.div (∑ j, mrow x0 x1 x2 x3 x4 x5 x6 x7 b s j * mrow x0 x1 x2 x3 x4 x5 x6 x7 b s j) width + eps) := by
  have e : ∀ j, val_main_v40 (F := Ideal) x0 x1 x2 x3 x4 x5 x6 x7 (ix3 b s j)
      = mrow x0 x1 x2 x3 x4 x5 x6 x7 b s j * mrow x0 x1 x2 x3 x4 x5 x6 x7 b s j := fun j => by
    rw [val_main_v40_apply, m_apply]; rfl
  rw [val_main_v48_apply, val_main_v47_apply, val_main_v46_apply, val_main_v44_apply, val_main_v42_apply, val_main_v41_apply]
  refine congrArg (fun z => Ideal.rsqrt (Ideal.div z width + eps)) ?_
  show Ideal.ofBits .f32 0x00000000#32 + _ = _
  rw [Ideal.ofBits_zero_f32, zero_add]
  refine Finset.sum_congr rfl fun j _ => Eq.trans (congrArg _ ?_) (e j)
  funext a; match a with | ⟨0, _⟩ => rfl | ⟨1, _⟩ => rfl | ⟨2, _⟩ => rfl

theorem v54_apply (b : Fin 8) (j : Fin 3) (k : Fin 1024) :
    val_main_v54 (F := Ideal) x7 (ix4 b j 0 k) = x7 (ix4 0 (seq24 b) ⟨6 + j.val, by omega⟩ k) := by
  have e : idx_main_v53 (idx_main_v54 (ix4 b j 0 k)) = ix5 b 2 j 0 k := funext fun a => Fin.ext (by
    match a with
    | ⟨0, _⟩ => show (((b.val * 3 + j.val) * 1 + 0) * 1024 + k.val) / 3072 = b.val; omega
    | ⟨1, _⟩ => rfl
    | ⟨2, _⟩ => show (((b.val * 3 + j.val) * 1 + 0) * 1024 + k.val) / 1024 % 3 = j.val; omega
    | ⟨3, _⟩ => rfl
    | ⟨4, _⟩ => show (((b.val * 3 + j.val) * 1 + 0) * 1024 + k.val) % 1024 = k.val; omega)
  rw [val_main_v54_apply, val_main_v53_apply, e, mod_apply]
  rfl

/-- The modulation's scale, shift and gate, broadcast. -/
theorem sc_apply (b : Fin 8) (s : Fin 4096) (k : Fin 1024) :
    val_main_v59 (F := Ideal) x7 (ix3 b s k) = one + x7 (ix4 0 (seq24 b) 7 k) := by
  have e : idx_main_v55 (idx_main_v56 (idx_main_v59 (ix3 b s k))) = ix4 b 1 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v59_apply, val_main_v58_apply]
  refine congrArg (one + ·) ?_
  rw [val_main_v56_apply, val_main_v55_apply, e, v54_apply]
  rfl

theorem sh_apply (b : Fin 8) (s : Fin 4096) (k : Fin 1024) :
    val_main_v63 (F := Ideal) x7 (ix3 b s k) = x7 (ix4 0 (seq24 b) 6 k) := by
  have e : idx_main_v61 (idx_main_v62 (idx_main_v63 (ix3 b s k))) = ix4 b 0 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v63_apply, val_main_v62_apply, val_main_v61_apply, e, v54_apply]
  rfl

theorem gt_apply (b : Fin 8) (s : Fin 4096) (k : Fin 1024) :
    val_main_v80 (F := Ideal) x7 (ix3 b s k) = half * x7 (ix4 0 (seq24 b) 8 k) := by
  have e : idx_main_v65 (idx_main_v66 (idx_main_v80 (ix3 b s k))) = ix5 b 2 2 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => rfl
    | ⟨4, _⟩ => show ((b.val * 1 + 0) * 1024 + k.val) % 1024 = k.val; omega)
  rw [val_main_v80_apply, val_main_v68_apply]
  refine congrArg (half * ·) ?_
  rw [val_main_v66_apply, val_main_v65_apply, e, mod_apply]
  rfl

/-- The layer's feed-forward weights. -/
theorem wg_apply (k : Fin 1024) (f : Fin 2816) : val_main_v70 (F := Ideal) x9 (ix2 k f) = x9 (ix4 0 1 k f) :=
  MixReference.wg_apply x9 k f

theorem wu_apply (k : Fin 1024) (f : Fin 2816) : val_main_v72 (F := Ideal) x10 (ix2 k f) = x10 (ix4 0 1 k f) :=
  MixReference.wu_apply x10 k f

theorem wd_apply (f : Fin 2816) (k : Fin 1024) : val_main_v74 (F := Ideal) x11 (ix2 f k) = x11 (ix4 0 1 f k) :=
  MixReference.wd_apply x11 f k

/-- The normed and modulated row of position `s` of sequence `b`. -/
def nrow (b : Fin 8) (s : Fin 4096) : Fin 1024 → EReal :=
  normRow (mrow x0 x1 x2 x3 x4 x5 x6 x7 b s) (fun k => x8 (ix3 0 2 k)) (fun k => x7 (ix4 0 (seq24 b) 7 k))
    (fun k => x7 (ix4 0 (seq24 b) 6 k))

theorem h_apply (b : Fin 8) (s : Fin 4096) (k : Fin 1024) :
    val_main_v64 (F := Ideal) x0 x1 x2 x3 x4 x5 x6 x7 x8 (ix3 b s k) = nrow x0 x1 x2 x3 x4 x5 x6 x7 x8 b s k := by
  rw [val_main_v64_apply, val_main_v60_apply, val_main_v52_apply, val_main_v49_apply, m_apply, r_apply, g_apply, sc_apply, sh_apply]
  rfl

theorem gate_apply (b : Fin 8) (s : Fin 4096) (f : Fin 2816) :
    val_main_v75 (F := Ideal) x0 x1 x2 x3 x4 x5 x6 x7 x8 x9 (ix3 b s f)
      = ∑ k, nrow x0 x1 x2 x3 x4 x5 x6 x7 x8 b s k * x9 (ix4 0 1 k f) := by
  rw [val_main_v75_apply]
  refine Finset.sum_congr rfl fun k _ => ?_
  rw [← h_apply, ← wg_apply x9]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem up_apply (b : Fin 8) (s : Fin 4096) (f : Fin 2816) :
    val_main_v77 (F := Ideal) x0 x1 x2 x3 x4 x5 x6 x7 x8 x10 (ix3 b s f)
      = ∑ k, nrow x0 x1 x2 x3 x4 x5 x6 x7 x8 b s k * x10 (ix4 0 1 k f) := by
  rw [val_main_v77_apply]
  refine Finset.sum_congr rfl fun k _ => ?_
  rw [← h_apply, ← wu_apply x10]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

theorem hid_apply (b : Fin 8) (s : Fin 4096) (f : Fin 2816) :
    val_main_v78 (F := Ideal) x0 x1 x2 x3 x4 x5 x6 x7 x8 x9 x10 (ix3 b s f)
      = hid (nrow x0 x1 x2 x3 x4 x5 x6 x7 x8 b s) (fun k f => x9 (ix4 0 1 k f)) (fun k f => x10 (ix4 0 1 k f)) f := by
  rw [val_main_v78_apply, val_main_v76_apply, val_main_call0_v5_apply, val_main_call0_v3_apply, val_main_call0_v1_apply,
    val_main_call0_v0_apply, gate_apply, up_apply]
  rfl

/-- The result at row `n`. -/
theorem result_apply (n : Fin 32768) (j : Fin 1024) :
    val_main_v83 (F := Ideal) x0 x1 x2 x3 x4 x5 x6 x7 x8 x9 x10 x11 (ix2 n j)
      = ffnRow (mixRow (fun k => x0 (ix2 n k)) (fun k => x1 (ix2 n k) + x2 (ix2 n k)) (fun k => x3 (ix2 n k))
            (fun q => x5 (ix2 0 q)) (fun k => x4 (ix2 n k)) (fun k j => x6 (ix3 0 k j))
            (fun k => x7 (ix4 0 ⟨16 + n.val / 4096, by omega⟩ 5 k)))
          (fun k => x8 (ix3 0 2 k))
          (fun k => x7 (ix4 0 ⟨16 + n.val / 4096, by omega⟩ 7 k)) (fun k => x7 (ix4 0 ⟨16 + n.val / 4096, by omega⟩ 6 k))
          (fun k => x7 (ix4 0 ⟨16 + n.val / 4096, by omega⟩ 8 k))
          (fun k f => x9 (ix4 0 1 k f)) (fun k f => x10 (ix4 0 1 k f)) (fun f k => x11 (ix4 0 1 f k)) j := by
  have hb : n.val / 4096 < 8 := by omega
  have e : idx_main_v83 (ix2 n j) = ix3 ⟨n.val / 4096, hb⟩ ⟨n.val % 4096, by omega⟩ j := funext fun a => Fin.ext (by
    match a with
    | ⟨0, _⟩ => show (n.val * 1024 + j.val) / 4194304 = n.val / 4096; omega
    | ⟨1, _⟩ => show (n.val * 1024 + j.val) / 1024 % 4096 = n.val % 4096; omega
    | ⟨2, _⟩ => show (n.val * 1024 + j.val) % 1024 = j.val; omega)
  rw [val_main_v83_apply, e]
  have en : n = flat ⟨n.val / 4096, hb⟩ ⟨n.val % 4096, by omega⟩ := Fin.ext (by
    show n.val = n.val / 4096 * 4096 + n.val % 4096; omega)
  have eb : (⟨16 + n.val / 4096, by omega⟩ : Fin 24) = seq24 ⟨n.val / 4096, hb⟩ := rfl
  rw [eb]
  generalize hbb : (⟨n.val / 4096, hb⟩ : Fin 8) = b at *
  generalize (⟨n.val % 4096, by omega⟩ : Fin 4096) = s at *
  subst en
  rw [val_main_v82_apply, val_main_v81_apply, m_apply, gt_apply, val_main_v79_apply]
  refine congrArg (fun z => mrow x0 x1 x2 x3 x4 x5 x6 x7 b s j + half * x7 (ix4 0 (seq24 b) 8 j) * z) (Finset.sum_congr rfl fun f _ => ?_)
  refine congrArg₂ (· * ·) (Eq.trans (congrArg _ ?_) (hid_apply x0 x1 x2 x3 x4 x5 x6 x7 x8 x9 x10 b s f)) (Eq.trans (congrArg _ ?_) (wd_apply x11 f j))
  · funext a; match a with | ⟨0, _⟩ => rfl | ⟨1, _⟩ => rfl | ⟨2, _⟩ => rfl
  · funext a; match a with | ⟨0, _⟩ => rfl | ⟨1, _⟩ => rfl

end Cert.Proof.SampleReference

end
-- ==== Proof.SampleClaim.lean ====
/-
  The mixing call at the samples' shapes: the kernel's result array and the reference's are the same function of the arguments.
-/
module

public import proofs.«01_k».proof.Defs
public import proofs.«01_k».proof.Proof.SampleKernel
public import proofs.«01_k».proof.Proof.SampleReference
public import proofs.«01_k».proof.Proof.Gen.Reference6Ideal.Run
public import proofs.«01_k».proof.Proof.Gen.Kernel6Ideal.Value
public import proofs.«01_k».proof.Proof.Gen.Kernel6Ideal
public import proofs.«01_k».proof.Proof.Gen.Reference6Ideal

@[expose] public section

noncomputable section

namespace Cert.Proof

open Idealize.ShloMosaic Idealize.ShloMosaic.ValueIdx Idealize.ShloMosaic.TcCoe Idealize.SL.Sem

/-- The reference's composed term, element by element, under arguments equal to the kernel's. -/
theorem sample_agree (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (h0 : m' ((c.tc : Thread Cert.Reference6Ideal.nD Cert.Reference6Ideal.τ).loc Cert.Reference6Ideal.main_arg0) = SampleKernel.a0 m c)
    (h1 : m' ((c.tc : Thread Cert.Reference6Ideal.nD Cert.Reference6Ideal.τ).loc Cert.Reference6Ideal.main_arg1) = SampleKernel.a1 m c)
    (h2 : m' ((c.tc : Thread Cert.Reference6Ideal.nD Cert.Reference6Ideal.τ).loc Cert.Reference6Ideal.main_arg2) = SampleKernel.a2 m c)
    (h3 : m' ((c.tc : Thread Cert.Reference6Ideal.nD Cert.Reference6Ideal.τ).loc Cert.Reference6Ideal.main_arg3) = SampleKernel.a3 m c)
    (h4 : m' ((c.tc : Thread Cert.Reference6Ideal.nD Cert.Reference6Ideal.τ).loc Cert.Reference6Ideal.main_arg4) = SampleKernel.a4 m c)
    (h5 : m' ((c.tc : Thread Cert.Reference6Ideal.nD Cert.Reference6Ideal.τ).loc Cert.Reference6Ideal.main_arg5) = SampleKernel.a5 m c)
    (h6 : m' ((c.tc : Thread Cert.Reference6Ideal.nD Cert.Reference6Ideal.τ).loc Cert.Reference6Ideal.main_arg6) = SampleKernel.a6 m c)
    (h7 : m' ((c.tc : Thread Cert.Reference6Ideal.nD Cert.Reference6Ideal.τ).loc Cert.Reference6Ideal.main_arg7) = SampleKernel.a7 m c)
    (h8 : m' ((c.tc : Thread Cert.Reference6Ideal.nD Cert.Reference6Ideal.τ).loc Cert.Reference6Ideal.main_arg8) = SampleKernel.a8 m c)
    (h9 : m' ((c.tc : Thread Cert.Reference6Ideal.nD Cert.Reference6Ideal.τ).loc Cert.Reference6Ideal.main_arg9) = SampleKernel.a9 m c)
    (h10 : m' ((c.tc : Thread Cert.Reference6Ideal.nD Cert.Reference6Ideal.τ).loc Cert.Reference6Ideal.main_arg10) = SampleKernel.a10 m c)
    (h11 : m' ((c.tc : Thread Cert.Reference6Ideal.nD Cert.Reference6Ideal.τ).loc Cert.Reference6Ideal.main_arg11) = SampleKernel.a11 m c) :
    Cert.Reference6Ideal.Value.res_main_v83 m' c = SampleKernel.outArr m c := by
  rw [Cert.Reference6Ideal.Read.val_main_v83_eq, h0, h1, h2, h3, h4, h5, h6, h7, h8, h9, h10, h11]
  funext i
  obtain ⟨n, j, rfl⟩ : ∃ (n : Fin 32768) (j : Fin 1024), i = ix2 n j :=
    ⟨i 0, i 1, funext fun a => by match a with | ⟨0, _⟩ => rfl | ⟨1, _⟩ => rfl⟩
  rw [SampleReference.result_apply]
  rfl

/-- Over the ideal numbers the kernel's result and the reference's are one array, and both leave their arguments as
    they were. -/
theorem sample_algebraic : Cert.algebraic_Kernel6Ideal_Reference6Ideal
    (hKernel6Ideal := Cert.Kernel6Ideal.Gen.facts) (hReference6Ideal := Cert.Reference6Ideal.Gen.facts) := by
  intro m ρ m' ρ' _ hag
  refine ⟨fun c => SampleKernel.outArr m c, ?_, ?_⟩
  · exact (θ_run _ _ _).mono (fun _ h c => ⟨(h c).1.trans (SampleKernel.final m c), (h c).2⟩)
      (Cert.Kernel6Ideal.Value.run_blocks m ρ)
  · refine (θ_run _ _ _).mono (fun _ h c => ⟨(h c).1.trans ?_, (h c).2⟩) (Cert.Reference6Ideal.Value.run m' ρ')
    obtain ⟨h0, h1, h2, h3, h4, h5, h6, h7, h8, h9, h10, h11⟩ := hag c
    exact sample_agree m m' c h0 h1 h2 h3 h4 h5 h6 h7 h8 h9 h10 h11

end Cert.Proof

end
-- ==== Proof.ProjSpec.lean ====
/-
  The mixer's eight input projections and what is made of each, as functions of one row of the normed input, on the
  extended reals: what both the kernel and the reference are shown to compute, row by row. No program is mentioned here.
-/
module

public import proofs.«01_k».proof.Proof.FfnSpec

@[expose] public section

noncomputable section

namespace Cert.Proj

open Idealize.ShloMosaic Idealize.ShloMosaic.ValueIdx Cert.Ffn

/-- Unit `j` of segment `i` among the projection's 4096 columns. -/
def col (i : Fin 8) (j : Fin 512) : Fin 4096 := ⟨i.val * 512 + j.val, by omega⟩

/-- Unit `j` of segment `i` of the projection of the row `h`. -/
def seg (h : Fin 1024 → EReal) (w : Fin 1024 → Fin 4096 → EReal) (i : Fin 8) (j : Fin 512) : EReal :=
  ∑ k, h k * w k (col i j)

/-- The forget gate: a sigmoid of `z` raised to the lower bound `lb`. -/
def gate (lb z : EReal) : EReal := lb + (one - lb) * Ideal.div one (one + Ideal.exp (-z))

/-- One over `ln 2`, as the named constant is read; and the gate's logarithm to base two. -/
def l2e : EReal := (((Real.log 2)⁻¹ : ℝ) : EReal)
def lg (f : EReal) : EReal := Ideal.log f * l2e

/-- The head width 64 as the programs write it, and the `e`-th unit of the head of unit `j`. -/
def sixtyFour : EReal := Ideal.ofBits .f32 0x42800000#32
def mate (j : Fin 512) (e : Fin 64) : Fin 512 := ⟨j.val / 64 * 64 + e.val, by omega⟩

/-- Unit `j` of `z` over the root mean square of its head, times the gain `g`. -/
def headNorm (z : Fin 512 → EReal) (g : EReal) (j : Fin 512) : EReal :=
  z j * Ideal.rsqrt (Ideal.div (∑ e, z (mate j e) * z (mate j e)) sixtyFour + eps) * g

/-! ## Constants -/

theorem ofBits_two : Ideal.ofBits .f32 0x40000000#32 = ((2 : ℝ) : EReal) := by
  simp [Ideal.ofBits, Ideal.ieee]
  rw [← EReal.coe_mul]
  norm_num
theorem sixtyFour_eq : sixtyFour = ((64 : ℝ) : EReal) := by
  unfold sixtyFour
  simp [Ideal.ofBits, Ideal.ieee]
  rw [← EReal.coe_mul]
  norm_num
theorem ofBits_64th : Ideal.ofBits .f32 0x3C800000#32 = (((64 : ℝ)⁻¹ : ℝ) : EReal) := by
  simp [Ideal.ofBits, Ideal.ieee]
  rw [← EReal.coe_mul]
  norm_num

/-- A quotient by a finite number other than zero is a product by its inverse. -/
theorem div_coe (x : EReal) (y : ℝ) (hy : y ≠ 0) : Ideal.div x (y : EReal) = x * ((y⁻¹ : ℝ) : EReal) := by
  unfold Ideal.div
  rw [if_neg (by exact_mod_cast hy), EReal.coe_inv]

/-- A 64th of a sum is the sum over 64. -/
theorem div_sixtyFour (x : EReal) : Ideal.div x sixtyFour = x * Ideal.ofBits .f32 0x3C800000#32 := by
  rw [sixtyFour_eq, ofBits_64th, div_coe x 64 (by norm_num)]

/-- A quotient by the logarithm of two. -/
theorem div_log_two (x : EReal) : Ideal.div x (Ideal.log (Ideal.ofBits .f32 0x40000000#32)) = x * l2e := by
  have e : Ideal.log ((2 : ℝ) : EReal) = ((Real.log 2 : ℝ) : EReal) := by
    show (if (2 : ℝ) ≤ 0 then ⊥ else ((Real.log 2 : ℝ) : EReal)) = _
    rw [if_neg (by norm_num)]
  rw [ofBits_two, e, div_coe x (Real.log 2) (Real.log_pos (by norm_num)).ne']
  rfl

end Cert.Proj

end
-- ==== Proof.ProjKernel.lean ====
/-
  The projection kernel's arithmetic read at one element: the payloads its body stores, at row `r` of the block, are the
  row functions of Proof/ProjSpec.lean of row `r` of the normed block.
-/
module

public import proofs.«01_k».proof.Proof.ProjSpec
public import proofs.«01_k».proof.Proof.NaKernel
public import proofs.«01_k».proof.Proof.MixSpec
public import proofs.«01_k».proof.Proof.Gen.Kernel4Ideal.Value
public import Idealize.ShloMosaic.Lib.Pipeline.ValueKit.Tiles
public import Idealize.ShloMosaic.Lib.Claim

@[expose] public section

noncomputable section

namespace Cert.Proof.ProjKernel

open Idealize.ShloMosaic Idealize.ShloMosaic.ValueIdx Idealize.ShloMosaic.TcCoe Idealize.SL.Sem
open Cert.Kernel4Ideal Cert.Kernel4Ideal.Gen Cert.Ffn Cert.Proj
open Cert.Proof.NaKernel (lane sum_lane)

/-- The normed and modulated block, at row `r`. -/
theorem norm_apply (x : Vec Ideal S1024x1024 .f32) (g sh sc : Vec Ideal S1x1x1x1024 .f32) (r k : Fin 1024) :
    k0_pay2 x g sh sc (ix2 r k) = normRow (fun k => x (ix2 r k)) (fun k => g (ix4 0 0 0 k)) (fun k => sc (ix4 0 0 0 k))
      (fun k => sh (ix4 0 0 0 k)) k := by
  unfold k0_pay2 normRow
  simp only [truncf_apply, addf_apply, mulf_apply]
  rw [bcast_col_apply (by decide), bcast_row_apply (by decide), bcast_row_apply (by decide), bcast_row_apply (by decide)]
  rw [cast11_apply, cast11_apply, addf_apply, cast11_apply]
  show x (ix2 r k) * Ideal.rsqrt (Ideal.div (shapeCast S1024x1 _ _ (ix2 r 0)) width + eps) * _ * (one + _) + _ = _
  rw [cast_col_apply]
  exact congrArg (fun z => x (ix2 r k) * Ideal.rsqrt (Ideal.div z width + eps) * g (ix4 0 0 0 k)
    * (one + sc (ix4 0 0 0 k)) + sh (ix4 0 0 0 k)) (rowSum_apply _ _ _ _ _ r)

/-- One segment of the projection, as the body multiplies it out of the columns `w`. -/
def prod (h : FVec Ideal S1024x1024 .bf16) (w : Vec Ideal S1x1024x512 .bf16) (r : Fin 1024) (j : Fin 512) : EReal :=
  ∑ k, h (ix2 r k) * w (ix3 0 k j)

theorem prod_apply (h : FVec Ideal S1024x1024 .bf16) (w : Vec Ideal S1x1024x512 .bf16) (r : Fin 1024) (j : Fin 512) :
    k0_pay19 h w (ix2 r j) = prod h w r j := by
  unfold k0_pay19
  refine (mm_apply _ rfl _ _ r j).trans (Finset.sum_congr rfl fun k _ => ?_)
  rw [Mix.cast1_apply]

/-- The two segments passed through `silu`, and the two only narrowed. -/
theorem silu_apply (h : FVec Ideal S1024x1024 .bf16) (w : Vec Ideal S1x1024x512 .bf16) (r : Fin 1024) (j : Fin 512) :
    k0_pay40 h w (ix2 r j) = silu (prod h w r j) := by
  show k0_pay19 h w (ix2 r j) * Ideal.div one (one + Ideal.exp (Ideal.ofBits .f32 0x00000000#32 - k0_pay19 h w (ix2 r j))) = _
  rw [prod_apply, Ideal.ofBits_zero_f32, zero_sub]
  rfl

theorem silu_apply' (h : FVec Ideal S1024x1024 .bf16) (w : Vec Ideal S1x1024x512 .bf16) (r : Fin 1024) (j : Fin 512) :
    k0_pay41 h w (ix2 r j) = silu (prod h w r j) := (congrFun rfl _).trans (silu_apply h w r j)

theorem plain_apply (h : FVec Ideal S1024x1024 .bf16) (w : Vec Ideal S1x1024x512 .bf16) (r : Fin 1024) (j : Fin 512) :
    k0_pay42 h w (ix2 r j) = prod h w r j := prod_apply h w r j

theorem plain_apply' (h : FVec Ideal S1024x1024 .bf16) (w : Vec Ideal S1x1024x512 .bf16) (r : Fin 1024) (j : Fin 512) :
    k0_pay1 h w (ix2 r j) = prod h w r j := prod_apply h w r j

/-- The forget gate out of a lower-bound row `lb`. -/
theorem gate_apply (h : FVec Ideal S1024x1024 .bf16) (lb : Vec Ideal S1x1x512 .f32) (w : Vec Ideal S1x1024x512 .bf16)
    (r : Fin 1024) (j : Fin 512) :
    k0_pay14 (k0_pay11 lb) (k0_pay12 lb) (k0_pay13 h w) (ix2 r j) = gate (lb (ix3 0 0 j)) (prod h w r j) := by
  have e : k0_pay11 lb (ix2 0 j) = lb (ix3 0 0 j) := Mix.cast1_apply _ _ 0 j
  unfold k0_pay14
  rw [addf_apply, mulf_apply, bcast_row_apply (by decide), bcast_row_apply (by decide), e]
  show lb (ix3 0 0 j) + (one - k0_pay11 lb (ix2 0 j)) * Ideal.div one (one + Ideal.exp (Ideal.ofBits .f32 0x00000000#32 - k0_pay19 h w (ix2 r j))) = _
  rw [e, prod_apply, Ideal.ofBits_zero_f32, zero_sub]
  rfl

theorem gate_apply' (h : FVec Ideal S1024x1024 .bf16) (lb : Vec Ideal S1x1x512 .f32) (w : Vec Ideal S1x1024x512 .bf16)
    (r : Fin 1024) (j : Fin 512) :
    k0_pay6 h (k0_pay4 lb) (k0_pay5 lb) w (ix2 r j) = gate (lb (ix3 0 0 j)) (prod h w r j) :=
  (congrFun rfl _).trans (gate_apply h lb w r j)

/-! ## The per-head norms -/

/-- A choice between two numbers by a bit. -/
theorem select_one (a b : EReal) : Scalar.select 1#1 a b = a := rfl
theorem select_zero (a b : EReal) : Scalar.select 0#1 a b = b := rfl

/-- The lanes of the pair's first head. -/
theorem first_apply (r : Fin 1024) (v : Fin 2) (e : Fin 64) : k0_pay3 (ix2 r (lane v e)) = if v = 0 then 1#1 else 0#1 := by
  unfold k0_pay3
  show IntOp.cmpi .slt (iota .tc S1024x128 32 [1] iota_S1024x128_d1_w32 (ix2 r (lane v e))) 64#32 = _
  rw [iota_single_apply]
  exact (by decide +kernel : ∀ (v : Fin 2) (e : Fin 64), IntOp.cmpi .slt (BitVec.ofNat 32 (lane v e).val) 64#32 = if v = 0 then 1#1 else 0#1) v e

/-- The sum of the squares of one head of the pair of heads `x`, the other's masked by zero, across the lanes. -/
def sums (x : FVec Ideal S1024x128 .f32) (a b : FVec Ideal S1024x128 .f32) : FVec Ideal S1024x128 .f32 :=
  broadcastTo S1024x128 (shapeCast S1024x1 (shapeCast S1024x1
    (multiReduction .add [1] S1024 (select k0_pay3 a b) 0x00000000#32 reduces_S1024x128_S1024 (.inl rfl) rfl)
    shapeCasts_S1024_S1024x1) shapeCasts_S1024x1_S1024x1) broadcasts_S1024x1_S1024x128

/-- The pair of heads `x` normed, each by its own mean square, and scaled by the gains `g`. -/
def heads (x : FVec Ideal S1024x128 .f32) (g : Vec Ideal S1x1x128 .f32) : FVec Ideal S1024x128 .bf16 :=
  k0_pay30 x (select k0_pay3 (sums x (mulf x x) (broadcast S1024x128 (Scalar.ofBits .f32 0x00000000#32)))
    (sums x (broadcast S1024x128 (Scalar.ofBits .f32 0x00000000#32)) (mulf x x))) k0_pay29 g

theorem sums_apply (x a b : FVec Ideal S1024x128 .f32) (r : Fin 1024) (l : Fin 128) :
    sums x a b (ix2 r l) = ∑ k, Scalar.select (k0_pay3 (ix2 r k)) (a (ix2 r k)) (b (ix2 r k)) := by
  unfold sums
  rw [bcast_col_apply (by decide)]
  refine (shapeCast_apply _ _ _ (ix2 r (0 : Fin 1)) rfl).trans ?_
  rw [cast_col_apply]
  exact rowSum_apply _ _ _ _ _ r

theorem heads_apply (x : FVec Ideal S1024x128 .f32) (g : Vec Ideal S1x1x128 .f32) (r : Fin 1024) (v : Fin 2) (e : Fin 64) :
    heads x g (ix2 r (lane v e)) = x (ix2 r (lane v e)) * Ideal.rsqrt (Ideal.div
      (∑ d, x (ix2 r (lane v d)) * x (ix2 r (lane v d))) sixtyFour + eps) * g (ix3 0 0 (lane v e)) := by
  unfold heads k0_pay30
  rw [truncf_apply, mulf_apply, bcast_row_apply (by decide), Mix.cast1_apply, div_sixtyFour]
  refine congrArg (fun z => x (ix2 r (lane v e)) * Ideal.rsqrt (z * Ideal.ofBits .f32 0x3C800000#32 + eps) * g (ix3 0 0 (lane v e))) ?_
  rw [select_apply, first_apply, sums_apply, sums_apply]
  obtain rfl | rfl : v = 0 ∨ v = 1 := by omega
  · rw [if_pos rfl, select_one]
    refine (sum_lane _ 0 fun w d hw => ?_).trans (Finset.sum_congr rfl fun d _ => ?_)
    · rw [first_apply, if_neg hw, select_zero]
      exact Ideal.ofBits_zero_f32
    · rw [first_apply, if_pos rfl, select_one]
      rfl
  · rw [if_neg (by decide), select_zero]
    refine (sum_lane _ 1 fun w d hw => ?_).trans (Finset.sum_congr rfl fun d _ => ?_)
    · rw [first_apply, if_pos (by omega), select_one]
      exact Ideal.ofBits_zero_f32
    · rw [first_apply, if_neg (by decide), select_zero]
      rfl

end Cert.Proof.ProjKernel

end
-- ==== Proof.ProjBlocks.lean ====
/-
  From the projection kernel's blocks to its twelve result arrays: each array, at row `n`, is a row function of
  Proof/ProjSpec.lean of row `n` of the argument.
-/
module

public import proofs.«01_k».proof.Proof.ProjKernel
public import proofs.«01_k».proof.Proof.MixSpec
public import Idealize.ShloMosaic.Lib.Pipeline.ValueKit.Geometry

@[expose] public section

noncomputable section

namespace Cert.Proof.ProjBlocks

open Idealize.ShloMosaic Idealize.ShloMosaic.ValueIdx Idealize.ShloMosaic.TcCoe Idealize.SL.Sem
open Cert.Kernel4Ideal Cert.Kernel4Ideal.Gen Cert.Ffn Cert.Proj Cert.Proof.ProjKernel
open Idealize.ShloMosaic.Pipeline (Dat Cfg Window)
open Cert.Proof.NaKernel (lane)

variable (m : (ℓ : Loc nD τ sig) → Buf (Elt Ideal) ℓ)

/-- The argument arrays, as launched. -/
abbrev a0 (c : Dev nD) : S32768x1024.Idx → EReal := m ((c : Thread nD τ).loc main_arg0)
abbrev a1 (c : Dev nD) : S4x24x9x1024.Idx → EReal := m ((c : Thread nD τ).loc main_arg1)
abbrev a2 (c : Dev nD) : S4x3x1024.Idx → EReal := m ((c : Thread nD τ).loc main_arg2)
abbrev a3 (c : Dev nD) : S4x1024x4096.Idx → EReal := m ((c : Thread nD τ).loc main_arg3)
abbrev a4 (c : Dev nD) : S4x512.Idx → EReal := m ((c : Thread nD τ).loc main_arg4)
abbrev a5 (c : Dev nD) : S4x512.Idx → EReal := m ((c : Thread nD τ).loc main_arg5)
abbrev a6 (c : Dev nD) : S4x64.Idx → EReal := m ((c : Thread nD τ).loc main_arg6)
abbrev a7 (c : Dev nD) : S4x64.Idx → EReal := m ((c : Thread nD τ).loc main_arg7)

/-- The exponentials of the parameters less their largest over the four layers, as the host code makes them. -/
def expShift (p : FVec Ideal S4x512 .f32) : FVec Ideal S4x512 .f32 :=
  Host.exp (subf p (broadcastInDim S4x512 ![0, 1] bcast_S1x512_S4x512_0_1 (broadcastInDim S1x512 ![1] bcast_S512_S1x512_1
    (maximumf (broadcastInDim S512 ![] bcast_S_S512 (constant S_ .f32 0xFF800000#32))
      (Host.reduce FloatOps.maximumf p (constant S_ .f32 0xFF800000#32) reducesTo_S4x512_S512_d0 h_S_)))))
/-- Their softmax over the four layers. -/
def soft (p : FVec Ideal S4x512 .f32) : FVec Ideal S4x512 .f32 :=
  Host.divf (expShift p) (broadcastInDim S4x512 ![0, 1] bcast_S1x512_S4x512_0_1 (broadcastInDim S1x512 ![1] bcast_S512_S1x512_1
    (Host.reduceAdd (expShift p) (constant S_ .f32 0x00000000#32) reducesTo_S4x512_S512_d0 h_S_)))
/-- The lower bounds: the softmax summed up to each layer, less its first. -/
def lower (p : FVec Ideal S4x512 .f32) : FVec Ideal S4x512 .f32 :=
  subf (Host.reduceWindowAdd ![4, 1] ![1, 1] ![3, 0] ![0, 0] (soft p) (broadcastInDim S_ ![] bcast_S_S_ (constant S_ .f32 0x00000000#32))
      reduceWindows_S4x512_S4x512_w4s1p3_0_w1s1p0_0 h_S_)
    (broadcastInDim S4x512 ![0, 1] bcast_S1x512_S4x512_0_1 (broadcastInDim S1x512 ![1] bcast_S512_S1x512_1
      (shapeCast S512 (extractStridedSlice S1x512 ![0, 0] (soft p) slices_S4x512_S1x512_0_0) shapeCasts_S1x512_S512)))
/-- The lower bounds of the two directions. -/
def lbf (c : Dev nD) : S4x512.Idx → EReal := lower (a4 m c)
def lbb (c : Dev nD) : S4x512.Idx → EReal := lower (a5 m c)

/-- The gains of one head repeated over the eight heads, as the program prepares them. -/
def tile (x : S4x64.Idx → EReal) : S4x1x512.Idx → EReal :=
  shapeCast S4x1x512 (shapeCast S4x512 (broadcastInDim S1x4x8x64 ![0, 1, 2, 3] bcast_S1x4x1x64_S1x4x8x64_0_1_2_3
    (shapeCast S1x4x1x64 x shapeCasts_S4x64_S1x4x1x64)) shapeCasts_S1x4x8x64_S4x512) shapeCasts_S4x512_S4x1x512

theorem tile_apply (x : S4x64.Idx → EReal) (j : Fin 512) : tile x (ix3 0 0 j) = x (ix2 0 ⟨j.val % 64, by omega⟩) := by
  unfold tile
  refine (shapeCast_apply _ _ _ (ix2 (0 : Fin 4) j) ?_).trans ?_
  · rw [Shape.rowMajor_val_two, Shape.rowMajor_val_three]
    show 0 * 512 + j.val = (0 * 1 + 0) * 512 + j.val
    omega
  refine (shapeCast_apply _ _ _ (ix4 (0 : Fin 1) (0 : Fin 4) (⟨j.val / 64, by omega⟩ : Fin 8) (⟨j.val % 64, by omega⟩ : Fin 64)) ?_).trans ?_
  · rw [Shape.rowMajor_val_four, Shape.rowMajor_val_two]
    show ((0 * 4 + 0) * 8 + j.val / 64) * 64 + j.val % 64 = 0 * 512 + j.val
    omega
  refine (broadcastInDim_apply _ _ _ _ (ix4 (0 : Fin 1) (0 : Fin 4) (0 : Fin 1) (⟨j.val % 64, by omega⟩ : Fin 64)) ?_).trans ?_
  · intro a
    match a with
    | ⟨0, _⟩ => rfl
    | ⟨1, _⟩ => rfl
    | ⟨2, _⟩ => rfl
    | ⟨3, _⟩ => rfl
  refine shapeCast_apply _ _ _ (ix2 (0 : Fin 4) (⟨j.val % 64, by omega⟩ : Fin 64)) ?_
  rw [Shape.rowMajor_val_two, Shape.rowMajor_val_four]
  show 0 * 64 + j.val % 64 = ((0 * 4 + 0) * 1 + 0) * 64 + j.val % 64
  omega

/-- What the region finds in the arrays prepared for it. -/
theorem V_v0 (c : Dev nD) : V m c main_v0 = shapeCast S4x3x1x1024 (a2 m c) shapeCasts_S4x3x1024_S4x3x1x1024 := by
  entry_read; rfl
theorem V_v1 (c : Dev nD) : V m c main_v1 = a3 m c := by
  entry_read; rfl
theorem V_v19 (c : Dev nD) : V m c main_v19 = shapeCast S4x1x512 (lbf m c) shapeCasts_S4x512_S4x1x512 := by
  entry_read; rfl
theorem V_v37 (c : Dev nD) : V m c main_v37 = shapeCast S4x1x512 (lbb m c) shapeCasts_S4x512_S4x1x512 := by
  entry_read; rfl
/-- What the bounds are; after this they are names only. -/
theorem lbf_eq (c : Dev nD) : lbf m c = lower (a4 m c) := rfl
theorem lbb_eq (c : Dev nD) : lbb m c = lower (a5 m c) := rfl
attribute [irreducible] lbf lbb lower
theorem V_v41 (c : Dev nD) : V m c main_v41 = tile (a6 m c) := by
  entry_read; rfl
theorem V_v45 (c : Dev nD) : V m c main_v45 = tile (a7 m c) := by
  entry_read; rfl

/-- The windows' block indices over the 32 points. -/
theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = t.val / 2 ∧ win0_1.index t 2 = 0 ∧ win0_1.index t 3 = 0 :=
  (by decide +kernel : ∀ t : Fin grid0.N, win0_1.index t 0 = 0 ∧ win0_1.index t 1 = t.val / 2 ∧ win0_1.index t 2 = 0 ∧ win0_1.index t 3 = 0) t
theorem index2 (t : Fin cfg0.N) : win0_2.index t 0 = 0 ∧ win0_2.index t 1 = 1 ∧ win0_2.index t 2 = 0 ∧ win0_2.index t 3 = 0 :=
  (by decide +kernel : ∀ t : Fin grid0.N, win0_2.index t 0 = 0 ∧ win0_2.index t 1 = 1 ∧ win0_2.index t 2 = 0 ∧ win0_2.index t 3 = 0) t
theorem index3 (t : Fin cfg0.N) (a : Fin 3) : win0_3.index t a = 0 :=
  (by decide +kernel : ∀ (t : Fin grid0.N) (a : Fin 3), win0_3.index t a = 0) t a
theorem index4 (t : Fin cfg0.N) (a : Fin 3) : win0_4.index t a = 0 :=
  (by decide +kernel : ∀ (t : Fin grid0.N) (a : Fin 3), win0_4.index t a = 0) t a
theorem index5 (t : Fin cfg0.N) (a : Fin 3) : win0_5.index t a = 0 :=
  (by decide +kernel : ∀ (t : Fin grid0.N) (a : Fin 3), win0_5.index t a = 0) t a
theorem index6 (t : Fin cfg0.N) (a : Fin 3) : win0_6.index t a = 0 :=
  (by decide +kernel : ∀ (t : Fin grid0.N) (a : Fin 3), win0_6.index t a = 0) t a
theorem index7 (t : Fin cfg0.N) (a : Fin 3) : win0_7.index t a = 0 :=
  (by decide +kernel : ∀ (t : Fin grid0.N) (a : Fin 3), win0_7.index t a = 0) t a

/-- Point `t`'s row `r` in the array. -/
theorem lt_N (t : Fin cfg0.N) : t.val < 32 := lt_of_lt_of_eq t.isLt N_0
def row (t : Fin cfg0.N) (r : Fin 1024) : Fin 32768 := ⟨t.val * 1024 + r.val, by have := lt_N t; omega⟩

/-! ## The staged blocks, read at an index -/

theorem iblk0_apply (c : Dev nD) (t : Fin cfg0.N) (r : Fin 1024) (k : Fin 1024) :
    iblk m c 0 t (ix2 r k) = a0 m c (ix2 (row t r) k) := by
  unfold iblk
  show V m c main_arg0 ((win0_0.rect t).emb (ix2 r k)) = _
  rw [V_main_arg0]
  refine congrArg (a0 m c) (funext fun a => Fin.ext ?_)
  match a with
  | ⟨0, _⟩ =>
    show win0_0.index t 0 * 1024 + 1 * r.val = t.val * 1024 + r.val
    rw [(index0 t).1]; omega
  | ⟨1, _⟩ =>
    show win0_0.index t 1 * 1024 + 1 * k.val = k.val
    rw [(index0 t).2]; omega

theorem iblk1_apply (c : Dev nD) (t : Fin cfg0.N) (p : Fin 9) (k : Fin 1024) :
    iblk m c 1 t (ix4 0 0 p k) = a1 m c (ix4 0 ⟨t.val / 2, by have := lt_N t; omega⟩ p k) := by
  unfold iblk
  show V m c main_arg1 ((win0_1.rect t).emb (ix4 0 0 p k)) = _
  rw [V_main_arg1]
  refine congrArg (a1 m c) (funext fun a => Fin.ext ?_)
  match a with
  | ⟨0, _⟩ =>
    show win0_1.index t 0 * 1 + 1 * 0 = 0
    rw [(index1 t).1]
  | ⟨1, _⟩ =>
    show win0_1.index t 1 * 1 + 1 * 0 = t.val / 2
    rw [(index1 t).2.1]; omega
  | ⟨2, _⟩ =>
    show win0_1.index t 2 * 9 + 1 * p.val = p.val
    rw [(index1 t).2.2.1]; omega
  | ⟨3, _⟩ =>
    show win0_1.index t 3 * 1024 + 1 * k.val = k.val
    rw [(index1 t).2.2.2]; omega

theorem iblk2_apply (c : Dev nD) (t : Fin cfg0.N) (k : Fin 1024) :
    iblk m c 2 t (ix4 0 0 0 k) = a2 m c (ix3 0 1 k) := by
  unfold iblk
  show V m c main_v0 ((win0_2.rect t).emb (ix4 0 0 0 k)) = _
  rw [V_v0]
  refine shapeCast_apply _ _ _ _ ?_
  rw [Shape.rowMajor_val_three, Shape.rowMajor_val_four]
  show (0 * 3 + 1) * 1024 + k.val = (((win0_2.index t 0 * 1 + 1 * 0) * 3 + (win0_2.index t 1 * 1 + 1 * 0)) * 1
    + (win0_2.index t 2 * 1 + 1 * 0)) * 1024 + (win0_2.index t 3 * 1024 + 1 * k.val)
  rw [(index2 t).1, (index2 t).2.1, (index2 t).2.2.1, (index2 t).2.2.2]; omega

theorem iblk3_apply (c : Dev nD) (t : Fin cfg0.N) (k : Fin 1024) (f : Fin 4096) :
    iblk m c 3 t (ix3 0 k f) = a3 m c (ix3 0 k f) := by
  unfold iblk
  show V m c main_v1 ((win0_3.rect t).emb (ix3 0 k f)) = _
  rw [V_v1]
  refine congrArg (a3 m c) (funext fun a => Fin.ext ?_)
  match a with
  | ⟨0, _⟩ => show win0_3.index t 0 * 1 + 1 * 0 = 0; rw [index3]
  | ⟨1, _⟩ => show win0_3.index t 1 * 1024 + 1 * k.val = k.val; rw [index3]; omega
  | ⟨2, _⟩ => show win0_3.index t 2 * 4096 + 1 * f.val = f.val; rw [index3]; omega

/-- Layer zero's row of an array of four rows with a unit axis between. -/
theorem iblk4_apply (c : Dev nD) (t : Fin cfg0.N) (j : Fin 512) : iblk m c 4 t (ix3 0 0 j) = lbf m c (ix2 0 j) := by
  unfold iblk
  show V m c main_v19 ((win0_4.rect t).emb (ix3 0 0 j)) = _
  rw [V_v19]
  refine shapeCast_apply _ _ _ _ ?_
  rw [Shape.rowMajor_val_two, Shape.rowMajor_val_three]
  show 0 * 512 + j.val = ((win0_4.index t 0 * 1 + 1 * 0) * 1 + (win0_4.index t 1 * 1 + 1 * 0)) * 512 + (win0_4.index t 2 * 512 + 1 * j.val)
  rw [index4, index4, index4]; omega

theorem iblk5_apply (c : Dev nD) (t : Fin cfg0.N) (j : Fin 512) : iblk m c 5 t (ix3 0 0 j) = lbb m c (ix2 0 j) := by
  unfold iblk
  show V m c main_v37 ((win0_5.rect t).emb (ix3 0 0 j)) = _
  rw [V_v37]
  refine shapeCast_apply _ _ _ _ ?_
  rw [Shape.rowMajor_val_two, Shape.rowMajor_val_three]
  show 0 * 512 + j.val = ((win0_5.index t 0 * 1 + 1 * 0) * 1 + (win0_5.index t 1 * 1 + 1 * 0)) * 512 + (win0_5.index t 2 * 512 + 1 * j.val)
  rw [index5, index5, index5]; omega

theorem iblk6_apply (c : Dev nD) (t : Fin cfg0.N) (j : Fin 512) :
    iblk m c 6 t (ix3 0 0 j) = a6 m c (ix2 0 ⟨j.val % 64, by omega⟩) := by
  unfold iblk
  show V m c main_v41 ((win0_6.rect t).emb (ix3 0 0 j)) = _
  rw [V_v41, ← tile_apply (a6 m c) j]
  refine congrArg (tile (a6 m c)) (funext fun a => Fin.ext ?_)
  match a with
  | ⟨0, _⟩ => show win0_6.index t 0 * 1 + 1 * 0 = 0; rw [index6]
  | ⟨1, _⟩ => show win0_6.index t 1 * 1 + 1 * 0 = 0; rw [index6]
  | ⟨2, _⟩ => show win0_6.index t 2 * 512 + 1 * j.val = j.val; rw [index6]; omega

theorem iblk7_apply (c : Dev nD) (t : Fin cfg0.N) (j : Fin 512) :
    iblk m c 7 t (ix3 0 0 j) = a7 m c (ix2 0 ⟨j.val % 64, by omega⟩) := by
  unfold iblk
  show V m c main_v45 ((win0_7.rect t).emb (ix3 0 0 j)) = _
  rw [V_v45, ← tile_apply (a7 m c) j]
  refine congrArg (tile (a7 m c)) (funext fun a => Fin.ext ?_)
  match a with
  | ⟨0, _⟩ => show win0_7.index t 0 * 1 + 1 * 0 = 0; rw [index7]
  | ⟨1, _⟩ => show win0_7.index t 1 * 1 + 1 * 0 = 0; rw [index7]
  | ⟨2, _⟩ => show win0_7.index t 2 * 512 + 1 * j.val = j.val; rw [index7]; omega

/-! ## The rows -/

/-- The normed and modulated row `n`, and unit `j` of segment `i` of its projection. -/
def hrow (c : Dev nD) (n : Fin 32768) : Fin 1024 → EReal :=
  normRow (fun k => a0 m c (ix2 n k)) (fun k => a2 m c (ix3 0 1 k)) (fun k => a1 m c (ix4 0 ⟨n.val / 2048, by omega⟩ 4 k))
    (fun k => a1 m c (ix4 0 ⟨n.val / 2048, by omega⟩ 3 k))
def sg (c : Dev nD) (i : Fin 8) (n : Fin 32768) (j : Fin 512) : EReal :=
  seg (hrow m c n) (fun k f => a3 m c (ix3 0 k f)) i j

/-- The two forget gates, under the lower bounds `lb`. -/
def fg (lb : S4x512.Idx → EReal) (c : Dev nD) (i : Fin 8) (n : Fin 32768) (j : Fin 512) : EReal :=
  gate (lb (ix2 0 j)) (sg m c i n j)

/-- A segment normed by heads, under the gains `g`. -/
def hn (g : S4x64.Idx → EReal) (c : Dev nD) (i : Fin 8) (n : Fin 32768) (j : Fin 512) : EReal :=
  headNorm (fun j => sg m c i n j) (g (ix2 0 ⟨j.val % 64, by omega⟩)) j

/-- The array of a function of row and unit. -/
def arr (f : Fin 32768 → Fin 512 → EReal) : S32768x512.Idx → EReal := fun i => f (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Row `p` of the modulation as the body loads it. -/
theorem ldmod (p : Nat) (hp : p < 9) (inb) (x : Vec Ideal S1x1x9x1024 .f32) (k : Fin 1024) :
    View.ld x (Rect.unit (s := S1x1x9x1024) ![0, 0, p, 0] S1x1x1x1024.size inb) (ix4 0 0 0 k) = x (ix4 0 0 ⟨p, hp⟩ k) :=
  congrArg x (funext fun a => Fin.ext (by
    match a with
    | ⟨0, _⟩ => rfl
    | ⟨1, _⟩ => rfl
    | ⟨2, _⟩ => rfl
    | ⟨3, _⟩ => show 0 + 1 * k.val = k.val; omega))

/-- Segment `i`'s columns of the weights as the body loads them. -/
theorem ldseg (i : Fin 8) (p : Nat) (hp : p = i.val * 512) (inb) (x : Vec Ideal S1x1024x4096 .bf16) (k : Fin 1024) (j : Fin 512) :
    View.ld x (Rect.unit (s := S1x1024x4096) ![0, 0, p] S1x1024x512.size inb) (ix3 0 k j) = x (ix3 0 k (col i j)) :=
  congrArg x (funext fun a => Fin.ext (by
    match a with
    | ⟨0, _⟩ => rfl
    | ⟨1, _⟩ => show 0 + 1 * k.val = k.val; omega
    | ⟨2, _⟩ => show p + 1 * j.val = i.val * 512 + j.val; omega))

/-- Pair `u`'s gains as the body loads them. -/
theorem ldgain (u : Fin 4) (p : Nat) (hp : p = u.val * 128) (inb) (x : Vec Ideal S1x1x512 .f32) (l : Fin 128) :
    View.ld x (Rect.unit (s := S1x1x512) ![0, 0, p] S1x1x128.size inb) (ix3 0 0 l) = x (ix3 0 0 (Mix.lane u l)) :=
  congrArg x (funext fun a => Fin.ext (by
    match a with
    | ⟨0, _⟩ => rfl
    | ⟨1, _⟩ => rfl
    | ⟨2, _⟩ => show p + 1 * l.val = u.val * 128 + l.val; omega))

section Block
variable (c : Dev nD) (t : Fin cfg0.N)

/-- The normed block at point `t`. -/
abbrev hb : FVec Ideal S1024x1024 .bf16 :=
  k0_pay43 (iblk m c 0 t) (iblk m c 1 t) (iblk m c 2 t) (iblk m c 3 t) (iblk m c 4 t) (iblk m c 5 t) (iblk m c 6 t) (iblk m c 7 t)

theorem hb_apply (r k : Fin 1024) : hb m c t (ix2 r k) = hrow m c (row t r) k := by
  unfold hb k0_pay43
  rw [View.ld_unit_zero hz2, View.ld_unit_zero hz4, norm_apply]
  unfold hrow
  have e : (row t r).val / 2048 = t.val / 2 := by show (t.val * 1024 + r.val) / 2048 = _; omega
  simp only [e, iblk0_apply, iblk2_apply]
  congr 1
  · exact funext fun k => (ldmod 4 (by decide) _ _ k).trans (iblk1_apply m c t 4 k)
  · exact funext fun k => (ldmod 3 (by decide) _ _ k).trans (iblk1_apply m c t 3 k)

/-- A segment of the projection at point `t`. -/
theorem seg_apply (i : Fin 8) (p : Nat) (hp : p = i.val * 512) (inb) (r : Fin 1024) (j : Fin 512) :
    prod (hb m c t) (View.ld (iblk m c 3 t) (Rect.unit (s := S1x1024x4096) ![0, 0, p] S1x1024x512.size inb)) r j
      = sg m c i (row t r) j := by
  unfold prod sg seg
  refine Finset.sum_congr rfl fun k _ => ?_
  rw [hb_apply, ldseg i p hp, iblk3_apply]

/-- Pair `u` of the heads of the segment `i`, normed, at point `t`. -/
theorem pair_apply (i : Fin 8) (p : Nat) (hp : p = i.val * 512) (inb) (u : Fin 4) (o : Nat) (ho : o = u.val * 128) (inb')
    (hs : S1024x512.Slices ![0, o] S1024x128) (x : Vec Ideal S1x1x512 .f32) (g : S4x64.Idx → EReal)
    (hx : ∀ j, x (ix3 0 0 j) = g (ix2 0 ⟨j.val % 64, by omega⟩)) (r : Fin 1024) (l : Fin 128) :
    heads (extractStridedSlice S1024x128 ![0, o] (k0_pay19 (hb m c t)
      (View.ld (iblk m c 3 t) (Rect.unit (s := S1x1024x4096) ![0, 0, p] S1x1024x512.size inb))) hs)
      (View.ld x (Rect.unit (s := S1x1x512) ![0, 0, o] S1x1x128.size inb')) (ix2 r l)
      = hn m g c i (row t r) (Mix.lane u l) := by
  have es : ∀ l : Fin 128, extractStridedSlice S1024x128 ![0, o] (k0_pay19 (hb m c t)
      (View.ld (iblk m c 3 t) (Rect.unit (s := S1x1024x4096) ![0, 0, p] S1x1024x512.size inb))) hs (ix2 r l)
      = sg m c i (row t r) (Mix.lane u l) := fun l => by
    refine (extractStridedSlice_apply _ _ _ _ (ix2 r (Mix.lane u l)) fun a => ?_).trans
      ((prod_apply _ _ r _).trans (seg_apply m c t i p hp inb r _))
    match a with
    | ⟨0, _⟩ => show r.val = 0 + r.val; omega
    | ⟨1, _⟩ => show u.val * 128 + l.val = o + l.val; omega
  obtain ⟨v, e, rfl⟩ : ∃ (v : Fin 2) (e : Fin 64), l = lane v e :=
    ⟨⟨l.val / 64, by omega⟩, ⟨l.val % 64, by omega⟩, Fin.ext (by show l.val = l.val / 64 * 64 + l.val % 64; omega)⟩
  rw [heads_apply, ldgain u o ho, hx]
  simp only [es]
  unfold hn headNorm
  have em : ∀ d, Mix.lane u (lane v d) = mate (Mix.lane u (lane v e)) d := fun d => Fin.ext (by
    show u.val * 128 + (v.val * 64 + d.val) = (u.val * 128 + (v.val * 64 + e.val)) / 64 * 64 + d.val
    omega)
  have es : ∑ d, sg m c i (row t r) (Mix.lane u (lane v d)) * sg m c i (row t r) (Mix.lane u (lane v d))
      = ∑ d, sg m c i (row t r) (mate (Mix.lane u (lane v e)) d) * sg m c i (row t r) (mate (Mix.lane u (lane v e)) d) :=
    Finset.sum_congr rfl fun d _ => by rw [em d]
  rw [es]

/-- A block's index is a row and a unit; and a block element's place in the array. -/
theorem split (y : S1024x512.Idx) : ∃ (r : Fin 1024) (j : Fin 512), y = ix2 r j :=
  ⟨y 0, y 1, funext fun a => by match a with | ⟨0, _⟩ => rfl | ⟨1, _⟩ => rfl⟩

theorem put (e : S32768x512.Idx) (f : Fin 32768 → Fin 512 → EReal) (p q : Nat) (r : Fin 1024) (j : Fin 512)
    (hp : p = t.val) (hq : q = 0) (h0 : (e 0).val = p * 1024 + 1 * r.val) (h1 : (e 1).val = q * 512 + 1 * j.val) :
    f (row t r) j = arr f e :=
  congrArg₂ f (Fin.ext (by show t.val * 1024 + r.val = _; omega)) (Fin.ext (by omega))

/-- The four pairs of heads of a segment, as the body stores them side by side. -/
def four (p : Nat) (inb : ∀ a, ![0, 0, p] a + S1x1024x512.size a ≤ S1x1024x4096.size a) (x : Vec Ideal S1x1x512 .f32) : Vec Ideal S1024x512 .bf16 :=
  let z := k0_pay19 (hb m c t) (View.ld (iblk m c 3 t) (Rect.unit (s := S1x1024x4096) ![0, 0, p] S1x1024x512.size inb))
  View.canon [⟨r0_16, heads (extractStridedSlice S1024x128 ![0, 384] z slices_S1024x512_o0_384_S1024x128) (View.ld x r0_15)⟩,
    ⟨r0_14, heads (extractStridedSlice S1024x128 ![0, 256] z slices_S1024x512_o0_256_S1024x128) (View.ld x r0_13)⟩,
    ⟨r0_12, heads (extractStridedSlice S1024x128 ![0, 128] z slices_S1024x512_o0_128_S1024x128) (View.ld x r0_11)⟩,
    ⟨r0_10, heads (extractStridedSlice S1024x128 ![0, 0] z slices_S1024x512_o0_0_S1024x128) (View.ld x r0_9)⟩]

/-- One pair's place among the four. -/
theorem piece (i : Fin 8) (p : Nat) (hp : p = i.val * 512) (inb) (u : Fin 4) (o : Nat) (ho : o = u.val * 128) (inb') (inb'')
    (hs : S1024x512.Slices ![0, o] S1024x128) (x : Vec Ideal S1x1x512 .f32) (g : S4x64.Idx → EReal)
    (hx : ∀ j, x (ix3 0 0 j) = g (ix2 0 ⟨j.val % 64, by omega⟩)) (y : S1024x128.Idx) :
    heads (extractStridedSlice S1024x128 ![0, o] (k0_pay19 (hb m c t)
      (View.ld (iblk m c 3 t) (Rect.unit (s := S1x1024x4096) ![0, 0, p] S1x1024x512.size inb))) hs)
      (View.ld x (Rect.unit (s := S1x1x512) ![0, 0, o] S1x1x128.size inb')) y
      = (fun y : S1024x512.Idx => hn m g c i (row t (y 0)) (y 1)) ((Rect.unit (s := S1024x512) ![0, o] S1024x128.size inb'').emb y) := by
  obtain ⟨r, l, rfl⟩ : ∃ (r : Fin 1024) (l : Fin 128), y = ix2 r l := ⟨y 0, y 1, funext fun a => by match a with | ⟨0, _⟩ => rfl | ⟨1, _⟩ => rfl⟩
  rw [pair_apply m c t i p hp inb u o ho inb' hs x g hx r l]
  refine congrArg₂ (fun r j => hn m g c i (row t r) j) (Fin.ext ?_) (Fin.ext ?_)
  · show r.val = 0 + 1 * r.val
    omega
  · show u.val * 128 + l.val = o + 1 * l.val
    omega

theorem four_apply (i : Fin 8) (p : Nat) (hp : p = i.val * 512) (inb) (x : Vec Ideal S1x1x512 .f32) (g : S4x64.Idx → EReal)
    (hx : ∀ j, x (ix3 0 0 j) = g (ix2 0 ⟨j.val % 64, by omega⟩)) (r : Fin 1024) (j : Fin 512) :
    four m c t p inb x (ix2 r j) = hn m g c i (row t r) j := by
  unfold four
  refine View.canon_apply_of_pieces (Val := Elt Ideal) (S := S1024x512) (e := .bf16)
    (fun y : S1024x512.Idx => hn m g c i (row t (y 0)) (y 1)) _ ?_ (ix2 r j) (View.cover_of_tiled_head _ _ _ (by rfl) _)
  simp only [List.forall_mem_cons]
  exact ⟨piece m c t i p hp inb 3 384 rfl _ _ _ x g hx, piece m c t i p hp inb 2 256 rfl _ _ _ x g hx,
    piece m c t i p hp inb 1 128 rfl _ _ _ x g hx, piece m c t i p hp inb 0 0 rfl _ _ _ x g hx, fun p hp => absurd hp List.not_mem_nil⟩

/-- The forget gates at point `t`, and what is stored of them. -/
abbrev gf : FVec Ideal S1024x512 .f32 :=
  k0_pay6 (hb m c t) (k0_pay4 (View.ld (iblk m c 4 t) r0_4)) (k0_pay5 (View.ld (iblk m c 4 t) r0_4)) (View.ld (iblk m c 3 t) r0_5)
abbrev gb : FVec Ideal S1024x512 .f32 :=
  k0_pay14 (k0_pay11 (View.ld (iblk m c 5 t) r0_4)) (k0_pay12 (View.ld (iblk m c 5 t) r0_4)) (k0_pay13 (hb m c t) (View.ld (iblk m c 3 t) r0_7))

theorem gf_apply (r : Fin 1024) (j : Fin 512) : gf m c t (ix2 r j) = fg m (lbf m c) c 1 (row t r) j := by
  unfold gf
  have e : View.ld (iblk m c 4 t) r0_4 = iblk m c 4 t := View.ld_unit_zero hz3 _ _
  rw [gate_apply', e, seg_apply m c t 1 512 rfl, iblk4_apply]
  rfl

theorem gb_apply (r : Fin 1024) (j : Fin 512) : gb m c t (ix2 r j) = fg m (lbb m c) c 2 (row t r) j := by
  unfold gb
  have e : View.ld (iblk m c 5 t) r0_4 = iblk m c 5 t := View.ld_unit_zero hz3 _ _
  rw [gate_apply, e, seg_apply m c t 2 1024 rfl, iblk5_apply]
  rfl

end Block

/-! ## The twelve results, at row `n` and unit `j` -/

variable (c : Dev nD) (n : Fin 32768) (j : Fin 512)

def q := silu (sg m c 0 n j)
def kf := one - fg m (lbf m c) c 1 n j
def kb := one - fg m (lbb m c) c 2 n j
def gfh := lg (fg m (lbf m c) c 1 n j)
def gfl := gfh m c n j - gfh m c n j
def gbh := lg (fg m (lbb m c) c 2 n j)
def gbl := gbh m c n j - gbh m c n j
def vv := sg m c 3 n j
def og := silu (sg m c 4 n j)
def nq := hn m (a6 m c) c 5 n j
def nk := hn m (a7 m c) c 6 n j
def nv := sg m c 7 n j

/-! ## What point `t` writes back to each -/

section Body
attribute [local irreducible] iblk
variable (t : Fin cfg0.N) (r : Fin 1024)

/-- An output window's block from the eight input windows'. -/
abbrev at8 (f : Vec Ideal S1024x1024 .f32 → Vec Ideal S1x1x9x1024 .f32 → Vec Ideal S1x1x1x1024 .f32 → Vec Ideal S1x1024x4096 .bf16
    → Vec Ideal S1x1x512 .f32 → Vec Ideal S1x1x512 .f32 → Vec Ideal S1x1x512 .f32 → Vec Ideal S1x1x512 .f32 → Vec Ideal S1024x512 .bf16) : EReal :=
  f (iblk m c 0 t) (iblk m c 1 t) (iblk m c 2 t) (iblk m c 3 t) (iblk m c 4 t) (iblk m c 5 t) (iblk m c 6 t) (iblk m c 7 t) (ix2 r j)

theorem body8 : at8 m c j t r out0_8 = q m c (row t r) j := by
  unfold at8 out0_8
  rw [View.canon_unit_zero hz2]
  exact (silu_apply _ _ r j).trans (congrArg silu (seg_apply m c t 0 0 rfl _ r j))
theorem body9 : at8 m c j t r out0_9 = kf m c (row t r) j := by
  unfold at8 out0_9
  rw [View.canon_unit_zero hz2]
  exact congrArg (one - ·) (gf_apply m c t r j)
theorem body10 : at8 m c j t r out0_10 = kb m c (row t r) j := by
  unfold at8 out0_10
  rw [View.canon_unit_zero hz2]
  exact congrArg (one - ·) (gb_apply m c t r j)
theorem body11 : at8 m c j t r out0_11 = gfh m c (row t r) j := by
  unfold at8 out0_11
  rw [View.canon_unit_zero hz2]
  exact congrArg lg (gf_apply m c t r j)
theorem body12 : at8 m c j t r out0_12 = gfl m c (row t r) j := by
  unfold at8 out0_12
  rw [View.canon_unit_zero hz2]
  exact congrArg (fun f => lg f - lg f) (gf_apply m c t r j)
theorem body13 : at8 m c j t r out0_13 = gbh m c (row t r) j := by
  unfold at8 out0_13
  rw [View.canon_unit_zero hz2]
  exact congrArg lg (gb_apply m c t r j)
theorem body14 : at8 m c j t r out0_14 = gbl m c (row t r) j := by
  unfold at8 out0_14
  rw [View.canon_unit_zero hz2]
  exact congrArg (fun f => lg f - lg f) (gb_apply m c t r j)
theorem body15 : at8 m c j t r out0_15 = vv m c (row t r) j := by
  unfold at8 out0_15
  rw [View.canon_unit_zero hz2]
  exact (plain_apply _ _ r j).trans (seg_apply m c t 3 1536 rfl _ r j)
theorem body16 : at8 m c j t r out0_16 = og m c (row t r) j := by
  unfold at8 out0_16
  rw [View.canon_unit_zero hz2]
  exact (silu_apply' _ _ r j).trans (congrArg silu (seg_apply m c t 4 2048 rfl _ r j))
theorem body17 : at8 m c j t r out0_17 = nq m c (row t r) j := by
  exact four_apply m c t 5 2560 rfl _ (iblk m c 6 t) (a6 m c) (iblk6_apply m c t) r j
theorem body18 : at8 m c j t r out0_18 = nk m c (row t r) j := by
  exact four_apply m c t 6 3072 rfl _ (iblk m c 7 t) (a7 m c) (iblk7_apply m c t) r j
theorem body19 : at8 m c j t r out0_19 = nv m c (row t r) j := by
  unfold at8 out0_19
  rw [View.canon_unit_zero hz2]
  exact (plain_apply' _ _ r j).trans (seg_apply m c t 7 3584 rfl _ r j)

end Body

/-! ## The arrays after the run -/

theorem index8 (t : Fin cfg0.N) : win0_8.index t 0 = t.val ∧ win0_8.index t 1 = 0 :=
  (by decide +kernel : ∀ t : Fin grid0.N, win0_8.index t 0 = t.val ∧ win0_8.index t 1 = 0) t
theorem final8 : (dats m 0 c).arrAt 8 cfg0.N = arr (q m c) := by
  refine (dats m 0 c).arrAt_eq_of_cover 8 _ (fun t _ => (Value.flushed8 m c t).trans (funext fun y => ?_))
    ((by decide +kernel : (cfg0.win 8).Covers).cover _ (Memref.isWhole_whole _))
  obtain ⟨r, j, rfl⟩ := split y
  exact (body8 m c j t r).trans (put t ((win0_8.rect t).emb (ix2 r j)) (q m c) _ _ r j (index8 t).1 (index8 t).2 rfl rfl)

theorem index9 (t : Fin cfg0.N) : win0_9.index t 0 = t.val ∧ win0_9.index t 1 = 0 :=
  (by decide +kernel : ∀ t : Fin grid0.N, win0_9.index t 0 = t.val ∧ win0_9.index t 1 = 0) t
theorem final9 : (dats m 0 c).arrAt 9 cfg0.N = arr (kf m c) := by
  refine (dats m 0 c).arrAt_eq_of_cover 9 _ (fun t _ => (Value.flushed9 m c t).trans (funext fun y => ?_))
    ((by decide +kernel : (cfg0.win 9).Covers).cover _ (Memref.isWhole_whole _))
  obtain ⟨r, j, rfl⟩ := split y
  exact (body9 m c j t r).trans (put t ((win0_9.rect t).emb (ix2 r j)) (kf m c) _ _ r j (index9 t).1 (index9 t).2 rfl rfl)

theorem index10 (t : Fin cfg0.N) : win0_10.index t 0 = t.val ∧ win0_10.index t 1 = 0 :=
  (by decide +kernel : ∀ t : Fin grid0.N, win0_10.index t 0 = t.val ∧ win0_10.index t 1 = 0) t
theorem final10 : (dats m 0 c).arrAt 10 cfg0.N = arr (kb m c) := by
  refine (dats m 0 c).arrAt_eq_of_cover 10 _ (fun t _ => (Value.flushed10 m c t).trans (funext fun y => ?_))
    ((by decide +kernel : (cfg0.win 10).Covers).cover _ (Memref.isWhole_whole _))
  obtain ⟨r, j, rfl⟩ := split y
  exact (body10 m c j t r).trans (put t ((win0_10.rect t).emb (ix2 r j)) (kb m c) _ _ r j (index10 t).1 (index10 t).2 rfl rfl)

theorem index11 (t : Fin cfg0.N) : win0_11.index t 0 = t.val ∧ win0_11.index t 1 = 0 :=
  (by decide +kernel : ∀ t : Fin grid0.N, win0_11.index t 0 = t.val ∧ win0_11.index t 1 = 0) t
theorem final11 : (dats m 0 c).arrAt 11 cfg0.N = arr (gfh m c) := by
  refine (dats m 0 c).arrAt_eq_of_cover 11 _ (fun t _ => (Value.flushed11 m c t).trans (funext fun y => ?_))
    ((by decide +kernel : (cfg0.win 11).Covers).cover _ (Memref.isWhole_whole _))
  obtain ⟨r, j, rfl⟩ := split y
  exact (body11 m c j t r).trans (put t ((win0_11.rect t).emb (ix2 r j)) (gfh m c) _ _ r j (index11 t).1 (index11 t).2 rfl rfl)

theorem index12 (t : Fin cfg0.N) : win0_12.index t 0 = t.val ∧ win0_12.index t 1 = 0 :=
  (by decide +kernel : ∀ t : Fin grid0.N, win0_12.index t 0 = t.val ∧ win0_12.index t 1 = 0) t
theorem final12 : (dats m 0 c).arrAt 12 cfg0.N = arr (gfl m c) := by
  refine (dats m 0 c).arrAt_eq_of_cover 12 _ (fun t _ => (Value.flushed12 m c t).trans (funext fun y => ?_))
    ((by decide +kernel : (cfg0.win 12).Covers).cover _ (Memref.isWhole_whole _))
  obtain ⟨r, j, rfl⟩ := split y
  exact (body12 m c j t r).trans (put t ((win0_12.rect t).emb (ix2 r j)) (gfl m c) _ _ r j (index12 t).1 (index12 t).2 rfl rfl)

theorem index13 (t : Fin cfg0.N) : win0_13.index t 0 = t.val ∧ win0_13.index t 1 = 0 :=
  (by decide +kernel : ∀ t : Fin grid0.N, win0_13.index t 0 = t.val ∧ win0_13.index t 1 = 0) t
theorem final13 : (dats m 0 c).arrAt 13 cfg0.N = arr (gbh m c) := by
  refine (dats m 0 c).arrAt_eq_of_cover 13 _ (fun t _ => (Value.flushed13 m c t).trans (funext fun y => ?_))
    ((by decide +kernel : (cfg0.win 13).Covers).cover _ (Memref.isWhole_whole _))
  obtain ⟨r, j, rfl⟩ := split y
  exact (body13 m c j t r).trans (put t ((win0_13.rect t).emb (ix2 r j)) (gbh m c) _ _ r j (index13 t).1 (index13 t).2 rfl rfl)

theorem index14 (t : Fin cfg0.N) : win0_14.index t 0 = t.val ∧ win0_14.index t 1 = 0 :=
  (by decide +kernel : ∀ t : Fin grid0.N, win0_14.index t 0 = t.val ∧ win0_14.index t 1 = 0) t
theorem final14 : (dats m 0 c).arrAt 14 cfg0.N = arr (gbl m c) := by
  refine (dats m 0 c).arrAt_eq_of_cover 14 _ (fun t _ => (Value.flushed14 m c t).trans (funext fun y => ?_))
    ((by decide +kernel : (cfg0.win 14).Covers).cover _ (Memref.isWhole_whole _))
  obtain ⟨r, j, rfl⟩ := split y
  exact (body14 m c j t r).trans (put t ((win0_14.rect t).emb (ix2 r j)) (gbl m c) _ _ r j (index14 t).1 (index14 t).2 rfl rfl)

theorem index15 (t : Fin cfg0.N) : win0_15.index t 0 = t.val ∧ win0_15.index t 1 = 0 :=
  (by decide +kernel : ∀ t : Fin grid0.N, win0_15.index t 0 = t.val ∧ win0_15.index t 1 = 0) t
theorem final15 : (dats m 0 c).arrAt 15 cfg0.N = arr (vv m c) := by
  refine (dats m 0 c).arrAt_eq_of_cover 15 _ (fun t _ => (Value.flushed15 m c t).trans (funext fun y => ?_))
    ((by decide +kernel : (cfg0.win 15).Covers).cover _ (Memref.isWhole_whole _))
  obtain ⟨r, j, rfl⟩ := split y
  exact (body15 m c j t r).trans (put t ((win0_15.rect t).emb (ix2 r j)) (vv m c) _ _ r j (index15 t).1 (index15 t).2 rfl rfl)

theorem index16 (t : Fin cfg0.N) : win0_16.index t 0 = t.val ∧ win0_16.index t 1 = 0 :=
  (by decide +kernel : ∀ t : Fin grid0.N, win0_16.index t 0 = t.val ∧ win0_16.index t 1 = 0) t
theorem final16 : (dats m 0 c).arrAt 16 cfg0.N = arr (og m c) := by
  refine (dats m 0 c).arrAt_eq_of_cover 16 _ (fun t _ => (Value.flushed16 m c t).trans (funext fun y => ?_))
    ((by decide +kernel : (cfg0.win 16).Covers).cover _ (Memref.isWhole_whole _))
  obtain ⟨r, j, rfl⟩ := split y
  exact (body16 m c j t r).trans (put t ((win0_16.rect t).emb (ix2 r j)) (og m c) _ _ r j (index16 t).1 (index16 t).2 rfl rfl)

theorem index17 (t : Fin cfg0.N) : win0_17.index t 0 = t.val ∧ win0_17.index t 1 = 0 :=
  (by decide +kernel : ∀ t : Fin grid0.N, win0_17.index t 0 = t.val ∧ win0_17.index t 1 = 0) t
theorem final17 : (dats m 0 c).arrAt 17 cfg0.N = arr (nq m c) := by
  refine (dats m 0 c).arrAt_eq_of_cover 17 _ (fun t _ => (Value.flushed17 m c t).trans (funext fun y => ?_))
    ((by decide +kernel : (cfg0.win 17).Covers).cover _ (Memref.isWhole_whole _))
  obtain ⟨r, j, rfl⟩ := split y
  exact (body17 m c j t r).trans (put t ((win0_17.rect t).emb (ix2 r j)) (nq m c) _ _ r j (index17 t).1 (index17 t).2 rfl rfl)

theorem index18 (t : Fin cfg0.N) : win0_18.index t 0 = t.val ∧ win0_18.index t 1 = 0 :=
  (by decide +kernel : ∀ t : Fin grid0.N, win0_18.index t 0 = t.val ∧ win0_18.index t 1 = 0) t
theorem final18 : (dats m 0 c).arrAt 18 cfg0.N = arr (nk m c) := by
  refine (dats m 0 c).arrAt_eq_of_cover 18 _ (fun t _ => (Value.flushed18 m c t).trans (funext fun y => ?_))
    ((by decide +kernel : (cfg0.win 18).Covers).cover _ (Memref.isWhole_whole _))
  obtain ⟨r, j, rfl⟩ := split y
  exact (body18 m c j t r).trans (put t ((win0_18.rect t).emb (ix2 r j)) (nk m c) _ _ r j (index18 t).1 (index18 t).2 rfl rfl)

theorem index19 (t : Fin cfg0.N) : win0_19.index t 0 = t.val ∧ win0_19.index t 1 = 0 :=
  (by decide +kernel : ∀ t : Fin grid0.N, win0_19.index t 0 = t.val ∧ win0_19.index t 1 = 0) t
theorem final19 : (dats m 0 c).arrAt 19 cfg0.N = arr (nv m c) := by
  refine (dats m 0 c).arrAt_eq_of_cover 19 _ (fun t _ => (Value.flushed19 m c t).trans (funext fun y => ?_))
    ((by decide +kernel : (cfg0.win 19).Covers).cover _ (Memref.isWhole_whole _))
  obtain ⟨r, j, rfl⟩ := split y
  exact (body19 m c j t r).trans (put t ((win0_19.rect t).emb (ix2 r j)) (nv m c) _ _ r j (index19 t).1 (index19 t).2 rfl rfl)

end Cert.Proof.ProjBlocks

end
-- ==== Proof.ProjReference.lean ====
/-
  The projection's reference read at one element: its twelve results at row `n` and unit `j` are the row functions of
  Proof/ProjSpec.lean of row `n` of the argument.
-/
module

public import proofs.«01_k».proof.Proof.ProjSpec
public import proofs.«01_k».proof.Proof.Gen.Reference4Ideal.Read

@[expose] public section

noncomputable section

namespace Cert.Proof.ProjReference

open Idealize.ShloMosaic Idealize.ShloMosaic.ValueIdx Idealize.ShloMosaic.TcCoe Idealize.SL.Sem
open Cert.Reference4Ideal Cert.Reference4Ideal.Read Cert.Ffn Cert.Proj

variable (x0 : S32768x1024.Idx → EReal) (x1 : S4x24x9x1024.Idx → EReal) (x2 : S4x3x1024.Idx → EReal)
  (x3 : S4x1024x4096.Idx → EReal) (x4 x5 : S4x512.Idx → EReal) (x6 x7 : S4x64.Idx → EReal)

/-- Position `s` of sequence `b` as a row. -/
def flat (b : Fin 16) (s : Fin 2048) : Fin 32768 := ⟨b.val * 2048 + s.val, by omega⟩
/-- Sequence `b` among the modulation's. -/
def seq24 (b : Fin 16) : Fin 24 := ⟨b.val, by omega⟩

/-- The input, as sequences. -/
theorem x_apply (b : Fin 16) (s : Fin 2048) (k : Fin 1024) :
    val_main_v4 (F := Ideal) x0 (ix3 b s k) = x0 (ix2 (flat b s) k) := by
  rw [val_main_v4_apply]
  refine congrArg x0 (funext fun a => Fin.ext ?_)
  match a with
  | ⟨0, _⟩ => show ((b.val * 2048 + s.val) * 1024 + k.val) / 1024 = b.val * 2048 + s.val; omega
  | ⟨1, _⟩ => show ((b.val * 2048 + s.val) * 1024 + k.val) % 1024 = k.val; omega

/-- The norm's weight, broadcast. -/
theorem g_apply (b : Fin 16) (s : Fin 2048) (k : Fin 1024) :
    val_main_v18 (F := Ideal) x2 (ix3 b s k) = x2 (ix3 0 1 k) := by
  rw [val_main_v18_apply, val_main_v17_apply, val_main_v6_apply, val_main_v5_apply]
  refine congrArg x2 (funext fun a => Fin.ext ?_)
  match a with
  | ⟨0, _⟩ => rfl
  | ⟨1, _⟩ => rfl
  | ⟨2, _⟩ => show k.val % 1024 = k.val; omega

/-- The reciprocal root of the mean square, broadcast. -/
theorem r_apply (b : Fin 16) (s : Fin 2048) (k : Fin 1024) :
    val_main_v15 (F := Ideal) x0 (ix3 b s k)
      = Ideal.rsqrt (Ideal.div (∑ j, x0 (ix2 (flat b s) j) * x0 (ix2 (flat b s) j)) width + eps) := by
  rw [val_main_v15_apply, val_main_v14_apply, val_main_v13_apply, val_main_v11_apply, val_main_v9_apply, val_main_v8_apply]
  show Ideal.rsqrt (Ideal.div (Ideal.ofBits .f32 0x00000000#32 + _) width + eps) = _
  rw [Ideal.ofBits_zero_f32, zero_add]
  refine congrArg (fun z => Ideal.rsqrt (Ideal.div z width + eps)) (Finset.sum_congr rfl fun j _ => ?_)
  show val_main_v4 (F := Ideal) x0 (ix3 b s j) * val_main_v4 (F := Ideal) x0 (ix3 b s j) = _
  rw [x_apply]

/-- The modulation's row `3 i + j` of sequence `b`, as the reference's nine rows in three threes. -/
theorem mod_apply (b : Fin 16) (i j : Fin 3) (k : Fin 1024) :
    val_main_v3 (F := Ideal) x1 (ix5 b i j 0 k) = x1 (ix4 0 (seq24 b) ⟨i.val * 3 + j.val, by omega⟩ k) := by
  have e3 : idx_main_v2 (idx_main_v3 (ix5 b i j 0 k)) = ix3 b ⟨i.val * 3 + j.val, by omega⟩ k := funext fun a => Fin.ext (by
    match a with
    | ⟨0, _⟩ => show (((b.val * 3 + i.val) * 3 + j.val) * 1024 + k.val) / 9216 = b.val; omega
    | ⟨1, _⟩ => show (((b.val * 3 + i.val) * 3 + j.val) * 1024 + k.val) / 1024 % 9 = i.val * 3 + j.val; omega
    | ⟨2, _⟩ => show (((b.val * 3 + i.val) * 3 + j.val) * 1024 + k.val) % 1024 = k.val; omega)
  rw [val_main_v3_apply, val_main_v2_apply, e3]
  generalize hp : (⟨i.val * 3 + j.val, by omega⟩ : Fin 9) = p
  rw [val_main_v1_apply, val_main_v0_apply]
  refine congrArg x1 (funext fun a => Fin.ext ?_)
  match a with
  | ⟨0, _⟩ => rfl
  | ⟨1, _⟩ => show ((b.val * 9 + p.val) * 1024 + k.val) / 9216 % 16 = b.val; omega
  | ⟨2, _⟩ => show ((b.val * 9 + p.val) * 1024 + k.val) / 1024 % 9 = p.val; omega
  | ⟨3, _⟩ => show ((b.val * 9 + p.val) * 1024 + k.val) % 1024 = k.val; omega

theorem v21_apply (b : Fin 16) (j : Fin 3) (k : Fin 1024) :
    val_main_v21 (F := Ideal) x1 (ix4 b j 0 k) = x1 (ix4 0 (seq24 b) ⟨3 + j.val, by omega⟩ k) := by
  have e : idx_main_v20 (idx_main_v21 (ix4 b j 0 k)) = ix5 b 1 j 0 k := funext fun a => Fin.ext (by
    match a with
    | ⟨0, _⟩ => show (((b.val * 3 + j.val) * 1 + 0) * 1024 + k.val) / 3072 = b.val; omega
    | ⟨1, _⟩ => rfl
    | ⟨2, _⟩ => show (((b.val * 3 + j.val) * 1 + 0) * 1024 + k.val) / 1024 % 3 = j.val; omega
    | ⟨3, _⟩ => rfl
    | ⟨4, _⟩ => show (((b.val * 3 + j.val) * 1 + 0) * 1024 + k.val) % 1024 = k.val; omega)
  rw [val_main_v21_apply, val_main_v20_apply, e, mod_apply]
  rfl

/-- The modulation's scale and shift, broadcast. -/
theorem sc_apply (b : Fin 16) (s : Fin 2048) (k : Fin 1024) :
    val_main_v26 (F := Ideal) x1 (ix3 b s k) = one + x1 (ix4 0 (seq24 b) 4 k) := by
  have e : idx_main_v22 (idx_main_v23 (idx_main_v26 (ix3 b s k))) = ix4 b 1 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v26_apply, val_main_v25_apply]
  refine congrArg (one + ·) ?_
  rw [val_main_v23_apply, val_main_v22_apply, e, v21_apply]
  rfl

theorem sh_apply (b : Fin 16) (s : Fin 2048) (k : Fin 1024) :
    val_main_v30 (F := Ideal) x1 (ix3 b s k) = x1 (ix4 0 (seq24 b) 3 k) := by
  have e : idx_main_v28 (idx_main_v29 (idx_main_v30 (ix3 b s k))) = ix4 b 0 0 k := funext fun a => Fin.ext (by
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega)
  rw [val_main_v30_apply, val_main_v29_apply, val_main_v28_apply, e, v21_apply]
  rfl

/-- The layer's projection weights. -/
theorem w_apply (k : Fin 1024) (f : Fin 4096) : val_main_v33 (F := Ideal) x3 (ix2 k f) = x3 (ix3 0 k f) := by
  rw [val_main_v33_apply, val_main_v32_apply]
  refine congrArg x3 (funext fun a => Fin.ext ?_)
  match a with
  | ⟨0, _⟩ => rfl
  | ⟨1, _⟩ => show (k.val * 4096 + f.val) / 4096 % 1024 = k.val; omega
  | ⟨2, _⟩ => show (k.val * 4096 + f.val) % 4096 = f.val; omega

/-- The normed and modulated row `n`, and unit `j` of segment `i` of its projection. -/
def hrow (n : Fin 32768) : Fin 1024 → EReal :=
  normRow (fun k => x0 (ix2 n k)) (fun k => x2 (ix3 0 1 k)) (fun k => x1 (ix4 0 ⟨n.val / 2048, by omega⟩ 4 k))
    (fun k => x1 (ix4 0 ⟨n.val / 2048, by omega⟩ 3 k))
def sg (i : Fin 8) (n : Fin 32768) (j : Fin 512) : EReal := seg (hrow x0 x1 x2 n) (fun k f => x3 (ix3 0 k f)) i j

theorem h_apply (b : Fin 16) (s : Fin 2048) (k : Fin 1024) :
    val_main_v31 (F := Ideal) x0 x1 x2 (ix3 b s k) = hrow x0 x1 x2 (flat b s) k := by
  rw [val_main_v31_apply, val_main_v27_apply, val_main_v19_apply, val_main_v16_apply, x_apply, r_apply, g_apply, sc_apply, sh_apply]
  have e : (⟨(flat b s).val / 2048, by omega⟩ : Fin 24) = seq24 b := Fin.ext (by
    show (b.val * 2048 + s.val) / 2048 = b.val
    omega)
  unfold hrow normRow
  rw [e]
  rfl

/-- The whole projection at an index of position and column. -/
theorem seg_apply (i : Fin 8) (n : Fin 32768) (j : Fin 512) (e : S16x2048x4096.Idx) (h0 : (e 0).val = n.val / 2048)
    (h1 : (e 1).val = n.val % 2048) (h2 : (e 2).val = i.val * 512 + j.val) :
    val_main_v34 (F := Ideal) x0 x1 x2 x3 e = sg x0 x1 x2 x3 i n j := by
  obtain ⟨b, s, f, rfl⟩ : ∃ (b : Fin 16) (s : Fin 2048) (f : Fin 4096), e = ix3 b s f :=
    ⟨e 0, e 1, e 2, funext fun a => by match a with | ⟨0, _⟩ => rfl | ⟨1, _⟩ => rfl | ⟨2, _⟩ => rfl⟩
  replace h0 : b.val = n.val / 2048 := h0
  replace h1 : s.val = n.val % 2048 := h1
  obtain rfl : f = col i j := Fin.ext h2
  obtain rfl : n = flat b s := Fin.ext (by show n.val = b.val * 2048 + s.val; omega)
  rw [val_main_v34_apply]
  unfold sg seg
  refine Finset.sum_congr rfl fun k _ => ?_
  rw [← h_apply]
  show _ = _ * x3 (ix3 0 k (col i j))
  rw [← w_apply x3]
  exact congrArg₂ (· * ·) (congrArg _ (funext fun a => by match a with | ⟨0, _⟩ => rfl | ⟨1, _⟩ => rfl | ⟨2, _⟩ => rfl))
    (congrArg _ (funext fun a => by match a with | ⟨0, _⟩ => rfl | ⟨1, _⟩ => rfl))

/-- Row `n` and unit `j` as sequence, position and unit. -/
theorem at_row (n : Fin 32768) (j : Fin 512) :
    (n.val * 512 + j.val) / 1048576 = n.val / 2048 ∧ (n.val * 512 + j.val) / 512 % 2048 = n.val % 2048
      ∧ (n.val * 512 + j.val) % 512 = j.val := by omega

/-! ## The eight segments -/

section Results
variable (n : Fin 32768) (j : Fin 512)

theorem v35_apply : val_main_v35 (F := Ideal) x0 x1 x2 x3 (idx_main_v136 (ix2 n j)) = sg x0 x1 x2 x3 0 n j := by
  rw [val_main_v35_apply]
  exact seg_apply x0 x1 x2 x3 0 n j _ (at_row n j).1 (at_row n j).2.1 (by show (n.val * 512 + j.val) % 512 = 0 * 512 + j.val; omega)

theorem v36_apply : val_main_v36 (F := Ideal) x0 x1 x2 x3 (idx_main_v76 (ix2 n j)) = sg x0 x1 x2 x3 1 n j := by
  rw [val_main_v36_apply]
  exact seg_apply x0 x1 x2 x3 1 n j _ (at_row n j).1 (at_row n j).2.1 (by show 512 + (n.val * 512 + j.val) % 512 = 1 * 512 + j.val; omega)

theorem v37_apply : val_main_v37 (F := Ideal) x0 x1 x2 x3 (idx_main_v122 (ix2 n j)) = sg x0 x1 x2 x3 2 n j := by
  rw [val_main_v37_apply]
  exact seg_apply x0 x1 x2 x3 2 n j _ (at_row n j).1 (at_row n j).2.1 (by show 1024 + (n.val * 512 + j.val) % 512 = 2 * 512 + j.val; omega)

theorem v38_apply : val_main_v38 (F := Ideal) x0 x1 x2 x3 (idx_main_v138 (ix2 n j)) = sg x0 x1 x2 x3 3 n j := by
  rw [val_main_v38_apply]
  exact seg_apply x0 x1 x2 x3 3 n j _ (at_row n j).1 (at_row n j).2.1 (by show 1536 + (n.val * 512 + j.val) % 512 = 3 * 512 + j.val; omega)

theorem v39_apply : val_main_v39 (F := Ideal) x0 x1 x2 x3 (idx_main_v141 (ix2 n j)) = sg x0 x1 x2 x3 4 n j := by
  rw [val_main_v39_apply]
  exact seg_apply x0 x1 x2 x3 4 n j _ (at_row n j).1 (at_row n j).2.1 (by show 2048 + (n.val * 512 + j.val) % 512 = 4 * 512 + j.val; omega)

theorem v42_apply : val_main_v42 (F := Ideal) x0 x1 x2 x3 (idx_main_v179 (ix2 n j)) = sg x0 x1 x2 x3 7 n j := by
  rw [val_main_v42_apply]
  exact seg_apply x0 x1 x2 x3 7 n j _ (at_row n j).1 (at_row n j).2.1 (by show 3584 + (n.val * 512 + j.val) % 512 = 7 * 512 + j.val; omega)

/-! ## The gates -/

theorem lb4_apply (j : Fin 512) : val_main_v61 (F := Ideal) x4 (ix1 j) = val_main_v59 (F := Ideal) x4 (ix2 0 j) := by
  rw [val_main_v61_apply, val_main_v60_apply]
  refine congrArg (val_main_v59 (F := Ideal) x4) (funext fun a => Fin.ext ?_)
  match a with
  | ⟨0, _⟩ => rfl
  | ⟨1, _⟩ => show j.val % 512 = j.val; omega

theorem gf_apply : val_main_v76 (F := Ideal) x0 x1 x2 x3 x4 (ix2 n j) = gate (val_main_v59 (F := Ideal) x4 (ix2 0 j)) (sg x0 x1 x2 x3 1 n j) := by
  have e1 : idx_main_v73 (idx_main_v74 (idx_main_v76 (ix2 n j))) = ix1 j := funext fun a => Fin.ext (by
    match a with | ⟨0, _⟩ => exact (at_row n j).2.2)
  have e2 : idx_main_v70 (idx_main_v71 (idx_main_v76 (ix2 n j))) = ix1 j := e1
  rw [val_main_v76_apply, val_main_v75_apply, val_main_v72_apply, val_main_v74_apply, val_main_v73_apply, val_main_v71_apply,
    val_main_v70_apply, val_main_v63_apply, e1, e2, lb4_apply, val_main_v69_apply, val_main_v67_apply, val_main_v65_apply,
    val_main_v64_apply, v36_apply]
  rfl

theorem gf_log_apply : val_main_v81 (F := Ideal) x0 x1 x2 x3 x4 (ix2 n j) = lg (gate (val_main_v59 (F := Ideal) x4 (ix2 0 j)) (sg x0 x1 x2 x3 1 n j)) := by
  rw [val_main_v81_apply, val_main_v77_apply, gf_apply, val_main_v80_apply, val_main_v79_apply, val_main_v78_apply]
  exact div_log_two _

theorem lb5_apply (j : Fin 512) : val_main_v107 (F := Ideal) x5 (ix1 j) = val_main_v105 (F := Ideal) x5 (ix2 0 j) := by
  rw [val_main_v107_apply, val_main_v106_apply]
  refine congrArg (val_main_v105 (F := Ideal) x5) (funext fun a => Fin.ext ?_)
  match a with
  | ⟨0, _⟩ => rfl
  | ⟨1, _⟩ => show j.val % 512 = j.val; omega

theorem gb_apply : val_main_v122 (F := Ideal) x0 x1 x2 x3 x5 (ix2 n j) = gate (val_main_v105 (F := Ideal) x5 (ix2 0 j)) (sg x0 x1 x2 x3 2 n j) := by
  have e1 : idx_main_v119 (idx_main_v120 (idx_main_v122 (ix2 n j))) = ix1 j := funext fun a => Fin.ext (by
    match a with | ⟨0, _⟩ => exact (at_row n j).2.2)
  have e2 : idx_main_v116 (idx_main_v117 (idx_main_v122 (ix2 n j))) = ix1 j := e1
  rw [val_main_v122_apply, val_main_v121_apply, val_main_v118_apply, val_main_v120_apply, val_main_v119_apply, val_main_v117_apply,
    val_main_v116_apply, val_main_v109_apply, e1, e2, lb5_apply, val_main_v115_apply, val_main_v113_apply, val_main_v111_apply,
    val_main_v110_apply, v37_apply]
  rfl

theorem gb_log_apply : val_main_v127 (F := Ideal) x0 x1 x2 x3 x5 (ix2 n j) = lg (gate (val_main_v105 (F := Ideal) x5 (ix2 0 j)) (sg x0 x1 x2 x3 2 n j)) := by
  rw [val_main_v127_apply, val_main_v123_apply, gb_apply, val_main_v126_apply, val_main_v125_apply, val_main_v124_apply]
  exact div_log_two _

/-! ## The norms by heads -/

theorem nq_head_apply (e : S16x2048x8x64.Idx) (d : Fin 64) (h0 : (e 0).val = n.val / 2048) (h1 : (e 1).val = n.val % 2048)
    (h2 : (e 2).val = j.val / 64) (h3 : (e 3).val = d.val) :
    val_main_v143 (F := Ideal) x0 x1 x2 x3 e = sg x0 x1 x2 x3 5 n (mate j d) := by
  rw [val_main_v143_apply, val_main_v40_apply]
  refine seg_apply x0 x1 x2 x3 5 n (mate j d) _ ?_ ?_ ?_
  · show ((((e 0).val * 2048 + (e 1).val) * 8 + (e 2).val) * 64 + (e 3).val) / 1048576 = _
    omega
  · show ((((e 0).val * 2048 + (e 1).val) * 8 + (e 2).val) * 64 + (e 3).val) / 512 % 2048 = _
    omega
  · show 2560 + ((((e 0).val * 2048 + (e 1).val) * 8 + (e 2).val) * 64 + (e 3).val) % 512 = 5 * 512 + (j.val / 64 * 64 + d.val)
    omega

theorem nq_apply : val_main_v159 (F := Ideal) x0 x1 x2 x3 x6 (ix2 n j)
    = headNorm (fun j => sg x0 x1 x2 x3 5 n j) (x6 (ix2 0 ⟨j.val % 64, by omega⟩)) j := by
  obtain ⟨h0, h1, h2, h3⟩ : (n.val * 512 + j.val) / 1048576 = n.val / 2048 ∧ (n.val * 512 + j.val) / 512 % 2048 = n.val % 2048
    ∧ (n.val * 512 + j.val) / 64 % 8 = j.val / 64 ∧ (n.val * 512 + j.val) % 64 = j.val % 64 := by omega
  have em : mate j ⟨j.val % 64, by omega⟩ = j := Fin.ext (by show j.val / 64 * 64 + j.val % 64 = j.val; omega)
  have eg : idx_main_v144 (idx_main_v145 (idx_main_v156 (idx_main_v157 (idx_main_v159 (ix2 n j))))) = ix2 0 ⟨j.val % 64, by omega⟩ :=
    funext fun a => Fin.ext (by
      match a with
      | ⟨0, _⟩ => rfl
      | ⟨1, _⟩ => show (n.val * 512 + j.val) % 64 % 64 = j.val % 64; omega)
  rw [val_main_v159_apply, val_main_v158_apply, val_main_v157_apply, val_main_v156_apply, val_main_v145_apply, val_main_v144_apply, eg,
    val_main_v155_apply, val_main_v154_apply, val_main_v153_apply, val_main_v152_apply, val_main_v150_apply, val_main_v148_apply, val_main_v147_apply,
    nq_head_apply x0 x1 x2 x3 n j _ ⟨j.val % 64, by omega⟩ h0 h1 h2 h3, em]
  show _ * Ideal.rsqrt (Ideal.div (Ideal.ofBits .f32 0x00000000#32 + _) sixtyFour + eps) * _ = _
  rw [Ideal.ofBits_zero_f32, zero_add]
  refine congrArg (fun z => sg x0 x1 x2 x3 5 n j * Ideal.rsqrt (Ideal.div z sixtyFour + eps) * x6 (ix2 0 ⟨j.val % 64, by omega⟩))
    (Finset.sum_congr rfl fun d _ => ?_)
  rw [val_main_v146_apply, nq_head_apply x0 x1 x2 x3 n j _ d h0 h1 h2 rfl]
  rfl

theorem nk_head_apply (e : S16x2048x8x64.Idx) (d : Fin 64) (h0 : (e 0).val = n.val / 2048) (h1 : (e 1).val = n.val % 2048)
    (h2 : (e 2).val = j.val / 64) (h3 : (e 3).val = d.val) :
    val_main_v161 (F := Ideal) x0 x1 x2 x3 e = sg x0 x1 x2 x3 6 n (mate j d) := by
  rw [val_main_v161_apply, val_main_v41_apply]
  refine seg_apply x0 x1 x2 x3 6 n (mate j d) _ ?_ ?_ ?_
  · show ((((e 0).val * 2048 + (e 1).val) * 8 + (e 2).val) * 64 + (e 3).val) / 1048576 = _
    omega
  · show ((((e 0).val * 2048 + (e 1).val) * 8 + (e 2).val) * 64 + (e 3).val) / 512 % 2048 = _
    omega
  · show 3072 + ((((e 0).val * 2048 + (e 1).val) * 8 + (e 2).val) * 64 + (e 3).val) % 512 = 6 * 512 + (j.val / 64 * 64 + d.val)
    omega

theorem nk_apply : val_main_v177 (F := Ideal) x0 x1 x2 x3 x7 (ix2 n j)
    = headNorm (fun j => sg x0 x1 x2 x3 6 n j) (x7 (ix2 0 ⟨j.val % 64, by omega⟩)) j := by
  obtain ⟨h0, h1, h2, h3⟩ : (n.val * 512 + j.val) / 1048576 = n.val / 2048 ∧ (n.val * 512 + j.val) / 512 % 2048 = n.val % 2048
    ∧ (n.val * 512 + j.val) / 64 % 8 = j.val / 64 ∧ (n.val * 512 + j.val) % 64 = j.val % 64 := by omega
  have em : mate j ⟨j.val % 64, by omega⟩ = j := Fin.ext (by show j.val / 64 * 64 + j.val % 64 = j.val; omega)
  have eg : idx_main_v162 (idx_main_v163 (idx_main_v174 (idx_main_v175 (idx_main_v177 (ix2 n j))))) = ix2 0 ⟨j.val % 64, by omega⟩ :=
    funext fun a => Fin.ext (by
      match a with
      | ⟨0, _⟩ => rfl
      | ⟨1, _⟩ => show (n.val * 512 + j.val) % 64 % 64 = j.val % 64; omega)
  rw [val_main_v177_apply, val_main_v176_apply, val_main_v175_apply, val_main_v174_apply, val_main_v163_apply, val_main_v162_apply, eg,
    val_main_v173_apply, val_main_v172_apply, val_main_v171_apply, val_main_v170_apply, val_main_v168_apply, val_main_v166_apply, val_main_v165_apply,
    nk_head_apply x0 x1 x2 x3 n j _ ⟨j.val % 64, by omega⟩ h0 h1 h2 h3, em]
  show _ * Ideal.rsqrt (Ideal.div (Ideal.ofBits .f32 0x00000000#32 + _) sixtyFour + eps) * _ = _
  rw [Ideal.ofBits_zero_f32, zero_add]
  refine congrArg (fun z => sg x0 x1 x2 x3 6 n j * Ideal.rsqrt (Ideal.div z sixtyFour + eps) * x7 (ix2 0 ⟨j.val % 64, by omega⟩))
    (Finset.sum_congr rfl fun d _ => ?_)
  rw [val_main_v164_apply, nk_head_apply x0 x1 x2 x3 n j _ d h0 h1 h2 rfl]
  rfl

/-! ## The results not already read -/

theorem q_apply : val_main_v137 (F := Ideal) x0 x1 x2 x3 (ix2 n j) = silu (sg x0 x1 x2 x3 0 n j) := by
  rw [val_main_v137_apply, val_main_v136_apply, val_main_v135_apply, val_main_call2_v5_apply, val_main_call2_v3_apply, val_main_call2_v1_apply,
    val_main_call2_v0_apply, v35_apply]
  rfl

theorem og_apply : val_main_v142 (F := Ideal) x0 x1 x2 x3 (ix2 n j) = silu (sg x0 x1 x2 x3 4 n j) := by
  rw [val_main_v142_apply, val_main_v141_apply, val_main_v140_apply, val_main_call3_v5_apply, val_main_call3_v3_apply, val_main_call3_v1_apply,
    val_main_call3_v0_apply, v39_apply]
  rfl

theorem gf_keep_apply : val_main_v85 (F := Ideal) x0 x1 x2 x3 x4 (ix2 n j) = one - gate (val_main_v59 (F := Ideal) x4 (ix2 0 j)) (sg x0 x1 x2 x3 1 n j) := by
  rw [val_main_v85_apply, val_main_v84_apply, gf_apply]
  rfl

theorem gf_hi_apply : val_main_v82 (F := Ideal) x0 x1 x2 x3 x4 (ix2 n j) = lg (gate (val_main_v59 (F := Ideal) x4 (ix2 0 j)) (sg x0 x1 x2 x3 1 n j)) := by
  rw [val_main_v82_apply, gf_log_apply]
  rfl

/-- What the first part leaves over; over the ideal numbers the first part is the whole logarithm. -/
theorem gf_lo_apply : val_main_v88 (F := Ideal) x0 x1 x2 x3 x4 (ix2 n j)
    = lg (gate (val_main_v59 (F := Ideal) x4 (ix2 0 j)) (sg x0 x1 x2 x3 1 n j)) - lg (gate (val_main_v59 (F := Ideal) x4 (ix2 0 j)) (sg x0 x1 x2 x3 1 n j)) := by
  rw [val_main_v88_apply, val_main_v87_apply, val_main_v86_apply, gf_hi_apply, gf_log_apply]
  rfl

theorem gb_keep_apply : val_main_v131 (F := Ideal) x0 x1 x2 x3 x5 (ix2 n j) = one - gate (val_main_v105 (F := Ideal) x5 (ix2 0 j)) (sg x0 x1 x2 x3 2 n j) := by
  rw [val_main_v131_apply, val_main_v130_apply, gb_apply]
  rfl

theorem gb_hi_apply : val_main_v128 (F := Ideal) x0 x1 x2 x3 x5 (ix2 n j) = lg (gate (val_main_v105 (F := Ideal) x5 (ix2 0 j)) (sg x0 x1 x2 x3 2 n j)) := by
  rw [val_main_v128_apply, gb_log_apply]
  rfl

/-- What the first part leaves over; over the ideal numbers the first part is the whole logarithm. -/
theorem gb_lo_apply : val_main_v134 (F := Ideal) x0 x1 x2 x3 x5 (ix2 n j)
    = lg (gate (val_main_v105 (F := Ideal) x5 (ix2 0 j)) (sg x0 x1 x2 x3 2 n j)) - lg (gate (val_main_v105 (F := Ideal) x5 (ix2 0 j)) (sg x0 x1 x2 x3 2 n j)) := by
  rw [val_main_v134_apply, val_main_v133_apply, val_main_v132_apply, gb_hi_apply, gb_log_apply]
  rfl

theorem v_apply : val_main_v139 (F := Ideal) x0 x1 x2 x3 (ix2 n j) = sg x0 x1 x2 x3 3 n j := by
  rw [val_main_v139_apply, val_main_v138_apply, v38_apply]
  rfl

theorem nv_apply : val_main_v180 (F := Ideal) x0 x1 x2 x3 (ix2 n j) = sg x0 x1 x2 x3 7 n j := by
  rw [val_main_v180_apply, val_main_v179_apply, v42_apply]
  rfl

theorem nq_out_apply : val_main_v160 (F := Ideal) x0 x1 x2 x3 x6 (ix2 n j)
    = headNorm (fun j => sg x0 x1 x2 x3 5 n j) (x6 (ix2 0 ⟨j.val % 64, by omega⟩)) j := by
  rw [val_main_v160_apply, nq_apply]
  rfl

theorem nk_out_apply : val_main_v178 (F := Ideal) x0 x1 x2 x3 x7 (ix2 n j)
    = headNorm (fun j => sg x0 x1 x2 x3 6 n j) (x7 (ix2 0 ⟨j.val % 64, by omega⟩)) j := by
  rw [val_main_v178_apply, nk_apply]
  rfl

end Results

end Cert.Proof.ProjReference

end
-- ==== Proof.ProjClaim.lean ====
/-
  The projection call: the kernel's twelve result arrays and the reference's are the same functions of the arguments.
-/
module

public import proofs.«01_k».proof.Defs
public import proofs.«01_k».proof.Proof.ProjBlocks
public import proofs.«01_k».proof.Proof.ProjReference
public import proofs.«01_k».proof.Proof.Gen.Reference4Ideal.Run
public import proofs.«01_k».proof.Proof.Gen.Kernel4Ideal.Value
public import proofs.«01_k».proof.Proof.Gen.Kernel4Ideal
public import proofs.«01_k».proof.Proof.Gen.Reference4Ideal

@[expose] public section

noncomputable section

namespace Cert.Proof

open Idealize.ShloMosaic Idealize.ShloMosaic.ValueIdx Idealize.ShloMosaic.TcCoe Idealize.SL.Sem
open Cert.Reference4Ideal.Read Cert.Proof.ProjReference

/-- An array known at every row and unit. -/
theorem proj_ext {x : Cert.Kernel4Ideal.S32768x512.Idx → EReal} {f : Fin 32768 → Fin 512 → EReal}
    (h : ∀ n j, x (ix2 n j) = f n j) : x = ProjBlocks.arr f := by
  funext i
  obtain ⟨n, j, rfl⟩ : ∃ (n : Fin 32768) (j : Fin 512), i = ix2 n j :=
    ⟨i 0, i 1, funext fun a => by match a with | ⟨0, _⟩ => rfl | ⟨1, _⟩ => rfl⟩
  exact h n j

/-- The reference's lower bounds are the ones that the kernel's host code makes, in both directions. -/
theorem val_lower_f (x : Cert.Kernel4Ideal.S4x512.Idx → EReal) : val_main_v59 (F := Ideal) x = ProjBlocks.lower x := by
  unfold ProjBlocks.lower; rfl
theorem val_lower_b (x : Cert.Kernel4Ideal.S4x512.Idx → EReal) : val_main_v105 (F := Ideal) x = ProjBlocks.lower x := by
  unfold ProjBlocks.lower; rfl

set_option maxHeartbeats 4000000 in
/-- Over the ideal numbers the kernel's twelve results and the reference's are the same arrays, and both leave their
    arguments as they were. -/
theorem proj_algebraic : Cert.algebraic_Kernel4Ideal_Reference4Ideal
    (hKernel4Ideal := Cert.Kernel4Ideal.Gen.facts) (hReference4Ideal := Cert.Reference4Ideal.Gen.facts) := by
  intro m ρ m' ρ' _ hag
  refine ⟨fun c => ProjBlocks.arr (ProjBlocks.q m c), fun c => ProjBlocks.arr (ProjBlocks.kf m c),
    fun c => ProjBlocks.arr (ProjBlocks.kb m c), fun c => ProjBlocks.arr (ProjBlocks.gfh m c),
    fun c => ProjBlocks.arr (ProjBlocks.gfl m c), fun c => ProjBlocks.arr (ProjBlocks.gbh m c),
    fun c => ProjBlocks.arr (ProjBlocks.gbl m c), fun c => ProjBlocks.arr (ProjBlocks.vv m c),
    fun c => ProjBlocks.arr (ProjBlocks.og m c), fun c => ProjBlocks.arr (ProjBlocks.nq m c),
    fun c => ProjBlocks.arr (ProjBlocks.nk m c), fun c => ProjBlocks.arr (ProjBlocks.nv m c), ?_, ?_⟩
  · refine (θ_run _ _ _).mono (fun _ h c => ?_) (Cert.Kernel4Ideal.Value.run_blocks m ρ)
    obtain ⟨r0, r1, r2, r3, r4, r5, r6, r7, r8, r9, r10, r11, kept⟩ := h c
    exact ⟨r0.trans (ProjBlocks.final8 m c), r1.trans (ProjBlocks.final9 m c), r2.trans (ProjBlocks.final10 m c),
      r3.trans (ProjBlocks.final11 m c), r4.trans (ProjBlocks.final12 m c), r5.trans (ProjBlocks.final13 m c),
      r6.trans (ProjBlocks.final14 m c), r7.trans (ProjBlocks.final15 m c), r8.trans (ProjBlocks.final16 m c),
      r9.trans (ProjBlocks.final17 m c), r10.trans (ProjBlocks.final18 m c), r11.trans (ProjBlocks.final19 m c), kept⟩
  · refine (θ_run _ _ _).mono (fun _ h c => ?_) (Cert.Reference4Ideal.Value.run m' ρ')
    obtain ⟨r0, r1, r2, r3, r4, r5, r6, r7, r8, r9, r10, r11, kept⟩ := h c
    obtain ⟨h0, h1, h2, h3, h4, h5, h6, h7⟩ := hag c
    replace h0 : StableHlo.launchContents m' c (Proc.devRef .tc Cert.Reference4Ideal.main_arg0) = ProjBlocks.a0 m c := h0
    replace h1 : StableHlo.launchContents m' c (Proc.devRef .tc Cert.Reference4Ideal.main_arg1) = ProjBlocks.a1 m c := h1
    replace h2 : StableHlo.launchContents m' c (Proc.devRef .tc Cert.Reference4Ideal.main_arg2) = ProjBlocks.a2 m c := h2
    replace h3 : StableHlo.launchContents m' c (Proc.devRef .tc Cert.Reference4Ideal.main_arg3) = ProjBlocks.a3 m c := h3
    replace h4 : StableHlo.launchContents m' c (Proc.devRef .tc Cert.Reference4Ideal.main_arg4) = ProjBlocks.a4 m c := h4
    replace h5 : StableHlo.launchContents m' c (Proc.devRef .tc Cert.Reference4Ideal.main_arg5) = ProjBlocks.a5 m c := h5
    replace h6 : StableHlo.launchContents m' c (Proc.devRef .tc Cert.Reference4Ideal.main_arg6) = ProjBlocks.a6 m c := h6
    replace h7 : StableHlo.launchContents m' c (Proc.devRef .tc Cert.Reference4Ideal.main_arg7) = ProjBlocks.a7 m c := h7
    refine ⟨r0.trans ?_, r1.trans ?_, r2.trans ?_, r3.trans ?_, r4.trans ?_, r5.trans ?_, r6.trans ?_, r7.trans ?_,
      r8.trans ?_, r9.trans ?_, r10.trans ?_, r11.trans ?_, kept⟩
    · rw [val_main_v137_eq, h0, h1, h2, h3]; exact proj_ext fun n j => q_apply _ _ _ _ n j
    · rw [val_main_v85_eq, h0, h1, h2, h3, h4]; exact proj_ext fun n j => (gf_keep_apply _ _ _ _ _ n j).trans (by rw [val_lower_f, ← ProjBlocks.lbf_eq]; rfl)
    · rw [val_main_v131_eq, h0, h1, h2, h3, h5]; exact proj_ext fun n j => (gb_keep_apply _ _ _ _ _ n j).trans (by rw [val_lower_b, ← ProjBlocks.lbb_eq]; rfl)
    · rw [val_main_v82_eq, h0, h1, h2, h3, h4]; exact proj_ext fun n j => (gf_hi_apply _ _ _ _ _ n j).trans (by rw [val_lower_f, ← ProjBlocks.lbf_eq]; rfl)
    · rw [val_main_v88_eq, h0, h1, h2, h3, h4]; exact proj_ext fun n j => (gf_lo_apply _ _ _ _ _ n j).trans (by rw [val_lower_f, ← ProjBlocks.lbf_eq]; rfl)
    · rw [val_main_v128_eq, h0, h1, h2, h3, h5]; exact proj_ext fun n j => (gb_hi_apply _ _ _ _ _ n j).trans (by rw [val_lower_b, ← ProjBlocks.lbb_eq]; rfl)
    · rw [val_main_v134_eq, h0, h1, h2, h3, h5]; exact proj_ext fun n j => (gb_lo_apply _ _ _ _ _ n j).trans (by rw [val_lower_b, ← ProjBlocks.lbb_eq]; rfl)
    · rw [val_main_v139_eq, h0, h1, h2, h3]; exact proj_ext fun n j => v_apply _ _ _ _ n j
    · rw [val_main_v142_eq, h0, h1, h2, h3]; exact proj_ext fun n j => og_apply _ _ _ _ n j
    · rw [val_main_v160_eq, h0, h1, h2, h3, h6]; exact proj_ext fun n j => nq_out_apply _ _ _ _ _ n j
    · rw [val_main_v178_eq, h0, h1, h2, h3, h7]; exact proj_ext fun n j => nk_out_apply _ _ _ _ _ n j
    · rw [val_main_v180_eq, h0, h1, h2, h3]; exact proj_ext fun n j => nv_apply _ _ _ _ n j

end Cert.Proof

end
-- ==== Proof.ModKernel.lean ====
/-
  The modulation call: what its kernel stores, at one element, and the array that its 32 blocks make.
-/
module

public import proofs.«01_k».proof.Proof.MixSpec
public import proofs.«01_k».proof.Proof.Gen.Kernel5Ideal.Value
public import Idealize.ShloMosaic.Lib.Pipeline.ValueKit.Tiles
public import Idealize.ShloMosaic.Lib.Claim

@[expose] public section

noncomputable section

namespace Cert.Proof.ModKernel

open Idealize.ShloMosaic Idealize.ShloMosaic.ValueIdx Idealize.ShloMosaic.TcCoe Idealize.SL.Sem
open Cert.Kernel5Ideal Cert.Kernel5Ideal.Gen Cert.Ffn
open Idealize.ShloMosaic.Pipeline (Dat Cfg Window)

/-- One entry of the modulation: the row's SiLU against a column, plus its bias. -/
def entry (x : Fin 1024 → EReal) (w : Fin 1024 → EReal) (b : EReal) : EReal := (∑ k, silu (x k) * w k) + b

/-- A leading unit axis added. -/
theorem lead_apply {α : Type} {a b : Nat} (x : (⟨2, ![a, b]⟩ : Shape).Idx → α)
    (h : (⟨2, ![a, b]⟩ : Shape).ShapeCasts ⟨3, ![1, a, b]⟩) (p : Fin a) (q : Fin b) :
    shapeCast ⟨3, ![1, a, b]⟩ x h (ix3 0 p q) = x (ix2 p q) := by
  refine shapeCast_apply x h _ _ ?_
  rw [Shape.rowMajor_val_three, Shape.rowMajor_val_two]
  show p.val * b + q.val = (0 * a + p.val) * b + q.val
  rw [Nat.zero_mul, Nat.zero_add]

/-- What the body stores, at row `r` and column `j` of its block. -/
theorem pay1_apply (x : Vec Ideal S24x1024 .f32) (w : Vec Ideal S1x1024x1152 .f32) (b : Vec Ideal S1x1x1152 .f32)
    (r : Fin 24) (j : Fin 1152) :
    k0_pay1 x w b (ix3 0 r j) = entry (fun k => x (ix2 r k)) (fun k => w (ix3 0 k j)) (b (ix3 0 0 j)) := by
  unfold k0_pay1 entry
  rw [lead_apply, addf_apply, bcast_row_apply (by decide), Mix.cast1_apply]
  refine congrArg (· + b (ix3 0 0 j)) ?_
  refine (mm_apply _ rfl _ _ r j).trans (Finset.sum_congr rfl fun k _ => ?_)
  rw [truncf_apply, truncf_apply, Mix.cast1_apply]
  refine congrArg (· * w (ix3 0 k j)) ?_
  have e : shapeCast S24x1024 x shapeCasts_S24x1024_S24x1024 (ix2 r k) = x (ix2 r k) := shapeCast_apply _ _ _ _ rfl
  rw [mulf_apply, e]
  unfold silu
  refine congrArg (x (ix2 r k) * ·) ?_
  show Ideal.div one (one + Ideal.exp (Ideal.ofBits .f32 0x00000000#32 - shapeCast S24x1024 x shapeCasts_S24x1024_S24x1024 (ix2 r k))) = _
  rw [e, Ideal.ofBits_zero_f32, zero_sub]

/-! ## From a block to the array -/

variable (m : (ℓ : Loc nD τ sig) → Buf (Elt Ideal) ℓ)

/-- The argument arrays, as launched. -/
abbrev a0 (c : Dev nD) : S16x1024.Idx → EReal := m ((c : Thread nD τ).loc main_arg0)
abbrev a1 (c : Dev nD) : S8x1024.Idx → EReal := m ((c : Thread nD τ).loc main_arg1)
abbrev a2 (c : Dev nD) : S4x1024x9216.Idx → EReal := m ((c : Thread nD τ).loc main_arg2)
abbrev a3 (c : Dev nD) : S4x9216.Idx → EReal := m ((c : Thread nD τ).loc main_arg3)

/-- The conditioning rows of the prompts, then those of the samples. -/
def rows (x : S16x1024.Idx → EReal) (y : S8x1024.Idx → EReal) : S24x1024.Idx → EReal :=
  concatenate S24x1024 0 [⟨S16x1024, x⟩, ⟨S8x1024, y⟩] concatenates_S16x1024_S8x1024_S24x1024_d0

/-- What the region finds in the joined rows and in the reshaped bias. -/
theorem V_v0 (c : Dev nD) : V m c main_v0 = rows (a0 m c) (a1 m c) := by
  entry_read; rfl
theorem V_v1 (c : Dev nD) : V m c main_v1 = shapeCast S4x1x9216 (a3 m c) shapeCasts_S4x9216_S4x1x9216 := by
  entry_read; rfl

/-- The windows' block indices over the 32 points: 4 layers by 8 blocks of columns. -/
theorem index0 (t : Fin cfg0.N) (a : Fin 2) : win0_0.index t a = 0 :=
  (by decide +kernel : ∀ (t : Fin grid0.N) (a : Fin 2), win0_0.index t a = 0) t a
theorem index1 (t : Fin cfg0.N) : win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8) t
theorem index2 (t : Fin cfg0.N) : win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8) t
theorem index3 (t : Fin cfg0.N) : win0_3.index t 0 = t.val / 8 ∧ win0_3.index t 1 = 0 ∧ win0_3.index t 2 = t.val % 8 :=
  (by decide +kernel : ∀ t : Fin grid0.N, win0_3.index t 0 = t.val / 8 ∧ win0_3.index t 1 = 0 ∧ win0_3.index t 2 = t.val % 8) t

/-- Point `t`'s layer, and its column `j` in the array. -/
theorem lt_N (t : Fin cfg0.N) : t.val < 32 := lt_of_lt_of_eq t.isLt N_0
def layer (t : Fin cfg0.N) : Fin 4 := ⟨t.val / 8, by have := lt_N t; omega⟩
def column (t : Fin cfg0.N) (j : Fin 1152) : Fin 9216 := ⟨t.val % 8 * 1152 + j.val, by omega⟩

/-- The staged blocks, read at an index. -/
theorem iblk0_apply (c : Dev nD) (t : Fin cfg0.N) (r : Fin 24) (k : Fin 1024) :
    iblk m c 0 t (ix2 r k) = rows (a0 m c) (a1 m c) (ix2 r k) := by
  unfold iblk
  show V m c main_v0 ((win0_0.rect t).emb (ix2 r k)) = _
  rw [V_v0]
  refine congrArg (rows (a0 m c) (a1 m c)) (funext fun a => Fin.ext ?_)
  match a with
  | ⟨0, _⟩ => show win0_0.index t 0 * 24 + 1 * r.val = r.val; rw [index0]; omega
  | ⟨1, _⟩ => show win0_0.index t 1 * 1024 + 1 * k.val = k.val; rw [index0]; omega

theorem iblk1_apply (c : Dev nD) (t : Fin cfg0.N) (k : Fin 1024) (j : Fin 1152) :
    iblk m c 1 t (ix3 0 k j) = a2 m c (ix3 (layer t) k (column t j)) := by
  unfold iblk
  show V m c main_arg2 ((win0_1.rect t).emb (ix3 0 k j)) = _
  rw [V_main_arg2]
  refine congrArg (a2 m c) (funext fun a => Fin.ext ?_)
  match a with
  | ⟨0, _⟩ => show win0_1.index t 0 * 1 + 1 * 0 = t.val / 8; rw [(index1 t).1]; omega
  | ⟨1, _⟩ => show win0_1.index t 1 * 1024 + 1 * k.val = k.val; rw [(index1 t).2.1]; omega
  | ⟨2, _⟩ => show win0_1.index t 2 * 1152 + 1 * j.val = t.val % 8 * 1152 + j.val; rw [(index1 t).2.2]; omega

theorem iblk2_apply (c : Dev nD) (t : Fin cfg0.N) (j : Fin 1152) :
    iblk m c 2 t (ix3 0 0 j) = a3 m c (ix2 (layer t) (column t j)) := by
  unfold iblk
  show V m c main_v1 ((win0_2.rect t).emb (ix3 0 0 j)) = _
  rw [V_v1]
  refine shapeCast_apply _ _ _ _ ?_
  rw [Shape.rowMajor_val_three, Shape.rowMajor_val_two]
  show t.val / 8 * 9216 + (t.val % 8 * 1152 + j.val) = ((win0_2.index t 0 * 1 + 1 * 0) * 1 + (win0_2.index t 1 * 1 + 1 * 0)) * 9216
    + (win0_2.index t 2 * 1152 + 1 * j.val)
  rw [(index2 t).1, (index2 t).2.1, (index2 t).2.2]; omega

/-- The result: layer `l`'s modulation of row `r`, at column `j`. -/
def out (x : S24x1024.Idx → EReal) (w : S4x1024x9216.Idx → EReal) (b : S4x9216.Idx → EReal) (l : Fin 4) (r : Fin 24) (j : Fin 9216) : EReal :=
  entry (fun k => x (ix2 r k)) (fun k => w (ix3 l k j)) (b (ix2 l j))
def outArr (c : Dev nD) : Buf (Elt Ideal) ((c : Thread nD τ).loc main_v2) :=
  fun i => out (rows (a0 m c) (a1 m c)) (a2 m c) (a3 m c) (i 0) (i 1) (i 2)

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back, at row `r` and column `j` of its block. -/
theorem body_apply (c : Dev nD) (t : Fin cfg0.N) (r : Fin 24) (j : Fin 1152) :
    out0_3 (iblk m c 0 t) (iblk m c 1 t) (iblk m c 2 t) (ix3 0 r j)
      = out (rows (a0 m c) (a1 m c)) (a2 m c) (a3 m c) (layer t) r (column t j) := by
  unfold out0_3
  rw [View.canon_unit_zero hz3, View.ld_unit_zero hz2, View.ld_unit_zero hz3, View.ld_unit_zero hz3, pay1_apply]
  simp only [iblk0_apply, iblk1_apply, iblk2_apply]
  rfl

theorem flushed_eq (c : Dev nD) (t : Fin cfg0.N) :
    (dats m 0 c).flushed 3 t = (win0_3.blk t).view.read (Elt Ideal) (outArr m c) := by
  rw [Value.flushed3]
  funext i
  obtain ⟨r, j, rfl⟩ : ∃ (r : Fin 24) (j : Fin 1152), i = ix3 0 r j :=
    ⟨i 1, i 2, funext fun a => by
      match a with
      | ⟨0, _⟩ => exact Fin.ext (Nat.lt_one_iff.mp (i 0).isLt)
      | ⟨1, _⟩ => rfl
      | ⟨2, _⟩ => rfl⟩
  refine (body_apply m c t r j).trans ?_
  show _ = outArr m c ((win0_3.rect t).emb (ix3 0 r j))
  unfold outArr
  have e0 : layer t = (win0_3.rect t).emb (ix3 0 r j) 0 := Fin.ext (by
    show t.val / 8 = win0_3.index t 0 * 1 + 1 * 0
    rw [(index3 t).1]; omega)
  have e1 : r = (win0_3.rect t).emb (ix3 0 r j) 1 := Fin.ext (by
    show r.val = win0_3.index t 1 * 24 + 1 * r.val
    rw [(index3 t).2.1]; omega)
  have e2 : column t j = (win0_3.rect t).emb (ix3 0 r j) 2 := Fin.ext (by
    show t.val % 8 * 1152 + j.val = win0_3.index t 2 * 1152 + 1 * j.val
    rw [(index3 t).2.2]; omega)
  rw [← e0, ← e1, ← e2]

/-- Point `t`'s block is its layer's 1152 columns from `t % 8 * 1152`. -/
theorem mem_blk (t : Fin cfg0.N) (i : S4x24x9216.Idx) (h0 : (i 0 : Nat) = t.val / 8) (h2 : t.val % 8 * 1152 ≤ (i 2 : Nat))
    (h2' : (i 2 : Nat) < t.val % 8 * 1152 + 1152) : i ∈ ((cfg0.win 3).blk t).view.set := by
  show i ∈ ((View.whole main_v2).slice (win0_3.rect t)).set
  rw [View.set_slice_whole, Rect.mem_set_unit]
  intro a
  have h1 : (i 1 : Nat) < 24 := (i 1).isLt
  match a with
  | ⟨0, _⟩ =>
    show win0_3.index t 0 * 1 ≤ (i 0 : Nat) ∧ (i 0 : Nat) < win0_3.index t 0 * 1 + 1
    rw [(index3 t).1]; omega
  | ⟨1, _⟩ =>
    show win0_3.index t 1 * 24 ≤ (i 1 : Nat) ∧ (i 1 : Nat) < win0_3.index t 1 * 24 + 24
    rw [(index3 t).2.1]; omega
  | ⟨2, _⟩ =>
    show win0_3.index t 2 * 1152 ≤ (i 2 : Nat) ∧ (i 2 : Nat) < win0_3.index t 2 * 1152 + 1152
    rw [(index3 t).2.2]; exact ⟨h2, h2'⟩

/-- The blocks tile the array. -/
theorem cover (i : S4x24x9216.Idx) : ∃ t : Fin cfg0.N, (cfg0.win 3).flush t = true ∧ i ∈ ((cfg0.win 3).blk t).view.set := by
  have h0 : (i 0 : Nat) < 4 := (i 0).isLt
  have h2 : (i 2 : Nat) < 9216 := (i 2).isLt
  have hN : cfg0.N = 32 := N_0
  have ht : (i 0 : Nat) * 8 + (i 2 : Nat) / 1152 < cfg0.N := by omega
  exact ⟨⟨(i 0 : Nat) * 8 + (i 2 : Nat) / 1152, ht⟩, flush0_3 _, mem_blk _ i (by dsimp only; omega) (by dsimp only; omega) (by dsimp only; omega)⟩

/-- The result array after the run. -/
theorem final (c : Dev nD) : (dats m 0 c).arrAt 3 cfg0.N = outArr m c :=
  (dats m 0 c).arrAt_eq_of_cover 3 (outArr m c) (fun t _ => flushed_eq m c t) cover

end Cert.Proof.ModKernel

end
-- ==== Proof.ModClaim.lean ====
/-
  The modulation call: the reference read at one element, and the kernel's result array and the reference's as the same
  function of the arguments.
-/
module

public import proofs.«01_k».proof.Defs
public import proofs.«01_k».proof.Proof.ModKernel
public import proofs.«01_k».proof.Proof.Gen.Reference5Ideal.Read
public import proofs.«01_k».proof.Proof.Gen.Reference5Ideal.Run
public import proofs.«01_k».proof.Proof.Gen.Kernel5Ideal.Value
public import proofs.«01_k».proof.Proof.Gen.Kernel5Ideal
public import proofs.«01_k».proof.Proof.Gen.Reference5Ideal

@[expose] public section

noncomputable section

namespace Cert.Proof

open Idealize.ShloMosaic Idealize.ShloMosaic.ValueIdx Idealize.ShloMosaic.TcCoe Idealize.SL.Sem

section Reference
open Cert.Reference5Ideal Cert.Reference5Ideal.Read Cert.Ffn

variable (x0 : S16x1024.Idx → EReal) (x1 : S8x1024.Idx → EReal) (x2 : S4x1024x9216.Idx → EReal) (x3 : S4x9216.Idx → EReal)

/-- The SiLU of the joined rows. -/
theorem mod_silu_apply (r : Fin 24) (k : Fin 1024) :
    val_main_v1 (F := Ideal) x0 x1 (ix2 r k) = silu (ModKernel.rows x0 x1 (ix2 r k)) := by
  rw [val_main_v1_apply, val_main_call0_v5_apply, val_main_call0_v3_apply, val_main_call0_v1_apply, val_main_call0_v0_apply]
  rfl

/-- The reference at layer `l`, row `r` and column `j`. -/
theorem mod_reference_apply (l : Fin 4) (r : Fin 24) (j : Fin 9216) :
    val_main_v6 (F := Ideal) x0 x1 x2 x3 (ix3 l r j) = ModKernel.out (ModKernel.rows x0 x1) x2 x3 l r j := by
  have e : idx_main_v4 (idx_main_v5 (ix3 l r j)) = ix2 l j := funext fun a => by match a with | ⟨0, _⟩ => rfl | ⟨1, _⟩ => rfl
  rw [val_main_v6_apply, val_main_v3_apply, val_main_v2_apply, val_main_v5_apply, val_main_v4_apply, e]
  refine congrArg (· + x3 (ix2 l j)) (Finset.sum_congr rfl fun k _ => ?_)
  have er : ridx_main_v2 (idx_main_v3 (ix3 l r j)) k = ix2 r k := funext fun a => by match a with | ⟨0, _⟩ => rfl | ⟨1, _⟩ => rfl
  have el : lidx_main_v2 (idx_main_v3 (ix3 l r j)) k = ix3 l k j :=
    funext fun a => by match a with | ⟨0, _⟩ => rfl | ⟨1, _⟩ => rfl | ⟨2, _⟩ => rfl
  rw [er, el, mod_silu_apply]
  exact mul_comm _ _

end Reference

/-- Over the ideal numbers the kernel's result and the reference's are one array, and both leave their arguments as
    they were. -/
theorem mod_algebraic : Cert.algebraic_Kernel5Ideal_Reference5Ideal
    (hKernel5Ideal := Cert.Kernel5Ideal.Gen.facts) (hReference5Ideal := Cert.Reference5Ideal.Gen.facts) := by
  intro m ρ m' ρ' _ hag
  refine ⟨fun c => ModKernel.outArr m c, ?_, ?_⟩
  · exact (θ_run _ _ _).mono (fun _ h c => ⟨(h c).1.trans (ModKernel.final m c), (h c).2⟩)
      (Cert.Kernel5Ideal.Value.run_blocks m ρ)
  · refine (θ_run _ _ _).mono (fun _ h c => ⟨(h c).1.trans ?_, (h c).2⟩) (Cert.Reference5Ideal.Value.run m' ρ')
    obtain ⟨h0, h1, h2, h3⟩ := hag c
    rw [Cert.Reference5Ideal.Read.val_main_v6_eq, h0, h1, h2, h3]
    funext i
    obtain ⟨l, r, j, rfl⟩ : ∃ (l : Fin 4) (r : Fin 24) (j : Fin 9216), i = ix3 l r j :=
      ⟨i 0, i 1, i 2, funext fun a => by match a with | ⟨0, _⟩ => rfl | ⟨1, _⟩ => rfl | ⟨2, _⟩ => rfl⟩
    exact mod_reference_apply _ _ _ _ l r j

end Cert.Proof

end
-- ==== Proof.lean ====
/-
  The proof of the certificate's claim: five calls of the layer, one of them at the shapes of both batches, each with its kernel as printed, the kernel over the
  ideal numbers, and its reference. The neighbourhood attention comes first (Proof/NaClaim.lean), then the two
  feed-forward calls (Proof/FfnClaim.lean, Proof/MixClaim.lean, and Proof/SampleClaim.lean for the samples), the input projection (Proof/ProjClaim.lean) and the modulation
  (Proof/ModClaim.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.NaClaim
public import proofs.«01_k».proof.Proof.FfnClaim
public import proofs.«01_k».proof.Proof.MixClaim
public import proofs.«01_k».proof.Proof.SampleClaim
public import proofs.«01_k».proof.Proof.ProjClaim
public import proofs.«01_k».proof.Proof.ModClaim
public import Idealize.ShloMosaic.Adequacy
public import Idealize.ShloMosaic.Init
public import Idealize.ShloMosaic.Lib.Quiescent
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Proof

open Idealize.ShloMosaic Idealize.SL.Sem

/-- The neighbourhood attention's reference ends with its arguments unchanged and no counter raised. -/
theorem na_reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The first feed-forward reference ends with its arguments unchanged and no counter raised. -/
theorem ffn_reference_frame : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The mixing feed-forward reference ends with its arguments unchanged and no counter raised. -/
theorem mix_reference_frame : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The projection's reference ends with its arguments unchanged and no counter raised. -/
theorem proj_reference_frame : Cert.quiescent_Reference4Ideal (hReference4Ideal := Cert.Reference4Ideal.Gen.facts) := fun m ρ _ =>
  (θ_run Cert.Reference4Ideal.defs _ _).mono
    (fun r h => ⟨fun c => (h c).2.2.2.2.2.2.2.2.2.2.2.2, sem_eq_zero_of_no_sems (by decide) r.2⟩)
    (Cert.Reference4Ideal.Value.run (F := Ideal) m ρ)

/-- The modulation's reference ends with its arguments unchanged and no counter raised. -/
theorem mod_reference_frame : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The mixing reference at the samples' shapes ends with its arguments unchanged and no counter raised. -/
theorem sample_reference_frame : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    na_reference_frame, fun m ρ _ => na_reference_frame m ρ trivial,
    fun m ρ _ => Cert.Kernel2.Gen.frame m ρ, fun m ρ _ => Cert.Kernel2Ideal.Gen.frame m ρ, ffn_reference_frame,
    fun m ρ _ => Cert.Kernel3.Gen.frame m ρ, fun m ρ _ => Cert.Kernel3Ideal.Gen.frame m ρ, mix_reference_frame,
    fun m ρ _ => Cert.Kernel4.Gen.frame m ρ, fun m ρ _ => Cert.Kernel4Ideal.Gen.frame m ρ, proj_reference_frame,
    fun m ρ _ => Cert.Kernel5.Gen.frame m ρ, fun m ρ _ => Cert.Kernel5Ideal.Gen.frame m ρ, mod_reference_frame,
    fun m ρ _ => Cert.Kernel6.Gen.frame m ρ, fun m ρ _ => Cert.Kernel6Ideal.Gen.frame m ρ, sample_reference_frame,
    ⟨IdealRules.named_const.statement Cert.KernelIdeal.κ "scale" .f32 _ _ rfl, IdealRules.named_const.statement Cert.KernelIdeal.κ "log2e" .f32 _ _ rfl⟩,
    na_algebraic (hPre := Cert.Pre_finite_inputs.Gen.facts), trivial, ffn_algebraic, trivial, mix_algebraic,
    IdealRules.named_const.statement Cert.Kernel4Ideal.κ "log2e" .f32 _ _ rfl, proj_algebraic, trivial, mod_algebraic, trivial, sample_algebraic⟩

end Cert.Proof

end
